-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)) (v5 : (c : Dev Cert.KernelIdeal.nD) → Buf (Elt Ideal) ((c.tc : Thread Cert.KernelIdeal.nD Cert.KernelIdeal.τ).loc Cert.KernelIdeal.main_v40_5)) (v6 : (c : Dev Cert.KernelIdeal.nD) → Buf (Elt Ideal) ((c.tc : Thread Cert.KernelIdeal.nD Cert.KernelIdeal.τ).loc Cert.KernelIdeal.main_v40_6)) (v7 : (c : Dev Cert.KernelIdeal.nD) → Buf (Elt Ideal) ((c.tc : Thread Cert.KernelIdeal.nD Cert.KernelIdeal.τ).loc Cert.KernelIdeal.main_v40_7)) (v8 : (c : Dev Cert.KernelIdeal.nD) → Buf (Elt Ideal) ((c.tc : Thread Cert.KernelIdeal.nD Cert.KernelIdeal.τ).loc Cert.KernelIdeal.main_v40_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_v40_5) = v5 c
          ∧ r.2.mem ((c.tc : Thread Cert.KernelIdeal.nD Cert.KernelIdeal.τ).loc Cert.KernelIdeal.main_v40_6) = v6 c
          ∧ r.2.mem ((c.tc : Thread Cert.KernelIdeal.nD Cert.KernelIdeal.τ).loc Cert.KernelIdeal.main_v40_7) = v7 c
          ∧ r.2.mem ((c.tc : Thread Cert.KernelIdeal.nD Cert.KernelIdeal.τ).loc Cert.KernelIdeal.main_v40_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v118) = v4 c
          ∧ r.2.mem ((c.tc : Thread Cert.ReferenceIdeal.nD Cert.ReferenceIdeal.τ).loc Cert.ReferenceIdeal.main_v119) = v5 c
          ∧ r.2.mem ((c.tc : Thread Cert.ReferenceIdeal.nD Cert.ReferenceIdeal.τ).loc Cert.ReferenceIdeal.main_v120) = v6 c
          ∧ r.2.mem ((c.tc : Thread Cert.ReferenceIdeal.nD Cert.ReferenceIdeal.τ).loc Cert.ReferenceIdeal.main_v121) = v7 c
          ∧ r.2.mem ((c.tc : Thread Cert.ReferenceIdeal.nD Cert.ReferenceIdeal.τ).loc Cert.ReferenceIdeal.main_v124) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v0) = v1 c
          ∧ r.2.mem ((c.tc : Thread Cert.Reference7Ideal.nD Cert.Reference7Ideal.τ).loc Cert.Reference7Ideal.main_v1) = v2 c
          ∧ r.2.mem ((c.tc : Thread Cert.Reference7Ideal.nD Cert.Reference7Ideal.τ).loc Cert.Reference7Ideal.main_v19) = v3 c
          ∧ r.2.mem ((c.tc : Thread Cert.Reference7Ideal.nD Cert.Reference7Ideal.τ).loc Cert.Reference7Ideal.main_v34) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)) (v3 : (c : Dev Cert.Kernel8Ideal.nD) → Buf (Elt Ideal) ((c.tc : Thread Cert.Kernel8Ideal.nD Cert.Kernel8Ideal.τ).loc Cert.Kernel8Ideal.main_v8_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_v8_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_v14) = v2 c
          ∧ r.2.mem ((c.tc : Thread Cert.Reference8Ideal.nD Cert.Reference8Ideal.τ).loc Cert.Reference8Ideal.main_v56) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S8192x1280 : Shape := ⟨2, ![8192, 1280]⟩
abbrev S8192x512 : Shape := ⟨2, ![8192, 512]⟩
abbrev S8192x2048 : Shape := ⟨2, ![8192, 2048]⟩
abbrev S8192x1024 : Shape := ⟨2, ![8192, 1024]⟩
abbrev S1280x1024 : Shape := ⟨2, ![1280, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x512x256 : Shape := ⟨3, ![4, 512, 256]⟩
abbrev S256x1024 : Shape := ⟨2, ![256, 1024]⟩
abbrev S256x2048 : Shape := ⟨2, ![256, 2048]⟩
abbrev S256x1280 : Shape := ⟨2, ![256, 1280]⟩
abbrev S256x512 : Shape := ⟨2, ![256, 512]⟩
abbrev S256 : Shape := ⟨1, ![256]⟩
abbrev S256x1 : Shape := ⟨2, ![256, 1]⟩
abbrev S512x256 : Shape := ⟨2, ![512, 256]⟩
abbrev S1x512x256 : Shape := ⟨3, ![1, 512, 256]⟩

abbrev nBuf : Space → Nat
  | .hbm => 67
  | .vmem => 41
  | .smem => 0
  | _ => 0

abbrev bufTy : (tb : Table) → Fin (tcTables nBuf tb) → BufTy
  | .hbm, ⟨0, _⟩ => ⟨S8192x1280, .f32⟩
  | .hbm, ⟨1, _⟩ => ⟨S8192x512, .f32⟩
  | .hbm, ⟨2, _⟩ => ⟨S8192x2048, .f32⟩
  | .hbm, ⟨3, _⟩ => ⟨S8192x1024, .f32⟩
  | .hbm, ⟨4, _⟩ => ⟨S1280x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S1x1024, .f32⟩
  | .hbm, ⟨54, _⟩ => ⟨S1024x1024, .bf16⟩
  | .hbm, ⟨55, _⟩ => ⟨S1280x1024, .bf16⟩
  | .hbm, ⟨56, _⟩ => ⟨S512x1024, .bf16⟩
  | .hbm, ⟨57, _⟩ => ⟨S8192x1024, .bf16⟩
  | .hbm, ⟨58, _⟩ => ⟨S8192x1024, .f32⟩
  | .hbm, ⟨59, _⟩ => ⟨S8192x2048, .bf16⟩
  | .hbm, ⟨60, _⟩ => ⟨S8192x1280, .f32⟩
  | .hbm, ⟨61, _⟩ => ⟨S8192x512, .f32⟩
  | .hbm, ⟨62, _⟩ => ⟨S1x1024, .f32⟩
  | .hbm, ⟨63, _⟩ => ⟨S1x1024, .f32⟩
  | .hbm, ⟨64, _⟩ => ⟨S1024x1024, .bf16⟩
  | .hbm, ⟨65, _⟩ => ⟨S1280x1024, .bf16⟩
  | .hbm, ⟨66, _⟩ => ⟨S4x512x256, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1024x1024, .bf16⟩
  | .local _ .vmem, ⟨11, _⟩ => ⟨S256x2048, .f32⟩
  | .local _ .vmem, ⟨12, _⟩ => ⟨S256x2048, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1280x1024, .bf16⟩
  | .local _ .vmem, ⟨18, _⟩ => ⟨S512x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1280, .f32⟩
  | .local _ .vmem, ⟨22, _⟩ => ⟨S256x1280, .f32⟩
  | .local _ .vmem, ⟨23, _⟩ => ⟨S256x512, .f32⟩
  | .local _ .vmem, ⟨24, _⟩ => ⟨S256x512, .f32⟩
  | .local _ .vmem, ⟨25, _⟩ => ⟨S256x1024, .f32⟩
  | .local _ .vmem, ⟨26, _⟩ => ⟨S256x1024, .f32⟩
  | .local _ .vmem, ⟨27, _⟩ => ⟨S256x2048, .bf16⟩
  | .local _ .vmem, ⟨28, _⟩ => ⟨S256x2048, .bf16⟩
  | .local _ .vmem, ⟨29, _⟩ => ⟨S256x1280, .f32⟩
  | .local _ .vmem, ⟨30, _⟩ => ⟨S256x1280, .f32⟩
  | .local _ .vmem, ⟨31, _⟩ => ⟨S256x512, .f32⟩
  | .local _ .vmem, ⟨32, _⟩ => ⟨S256x512, .f32⟩
  | .local _ .vmem, ⟨33, _⟩ => ⟨S1x1024, .f32⟩
  | .local _ .vmem, ⟨34, _⟩ => ⟨S1x1024, .f32⟩
  | .local _ .vmem, ⟨35, _⟩ => ⟨S1024x1024, .bf16⟩
  | .local _ .vmem, ⟨36, _⟩ => ⟨S1280x1024, .bf16⟩
  | .local _ .vmem, ⟨37, _⟩ => ⟨S4x512x256, .bf16⟩
  | .local _ .vmem, ⟨38, _⟩ => ⟨S1024x1024, .f32⟩
  | .local _ .vmem, ⟨39, _⟩ => ⟨S1280x1024, .f32⟩
  | .local _ .vmem, ⟨40, _⟩ => ⟨S512x1024, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev main_v40_2 : Ref sig .tc := ⟨.hbm, 60, rfl⟩
abbrev main_v40_3 : Ref sig .tc := ⟨.hbm, 61, rfl⟩
abbrev main_v40_4 : Ref sig .tc := ⟨.hbm, 62, rfl⟩
abbrev main_v40_5 : Ref sig .tc := ⟨.hbm, 63, rfl⟩
abbrev main_v40_6 : Ref sig .tc := ⟨.hbm, 64, rfl⟩
abbrev main_v40_7 : Ref sig .tc := ⟨.hbm, 65, rfl⟩
abbrev main_v40_8 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v154 : BitVec 1 := Scalar.cmpi .eq arg0 c31_i32
  let v155 : BitVec 32 := Scalar.extui v154
  let c0_i32_84 : BitVec 32 := 0#32
  let v156 : BitVec 1 := Scalar.cmpi .ne v155 c0_i32_84
  v156

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1280 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1280x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x512x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== ReferenceIdeal.lean ====
abbrev S8192x1280 : Shape := ⟨2, ![8192, 1280]⟩
abbrev S8192x512 : Shape := ⟨2, ![8192, 512]⟩
abbrev S8192x2048 : Shape := ⟨2, ![8192, 2048]⟩
abbrev S8192x1024 : Shape := ⟨2, ![8192, 1024]⟩
abbrev S1280x1024 : Shape := ⟨2, ![1280, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x512 : Shape := ⟨2, ![1024, 512]⟩
abbrev S1024x1280 : Shape := ⟨2, ![1024, 1280]⟩
abbrev S512x4x256 : Shape := ⟨3, ![512, 4, 256]⟩
abbrev S4x512x256 : Shape := ⟨3, ![4, 512, 256]⟩

abbrev nBuf : Space → Nat
  | .hbm => 160
  | .vmem => 0
  | .smem => 0
  | _ => 0

abbrev hbmTy0_0 (i : Nat) : BufTy := match i % 128 with
  | 0 => ⟨S8192x1280, .f32⟩
  | 1 => ⟨S8192x512, .f32⟩
  | 2 => ⟨S8192x2048, .f32⟩
  | 3 => ⟨S8192x1024, .f32⟩
  | 4 => ⟨S1280x1024, .f32⟩
  | 5 => ⟨S512x1024, .f32⟩
  | 6 => ⟨S1024x1024, .f32⟩
  | 7 => ⟨S1024, .f32⟩
  | 8 => ⟨S1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S_, .f32⟩
  | 91 => ⟨S1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1024, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1280, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S1024x1024, .f32⟩
  | 9 => ⟨S1024x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S1024x512, .f32⟩
  | 18 => ⟨S512x1024, .f32⟩
  | 19 => ⟨S8192x512, .f32⟩
  | 20 => ⟨S1024x1280, .f32⟩
  | 21 => ⟨S1280x1024, .f32⟩
  | 22 => ⟨S8192x1280, .f32⟩
  | 23 => ⟨S8192x2048, .f32⟩
  | 24 => ⟨S8192x2048, .bf16⟩
  | 25 => ⟨S1x1024, .f32⟩
  | 26 => ⟨S1x1024, .f32⟩
  | 27 => ⟨S1024x1024, .bf16⟩
  | 28 => ⟨S1280x1024, .bf16⟩
  | 29 => ⟨S512x4x256, .f32⟩
  | 30 => ⟨S4x512x256, .f32⟩
  | 31 => ⟨S4x512x256, .bf16⟩
  | _ => ⟨S8192x1280, .f32⟩

abbrev hbmTy (i : Nat) : BufTy := match i / 128 with
  | 0 => hbmTy0_0 i
  | 1 => hbmTy0_1 i
  | _ => ⟨S8192x1280, .f32⟩

abbrev bufTy : (tb : Table) → Fin (tcTables nBuf tb) → BufTy
  | .hbm, ⟨i, _⟩ => hbmTy i
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_v94 : Ref sig .tc := ⟨.hbm, 128, rfl⟩
abbrev main_cst_22 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩

abbrev nD : Nat := 1
abbrev τ : Topo := Topo.v7x

variable {F : FTy → Type} [FloatOps F]
-- ==== Kernel2.lean ====
abbrev S8192x3072 : Shape := ⟨2, ![8192, 3072]⟩
abbrev S3072x1024 : Shape := ⟨2, ![3072, 1024]⟩
abbrev S1024 : Shape := ⟨1, ![1024]⟩
abbrev S8192x1024 : Shape := ⟨2, ![8192, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x3072, .bf16⟩
  | .hbm, ⟨6, _⟩ => ⟨S3072x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x3072, .f32⟩
  | .hbm, ⟨11, _⟩ => ⟨S1x1024, .f32⟩
  | .hbm, ⟨12, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x3072, .f32⟩
  | .local _ .vmem, ⟨13, _⟩ => ⟨S512x3072, .f32⟩
  | .local _ .vmem, ⟨14, _⟩ => ⟨S1x1024, .f32⟩
  | .local _ .vmem, ⟨15, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x3072 : Shape := ⟨2, ![8192, 3072]⟩
abbrev S3072x1024 : Shape := ⟨2, ![3072, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S8192x3072, .f32⟩
  | .hbm, ⟨77, _⟩ => ⟨S1x1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S1x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S1x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_19 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Kernel3.lean ====
abbrev S8192x3072 : Shape := ⟨2, ![8192, 3072]⟩
abbrev S8192x1024 : Shape := ⟨2, ![8192, 1024]⟩
abbrev S1x3072x1024 : Shape := ⟨3, ![1, 3072, 1024]⟩
abbrev S1024x3072 : Shape := ⟨2, ![1024, 3072]⟩
abbrev S1024x1024 : Shape := ⟨2, ![1024, 1024]⟩
abbrev S3072x1024 : Shape := ⟨2, ![3072, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S8192x1024, .bf16⟩
  | .hbm, ⟨4, _⟩ => ⟨S1x3072x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S1x3072x1024, .bf16⟩
  | .local _ .vmem, ⟨5, _⟩ => ⟨S3072x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩
abbrev S1x3072x1024 : Shape := ⟨3, ![1, 3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S3072x1024, .f32⟩
  | .hbm, ⟨7, _⟩ => ⟨S1x3072x1024, .f32⟩
  | .hbm, ⟨8, _⟩ => ⟨S1x3072x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x3072 : Shape := ⟨2, ![8192, 3072]⟩
abbrev S4x1024x768 : Shape := ⟨3, ![4, 1024, 768]⟩
abbrev S1024x1024 : Shape := ⟨2, ![1024, 1024]⟩
abbrev S1024x3072 : Shape := ⟨2, ![1024, 3072]⟩
abbrev S1024x768 : Shape := ⟨2, ![1024, 768]⟩
abbrev S1x1024x768 : Shape := ⟨3, ![1, 1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S4x1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S4x1024x768, .bf16⟩
  | .local _ .vmem, ⟨5, _⟩ => ⟨S1024x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | .hbm, ⟨7, _⟩ => ⟨S1024x4x768, .f32⟩
  | .hbm, ⟨8, _⟩ => ⟨S4x1024x768, .f32⟩
  | .hbm, ⟨9, _⟩ => ⟨S4x1024x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1280 : Shape := ⟨2, ![8192, 1280]⟩
abbrev S8192x512 : Shape := ⟨2, ![8192, 512]⟩
abbrev S8192x2048 : Shape := ⟨2, ![8192, 2048]⟩
abbrev S1024x5888 : Shape := ⟨2, ![1024, 5888]⟩
abbrev S8192x1024 : Shape := ⟨2, ![8192, 1024]⟩
abbrev S1024 : Shape := ⟨1, ![1024]⟩
abbrev S1x1024 : Shape := ⟨2, ![1, 1024]⟩
abbrev S512x1280 : Shape := ⟨2, ![512, 1280]⟩
abbrev S512x512 : Shape := ⟨2, ![512, 512]⟩
abbrev S512x2048 : Shape := ⟨2, ![512, 2048]⟩
abbrev S512x1024 : Shape := ⟨2, ![512, 1024]⟩
abbrev S1024x1280 : Shape := ⟨2, ![1024, 1280]⟩
abbrev S1024x512 : Shape := ⟨2, ![1024, 512]⟩
abbrev S1024x2048 : Shape := ⟨2, ![1024, 2048]⟩
abbrev S512 : Shape := ⟨1, ![512]⟩
abbrev S512x1 : Shape := ⟨2, ![512, 1]⟩

abbrev nBuf : Space → Nat
  | .hbm => 22
  | .vmem => 23
  | .smem => 0
  | _ => 0

abbrev bufTy : (tb : Table) → Fin (tcTables nBuf tb) → BufTy
  | .hbm, ⟨0, _⟩ => ⟨S8192x1280, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x2048, .f32⟩
  | .hbm, ⟨7, _⟩ => ⟨S1024x5888, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S8192x1280, .bf16⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .bf16⟩
  | .hbm, ⟨16, _⟩ => ⟨S8192x512, .bf16⟩
  | .hbm, ⟨17, _⟩ => ⟨S8192x2048, .bf16⟩
  | .hbm, ⟨18, _⟩ => ⟨S1024x5888, .bf16⟩
  | .hbm, ⟨19, _⟩ => ⟨S1x1024, .f32⟩
  | .hbm, ⟨20, _⟩ => ⟨S8192x1024, .f32⟩
  | .hbm, ⟨21, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S1024x5888, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5888 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S8192x1280 : Shape := ⟨2, ![8192, 1280]⟩
abbrev S8192x512 : Shape := ⟨2, ![8192, 512]⟩
abbrev S8192x2048 : Shape := ⟨2, ![8192, 2048]⟩
abbrev S1024x5888 : Shape := ⟨2, ![1024, 5888]⟩
abbrev S8192x1024 : Shape := ⟨2, ![8192, 1024]⟩
abbrev S1024 : Shape := ⟨1, ![1024]⟩
abbrev S8192x5888 : Shape := ⟨2, ![8192, 5888]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x2048, .f32⟩
  | .hbm, ⟨7, _⟩ => ⟨S1024x5888, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S8192x5888, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5888, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x5888 : Shape := ⟨2, ![1024, 5888]⟩
abbrev S1x1024 : Shape := ⟨2, ![1, 1024]⟩
abbrev S8192x1280 : Shape := ⟨2, ![8192, 1280]⟩
abbrev S8192x2560 : Shape := ⟨2, ![8192, 2560]⟩
abbrev S8192x2048 : Shape := ⟨2, ![8192, 2048]⟩
abbrev S512x1024 : Shape := ⟨2, ![512, 1024]⟩
abbrev S512x1280 : Shape := ⟨2, ![512, 1280]⟩
abbrev S512x2560 : Shape := ⟨2, ![512, 2560]⟩
abbrev S512x2048 : Shape := ⟨2, ![512, 2048]⟩
abbrev S512 : Shape := ⟨1, ![512]⟩
abbrev S512x1 : Shape := ⟨2, ![512, 1]⟩
abbrev S1024x1280 : Shape := ⟨2, ![1024, 1280]⟩
abbrev S1024x2560 : Shape := ⟨2, ![1024, 2560]⟩
abbrev S1024x2048 : Shape := ⟨2, ![1024, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5888, .f32⟩
  | .hbm, ⟨3, _⟩ => ⟨S1x1024, .f32⟩
  | .hbm, ⟨4, _⟩ => ⟨S1024x5888, .bf16⟩
  | .hbm, ⟨5, _⟩ => ⟨S8192x1024, .bf16⟩
  | .hbm, ⟨6, _⟩ => ⟨S8192x1280, .f32⟩
  | .hbm, ⟨7, _⟩ => ⟨S8192x2560, .f32⟩
  | .hbm, ⟨8, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5888, .bf16⟩
  | .local _ .vmem, ⟨4, _⟩ => ⟨S512x1024, .bf16⟩
  | .local _ .vmem, ⟨5, _⟩ => ⟨S512x1024, .bf16⟩
  | .local _ .vmem, ⟨6, _⟩ => ⟨S512x1280, .f32⟩
  | .local _ .vmem, ⟨7, _⟩ => ⟨S512x1280, .f32⟩
  | .local _ .vmem, ⟨8, _⟩ => ⟨S512x2560, .f32⟩
  | .local _ .vmem, ⟨9, _⟩ => ⟨S512x2560, .f32⟩
  | .local _ .vmem, ⟨10, _⟩ => ⟨S512x2048, .f32⟩
  | .local _ .vmem, ⟨11, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x1024 : Shape := ⟨2, ![8192, 1024]⟩
abbrev S1024 : Shape := ⟨1, ![1024]⟩
abbrev S1024x5888 : Shape := ⟨2, ![1024, 5888]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5888 : Shape := ⟨2, ![8192, 5888]⟩
abbrev S8192x1280 : Shape := ⟨2, ![8192, 1280]⟩
abbrev S8192x2560 : Shape := ⟨2, ![8192, 2560]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5888, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x5888, .f32⟩
  | .hbm, ⟨21, _⟩ => ⟨S8192x1280, .f32⟩
  | .hbm, ⟨22, _⟩ => ⟨S8192x2560, .f32⟩
  | .hbm, ⟨23, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S8192x1280 : Shape := ⟨2, ![8192, 1280]⟩
abbrev S8192x512 : Shape := ⟨2, ![8192, 512]⟩
abbrev S8192x2048 : Shape := ⟨2, ![8192, 2048]⟩
abbrev S1280x1024 : Shape := ⟨2, ![1280, 1024]⟩
abbrev S512x1024 : Shape := ⟨2, ![512, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1280 : Shape := ⟨2, ![512, 1280]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 22
  | .smem => 0
  | _ => 0

abbrev bufTy : (tb : Table) → Fin (tcTables nBuf tb) → BufTy
  | .hbm, ⟨0, _⟩ => ⟨S8192x1280, .f32⟩
  | .hbm, ⟨1, _⟩ => ⟨S8192x512, .f32⟩
  | .hbm, ⟨2, _⟩ => ⟨S8192x2048, .f32⟩
  | .hbm, ⟨3, _⟩ => ⟨S1280x1024, .f32⟩
  | .hbm, ⟨4, _⟩ => ⟨S512x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1280x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S8192x1024, .bf16⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .local _ .vmem, ⟨0, _⟩ => ⟨S512x1280, .f32⟩
  | .local _ .vmem, ⟨1, _⟩ => ⟨S512x1280, .f32⟩
  | .local _ .vmem, ⟨2, _⟩ => ⟨S512x512, .f32⟩
  | .local _ .vmem, ⟨3, _⟩ => ⟨S512x512, .f32⟩
  | .local _ .vmem, ⟨4, _⟩ => ⟨S512x2048, .f32⟩
  | .local _ .vmem, ⟨5, _⟩ => ⟨S512x2048, .f32⟩
  | .local _ .vmem, ⟨6, _⟩ => ⟨S1280x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S8192x1280 : Shape := ⟨2, ![8192, 1280]⟩
abbrev S8192x512 : Shape := ⟨2, ![8192, 512]⟩
abbrev S8192x2048 : Shape := ⟨2, ![8192, 2048]⟩
abbrev S1280x1024 : Shape := ⟨2, ![1280, 1024]⟩
abbrev S512x1024 : Shape := ⟨2, ![512, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x512, .f32⟩
  | .hbm, ⟨2, _⟩ => ⟨S8192x2048, .f32⟩
  | .hbm, ⟨3, _⟩ => ⟨S1280x1024, .f32⟩
  | .hbm, ⟨4, _⟩ => ⟨S512x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x3072 : Shape := ⟨2, ![1024, 3072]⟩
abbrev S3x3072 : Shape := ⟨2, ![3, 3072]⟩
abbrev S3072 : Shape := ⟨1, ![3072]⟩
abbrev S1024x4x768 : Shape := ⟨3, ![1024, 4, 768]⟩
abbrev S4x1024x768 : Shape := ⟨3, ![4, 1024, 768]⟩
abbrev S1x1024 : Shape := ⟨2, ![1, 1024]⟩
abbrev S1x3072 : Shape := ⟨2, ![1, 3072]⟩
abbrev S8192x3072 : Shape := ⟨2, ![8192, 3072]⟩
abbrev S256x1024 : Shape := ⟨2, ![256, 1024]⟩
abbrev S256x3072 : Shape := ⟨2, ![256, 3072]⟩
abbrev S8x3072 : Shape := ⟨2, ![8, 3072]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S8x1 : Shape := ⟨2, ![8, 1]⟩
abbrev S248x3072 : Shape := ⟨2, ![248, 3072]⟩

abbrev nBuf : Space → Nat
  | .hbm => 18
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .f32⟩
  | .hbm, ⟨4, _⟩ => ⟨S3x3072, .f32⟩
  | .hbm, ⟨5, _⟩ => ⟨S3072, .f32⟩
  | .hbm, ⟨6, _⟩ => ⟨S1024x4x768, .f32⟩
  | .hbm, ⟨7, _⟩ => ⟨S4x1024x768, .f32⟩
  | .hbm, ⟨8, _⟩ => ⟨S4x1024x768, .bf16⟩
  | .hbm, ⟨9, _⟩ => ⟨S1024x4x768, .f32⟩
  | .hbm, ⟨10, _⟩ => ⟨S4x1024x768, .f32⟩
  | .hbm, ⟨11, _⟩ => ⟨S4x1024x768, .bf16⟩
  | .hbm, ⟨12, _⟩ => ⟨S1x1024, .f32⟩
  | .hbm, ⟨13, _⟩ => ⟨S1x3072, .f32⟩
  | .hbm, ⟨14, _⟩ => ⟨S8192x1024, .bf16⟩
  | .hbm, ⟨15, _⟩ => ⟨S8192x3072, .f32⟩
  | .hbm, ⟨16, _⟩ => ⟨S8192x3072, .f32⟩
  | .hbm, ⟨17, _⟩ => ⟨S8192x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x768, .bf16⟩
  | .local _ .vmem, ⟨4, _⟩ => ⟨S4x1024x768, .bf16⟩
  | .local _ .vmem, ⟨5, _⟩ => ⟨S3x3072, .f32⟩
  | .local _ .vmem, ⟨6, _⟩ => ⟨S1x3072, .f32⟩
  | .local _ .vmem, ⟨7, _⟩ => ⟨S256x1024, .bf16⟩
  | .local _ .vmem, ⟨8, _⟩ => ⟨S256x1024, .bf16⟩
  | .local _ .vmem, ⟨9, _⟩ => ⟨S256x3072, .f32⟩
  | .local _ .vmem, ⟨10, _⟩ => ⟨S256x3072, .f32⟩
  | .local _ .vmem, ⟨11, _⟩ => ⟨S256x3072, .f32⟩
  | .local _ .vmem, ⟨12, _⟩ => ⟨S256x3072, .f32⟩
  | .local _ .vmem, ⟨13, _⟩ => ⟨S256x3072, .bf16⟩
  | .local _ .vmem, ⟨14, _⟩ => ⟨S256x3072, .bf16⟩
  | .local _ .vmem, ⟨15, _⟩ => ⟨S8x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S8192x1024 : Shape := ⟨2, ![8192, 1024]⟩
abbrev S1024 : Shape := ⟨1, ![1024]⟩
abbrev S1024x3072 : Shape := ⟨2, ![1024, 3072]⟩
abbrev S3x3072 : Shape := ⟨2, ![3, 3072]⟩
abbrev S3072 : Shape := ⟨1, ![3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S4x2048x3072 : Shape := ⟨3, ![4, 2048, 3072]⟩
abbrev S4x2050x3072 : Shape := ⟨3, ![4, 2050, 3072]⟩
abbrev S1x3072 : Shape := ⟨2, ![1, 3072]⟩
abbrev S1x1x3072 : Shape := ⟨3, ![1, 1, 3072]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .f32⟩
  | .hbm, ⟨4, _⟩ => ⟨S3x3072, .f32⟩
  | .hbm, ⟨5, _⟩ => ⟨S3072, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x3072, .f32⟩
  | .hbm, ⟨23, _⟩ => ⟨S8192x3072, .f32⟩
  | .hbm, ⟨24, _⟩ => ⟨S4x2048x3072, .f32⟩
  | .hbm, ⟨25, _⟩ => ⟨S_, .i32⟩
  | .hbm, ⟨26, _⟩ => ⟨S_, .f32⟩
  | .hbm, ⟨27, _⟩ => ⟨S4x2050x3072, .f32⟩
  | .hbm, ⟨28, _⟩ => ⟨S1x3072, .f32⟩
  | .hbm, ⟨29, _⟩ => ⟨S3072, .f32⟩
  | .hbm, ⟨30, _⟩ => ⟨S4x2048x3072, .f32⟩
  | .hbm, ⟨31, _⟩ => ⟨S1x1x3072, .f32⟩
  | .hbm, ⟨32, _⟩ => ⟨S4x2048x3072, .f32⟩
  | .hbm, ⟨33, _⟩ => ⟨S4x2048x3072, .f32⟩
  | .hbm, ⟨34, _⟩ => ⟨S1x3072, .f32⟩
  | .hbm, ⟨35, _⟩ => ⟨S3072, .f32⟩
  | .hbm, ⟨36, _⟩ => ⟨S4x2048x3072, .f32⟩
  | .hbm, ⟨37, _⟩ => ⟨S1x1x3072, .f32⟩
  | .hbm, ⟨38, _⟩ => ⟨S4x2048x3072, .f32⟩
  | .hbm, ⟨39, _⟩ => ⟨S4x2048x3072, .f32⟩
  | .hbm, ⟨40, _⟩ => ⟨S4x2048x3072, .f32⟩
  | .hbm, ⟨41, _⟩ => ⟨S1x3072, .f32⟩
  | .hbm, ⟨42, _⟩ => ⟨S3072, .f32⟩
  | .hbm, ⟨43, _⟩ => ⟨S4x2048x3072, .f32⟩
  | .hbm, ⟨44, _⟩ => ⟨S1x1x3072, .f32⟩
  | .hbm, ⟨45, _⟩ => ⟨S4x2048x3072, .f32⟩
  | .hbm, ⟨46, _⟩ => ⟨S4x2048x3072, .f32⟩
  | .hbm, ⟨47, _⟩ => ⟨S4x2048x3072, .f32⟩
  | .hbm, ⟨48, _⟩ => ⟨S1x1x3072, .f32⟩
  | .hbm, ⟨49, _⟩ => ⟨S4x2048x3072, .f32⟩
  | .hbm, ⟨50, _⟩ => ⟨S4x2048x3072, .f32⟩
  | .hbm, ⟨51, _⟩ => ⟨S8192x3072, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S8192x3072, .f32⟩
  | .hbm, ⟨56, _⟩ => ⟨S8192x3072, .f32⟩
  | .hbm, ⟨57, _⟩ => ⟨S8192x3072, .f32⟩
  | .hbm, ⟨58, _⟩ => ⟨S_, .f32⟩
  | .hbm, ⟨59, _⟩ => ⟨S8192x3072, .f32⟩
  | .hbm, ⟨60, _⟩ => ⟨S8192x3072, .f32⟩
  | .hbm, ⟨61, _⟩ => ⟨S8192x3072, .f32⟩
  | .hbm, ⟨62, _⟩ => ⟨S_, .f32⟩
  | .hbm, ⟨63, _⟩ => ⟨S8192x3072, .f32⟩
  | .hbm, ⟨64, _⟩ => ⟨S8192x3072, .f32⟩
  | .hbm, ⟨65, _⟩ => ⟨S_, .f32⟩
  | .hbm, ⟨66, _⟩ => ⟨S8192x3072, .f32⟩
  | .hbm, ⟨67, _⟩ => ⟨S8192x3072, .f32⟩
  | .hbm, ⟨68, _⟩ => ⟨S8192x3072, .f32⟩
  | .hbm, ⟨69, _⟩ => ⟨S8192x3072, .f32⟩
  | .hbm, ⟨70, _⟩ => ⟨S8192x1024, .bf16⟩
  | .hbm, ⟨71, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Proof.Access.lean ====
module

public import proofs.«01_k».proof.Proof.Gen.KernelIdeal.Frame.Runs
public import Idealize.ShloMosaic.Lib.VecWindow

@[expose] public section

set_option maxRecDepth 16384

noncomputable section

/-! Loads and stores of the kernel body, stated on what a core knows of a buffer: "it is held whole, and it
reads `x`". A whole load hands out `x`; a whole store leaves the payload; a store through a box puts the payload there. -/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) {s : Shape} {e : EltTy} (m : Memref sig .tc .vmem s e) {E : Set ℕ}

/-- A load of the whole buffer hands out what the buffer reads. -/
theorem load_own (x : s.Idx → Elt F e) {off : Fin s.rank → ℕ} {inb : ∀ a, off a + s.size a ≤ s.size a}
    {hl : m.view.LoadsAt (Rect.unit off s.size inb).toLoadRect} {Q : (s.Idx → Elt F e) → sProp 𝕄} :
    iprop(owns (c : Thread nD τ) m fullShare x ∗ (owns (c : Thread nD τ) m fullShare x -∗ Q x))
      ⊢ wp frame (wpE (defs₀ (F := F)) Variants.none c none) E
          (Prog.lift (.load m (Rect.unit off s.size inb).toLoadRect hl)) Q := by
  unfold owns
  iintro ⟨⟨%f, %hf, H⟩, Hk⟩
  iapply (wp_load (defs := defs₀ (F := F)) Variants.none (c : Thread nD τ) none E (Q := Q) (m := m)
    (r := (Rect.unit off s.size inb).toLoadRect) (hl := hl) (k := .ret) (q := fullShare) (f := f) (View.setOn_subset_set _ _)) $$ H
  iintro H
  iapply le_wp_ret
  rw [View.readAt_full, hf]
  iapply Hk
  iexists f
  isplitr
  · ipureintro; exact hf
  iexact H

/-- A load through a box hands out the box of what the buffer reads. -/
theorem load_box (x : s.Idx → Elt F e) {off size : Fin s.rank → ℕ} {inb : ∀ a, off a + size a ≤ s.size a}
    {hl : m.view.LoadsAt (Rect.unit off size inb).toLoadRect} {Q : ((Rect.unit off size inb).shape.Idx → Elt F e) → sProp 𝕄} :
    iprop(owns (c : Thread nD τ) m fullShare x ∗ (owns (c : Thread nD τ) m fullShare x -∗ Q (VecWindow.window x off size inb)))
      ⊢ wp frame (wpE (defs₀ (F := F)) Variants.none c none) E
          (Prog.lift (.load m (Rect.unit off size inb).toLoadRect hl)) Q := by
  unfold owns
  iintro ⟨⟨%f, %hf, H⟩, Hk⟩
  iapply (wp_load (defs := defs₀ (F := F)) Variants.none (c : Thread nD τ) none E (Q := Q) (m := m)
    (r := (Rect.unit off size inb).toLoadRect) (hl := hl) (k := .ret) (q := fullShare) (f := f) (View.setOn_subset_set _ _)) $$ H
  iintro H
  iapply le_wp_ret
  rw [View.readAt_unit m.view f inb rfl inb, hf]
  iapply Hk
  iexists f
  isplitr
  · ipureintro; exact hf
  iexact H

/-- A store through a box leaves the buffer as it was outside the box and the payload inside. -/
theorem store_box (x : s.Idx → Elt F e) {off size : Fin s.rank → ℕ} {inb : ∀ a, off a + size a ≤ s.size a}
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1}
    {Q : PUnit → sProp 𝕄} :
    iprop(owns (c : Thread nD τ) m fullShare x
        ∗ (owns (c : Thread nD τ) m fullShare (VecWindow.put x off size w) -∗ Q ⟨⟩))
      ⊢ wp frame (wpE (defs₀ (F := F)) Variants.none c none) E
          (Prog.lift (.store m (Rect.unit off size inb) w Finset.univ hx hm)) Q := by
  unfold owns
  iintro ⟨⟨%f, %hf, H⟩, Hk⟩
  iapply (wp_store_writes₀ (defs := defs₀ (F := F)) Variants.none (c : Thread nD τ) none E (Q := Q) (m := m)
    (r := Rect.unit off size inb) (w := w) (hx := hx) (hm := hm) (k := .ret) (f := f) (Memref.setOn_access_subset _ _ _)) $$ H
  iintro H
  iapply le_wp_ret
  iapply Hk
  iexists (m.view.writes (Elt F) f [⟨Rect.unit off size inb, w⟩])
  isplitr
  · ipureintro
    rw [View.read_writes_cons_put m.view f inb w [] rfl, View.writes_nil, hf]
  iexact H

/-- A store of the whole buffer leaves the payload. -/
theorem store_own (x : s.Idx → Elt F e) {off : Fin s.rank → ℕ} {inb : ∀ a, off a + s.size a ≤ s.size a}
    {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    {Q : PUnit → sProp 𝕄} :
    iprop(owns (c : Thread nD τ) m fullShare x ∗ (owns (c : Thread nD τ) m fullShare w -∗ Q ⟨⟩))
      ⊢ wp frame (wpE (defs₀ (F := F)) Variants.none c none) E
          (Prog.lift (.store m (Rect.unit off s.size inb) w Finset.univ hx hm)) Q := by
  unfold owns
  iintro ⟨⟨%f, %hf, H⟩, Hk⟩
  iapply (wp_store_writes₀ (defs := defs₀ (F := F)) Variants.none (c : Thread nD τ) none E (Q := Q) (m := m)
    (r := Rect.unit off s.size inb) (w := w) (hx := hx) (hm := hm) (k := .ret) (f := f) (Memref.setOn_access_subset _ _ _)) $$ H
  iintro H
  iapply le_wp_ret
  iapply Hk
  iexists (m.view.writes (Elt F) f [⟨Rect.unit off s.size inb, w⟩])
  isplitr
  · ipureintro
    exact View.read_writes_full m.view f inb w []
  iexact H

end Cert.KernelIdeal.Own

end
-- ==== Proof.Parts.lean ====
module

public import Idealize.ShloMosaic.Lib.Pointwise
public import proofs.«01_k».proof.Proof.Access

@[expose] public section

set_option maxRecDepth 16384

noncomputable section

/-! The five parts of the kernel body, each as a statement about the buffers it touches: what they read before
and after, with the value it hands on. -/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What one tile of the body reads: the fifteen input blocks, by the number of the body's argument. -/
structure Ins (F : FTy → Type) where
  x1 : Vec F S256x1024 .f32
  x2 : Vec F S256x1024 .f32
  x3 : Vec F S1x1024 .f32
  x4 : Vec F S256x1024 .f32
  x5 : Vec F S256x1024 .f32
  x6 : Vec F S1x1024 .f32
  x7 : Vec F S1024x1024 .bf16
  x8 : Vec F S256x2048 .f32
  x9 : Vec F S256x1024 .f32
  x10 : Vec F S256x1024 .f32
  x11 : Vec F S1280x1024 .bf16
  x12 : Vec F S512x1024 .bf16
  x13 : Vec F S256x1024 .bf16
  x14 : Vec F S256x1280 .f32
  x15 : Vec F S256x512 .f32

/-- What the body carries from tile to tile: the gradients of the two norm scales and of the three weights. -/
structure Acc (F : FTy → Type) where
  gf : Vec F S1x1024 .f32
  gm : Vec F S1x1024 .f32
  wo : Vec F S1024x1024 .f32
  wr : Vec F S1280x1024 .f32
  wa : Vec F S512x1024 .f32

/-- The carried gradients before the first tile. -/
def Acc.start : Acc F := ⟨k0_pay8 (F := F), k0_pay9 (F := F), k0_pay10 (F := F), k0_pay11 (F := F), k0_pay12 (F := F)⟩

namespace Ins
variable (x : Ins F)

/-- The gradient of the block's inner sum on this tile. -/
def dh : FVec F S256x1024 .f32 := k0_pay16 x.x1 x.x2 x.x3 x.x4
/-- The second norm's normalised rows times the incoming gradient: the rows of its scale's gradient. -/
def gmRows : FVec F S256x1024 .f32 := k0_pay20 x.dh x.x5
/-- The gradient entering the output projection. -/
def dmix : FVec F S256x1024 .bf16 := k0_pay21 x.dh x.x5 x.x6
/-- The gradient of the merged branches. -/
def dm : FVec F S256x1024 .f32 := k0_pay25 x.dmix x.x7
/-- The gradient of the recurrent branch's projection. -/
def dbr : FVec F S256x1024 .bf16 := k0_pay28 x.dmix x.x7 x.x8
/-- The gradient of the attention branch's projection. -/
def dba : FVec F S256x1024 .bf16 := k0_pay29 x.dmix x.x7 x.x8
/-- The gates' gradients, the recurrent gate's in the left half and the attention gate's in the right. -/
def dgts : Vec F S256x2048 .bf16 :=
  VecWindow.put (VecWindow.put (fun _ => k0_pay33 x.dm (k0_pay26 x.x8) x.x9 (ix2 0 0)) ![0, 0] S256x1024.size
    (k0_pay33 x.dm (k0_pay26 x.x8) x.x9)) ![0, 1024] S256x1024.size (k0_pay34 x.dm (k0_pay27 x.x8) x.x10)
/-- The gradient of the recurrent branch. -/
def dyr : FVec F S256x1280 .f32 := k0_pay35 x.dbr x.x11
/-- The gradient of the attention branch. -/
def doa : FVec F S256x512 .f32 := k0_pay1 x.dba x.x12

/-- The carried gradients after this tile. -/
def step (a : Acc F) : Acc F where
  gf := k0_pay17 (k0_pay15 x.x1 x.x2) a.gf
  gm := k0_pay24 x.gmRows a.gm
  wo := k0_pay23 (k0_pay22 x.dh x.x5 x.x6 a.wo x.x13)
  wr := k0_pay31 x.dbr a.wr (k0_pay30 x.x14) (constant S1280x1024 .f32 0x00000000#32)
  wa := k0_pay32 x.dba a.wa x.x15

end Ins

/-- The attention projection's gradient as it is handed out: its four column blocks as four slabs. -/
def slabs (q : Vec F S512x1024 .f32) : Vec F S4x512x256 .bf16 :=
  VecWindow.put (VecWindow.put (VecWindow.put (VecWindow.put
    (fun _ => k0_pay4 (VecWindow.window q ![0, 0] S512x256.size inb_S512x1024_S512x256_0_0) (ix3 0 0 0))
    ![0, 0, 0] S1x512x256.size (k0_pay4 (VecWindow.window q ![0, 0] S512x256.size inb_S512x1024_S512x256_0_0)))
    ![1, 0, 0] S1x512x256.size (k0_pay5 (VecWindow.window q ![0, 256] S512x256.size inb_S512x1024_S512x256_0_256)))
    ![2, 0, 0] S1x512x256.size (k0_pay6 (VecWindow.window q ![0, 512] S512x256.size inb_S512x1024_S512x256_0_512)))
    ![3, 0, 0] S1x512x256.size (k0_pay7 (VecWindow.window q ![0, 768] S512x256.size inb_S512x1024_S512x256_0_768))

/-- Two halves of columns leave nothing of what was there before. -/
theorem put_halves {α : Type} (y y' : S256x2048.Idx → α) (w1 w2 : S256x1024.Idx → α) :
    VecWindow.put (VecWindow.put y ![0, 0] S256x1024.size w1) ![0, 1024] S256x1024.size w2
      = VecWindow.put (VecWindow.put y' ![0, 0] S256x1024.size w1) ![0, 1024] S256x1024.size w2 := by
  funext j
  unfold VecWindow.put
  split_ifs with h1 h2
  · rfl
  · rfl
  · exfalso
    have a0 : (j 0).val < 256 := (j 0).isLt
    have a1 : (j 1).val < 2048 := (j 1).isLt
    simp only [Fin.forall_fin_two, Matrix.cons_val_zero, Matrix.cons_val_one, S256x1024] at h1 h2
    omega

/-- Four slabs leave nothing of what was there before. -/
theorem put_slabs {α : Type} (y y' : S4x512x256.Idx → α) (w1 w2 w3 w4 : S1x512x256.Idx → α) :
    VecWindow.put (VecWindow.put (VecWindow.put (VecWindow.put y ![0, 0, 0] S1x512x256.size w1) ![1, 0, 0] S1x512x256.size w2)
        ![2, 0, 0] S1x512x256.size w3) ![3, 0, 0] S1x512x256.size w4
      = VecWindow.put (VecWindow.put (VecWindow.put (VecWindow.put y' ![0, 0, 0] S1x512x256.size w1) ![1, 0, 0] S1x512x256.size w2)
        ![2, 0, 0] S1x512x256.size w3) ![3, 0, 0] S1x512x256.size w4 := by
  funext j
  unfold VecWindow.put
  split_ifs with h1 h2 h3 h4
  · rfl
  · rfl
  · rfl
  · rfl
  · exfalso
    have a0 : (j 0).val < 4 := (j 0).isLt
    have a1 : (j 1).val < 512 := (j 1).isLt
    have a2 : (j 2).val < 256 := (j 2).isLt
    simp only [Fin.forall_fin_succ, Fin.forall_fin_zero, IsEmpty.forall_iff, and_true, Matrix.cons_val_zero, Matrix.cons_val_one, Matrix.cons_val_succ, S1x512x256] at h1 h2 h3 h4
    simp at h1 h2 h3 h4
    omega

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S1x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x1024 .f32) (harg6 : arg6.IsWhole)
  (arg7 : Memref sig .tc .vmem S1024x1024 .bf16) (harg7 : arg7.IsWhole)
  (arg8 : Memref sig .tc .vmem S256x2048 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S1280x1024 .bf16) (harg11 : arg11.IsWhole)
  (arg12 : Memref sig .tc .vmem S512x1024 .bf16) (harg12 : arg12.IsWhole)
  (arg13 : Memref sig .tc .vmem S256x1024 .bf16) (harg13 : arg13.IsWhole)
  (arg14 : Memref sig .tc .vmem S256x1280 .f32) (harg14 : arg14.IsWhole)
  (arg15 : Memref sig .tc .vmem S256x512 .f32) (harg15 : arg15.IsWhole)
  (arg16 : Memref sig .tc .vmem S256x1024 .f32) (harg16 : arg16.IsWhole)
  (arg17 : Memref sig .tc .vmem S256x2048 .bf16) (harg17 : arg17.IsWhole)
  (arg18 : Memref sig .tc .vmem S256x1280 .f32) (harg18 : arg18.IsWhole)
  (arg19 : Memref sig .tc .vmem S256x512 .f32) (harg19 : arg19.IsWhole)
  (arg20 : Memref sig .tc .vmem S1x1024 .f32) (harg20 : arg20.IsWhole)
  (arg21 : Memref sig .tc .vmem S1x1024 .f32) (harg21 : arg21.IsWhole)
  (arg22 : Memref sig .tc .vmem S1024x1024 .bf16) (harg22 : arg22.IsWhole)
  (arg23 : Memref sig .tc .vmem S1280x1024 .bf16) (harg23 : arg23.IsWhole)
  (arg24 : Memref sig .tc .vmem S4x512x256 .bf16) (harg24 : arg24.IsWhole)
  (arg25 : Memref sig .tc .vmem S1024x1024 .f32) (harg25 : arg25.IsWhole)
  (arg26 : Memref sig .tc .vmem S1280x1024 .f32) (harg26 : arg26.IsWhole)
  (arg27 : Memref sig .tc .vmem S512x1024 .f32) (harg27 : arg27.IsWhole)
  {E : Set ℕ}

/-- The first norm on the first tile: the carried gradients start at zero, the inner gradient is stored. -/
theorem part2_first (hc : cond0_0 i) (x1 : Vec F S256x1024 .f32) (x2 : Vec F S256x1024 .f32) (x3 : Vec F S1x1024 .f32) (x4 : Vec F S256x1024 .f32) (x16 : Vec F S256x1024 .f32) (x20 : Vec F S1x1024 .f32) (x21 : Vec F S1x1024 .f32) (x25 : Vec F S1024x1024 .f32) (x26 : Vec F S1280x1024 .f32) (x27 : Vec F S512x1024 .f32) {K : (Σ' (arg0 : BitVec 32) (v33 : FVec F S256x1024 .f32) (v35 : FVec F S256x1024 .f32), Vec F S1x1024 .f32) → sProp 𝕄} :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg16 fullShare x16
        ∗ owns (c : Thread nD τ) arg20 fullShare x20
        ∗ owns (c : Thread nD τ) arg21 fullShare x21
        ∗ owns (c : Thread nD τ) arg25 fullShare x25
        ∗ owns (c : Thread nD τ) arg26 fullShare x26
        ∗ owns (c : Thread nD τ) arg27 fullShare x27
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg16 fullShare (k0_pay16 x1 x2 x3 x4)
        ∗ owns (c : Thread nD τ) arg20 fullShare (k0_pay8 (F := F))
        ∗ owns (c : Thread nD τ) arg21 fullShare (k0_pay9 (F := F))
        ∗ owns (c : Thread nD τ) arg25 fullShare (k0_pay10 (F := F))
        ∗ owns (c : Thread nD τ) arg26 fullShare (k0_pay11 (F := F))
        ∗ owns (c : Thread nD τ) arg27 fullShare (k0_pay12 (F := F))) -∗ K ⟨BitVec.ofNat 32 (i 0).val, k0_pay15 x1 x2, k0_pay16 x1 x2 x3 x4, k0_pay8 (F := F)⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [k0_part2_eq_skeleton]; simp only [k0_part2_skel, dif_pos hc]
  iintro ⟨H1, H2, H3, H4, H16, H20, H21, H25, H26, H27, Hk⟩
  rw [wp_bind]; iapply (load_own c arg20 x20); isplitl [H20]; · iexact H20
  iintro H20
  rw [wp_bind]; iapply (store_own c arg20 x20); isplitl [H20]; · iexact H20
  iintro H20
  rw [wp_bind]; iapply (load_own c arg21 x21); isplitl [H21]; · iexact H21
  iintro H21
  rw [wp_bind]; iapply (store_own c arg21 x21); isplitl [H21]; · iexact H21
  iintro H21
  rw [wp_bind]; iapply (load_own c arg25 x25); isplitl [H25]; · iexact H25
  iintro H25
  rw [wp_bind]; iapply (store_own c arg25 x25); isplitl [H25]; · iexact H25
  iintro H25
  rw [wp_bind]; iapply (load_own c arg26 x26); isplitl [H26]; · iexact H26
  iintro H26
  rw [wp_bind]; iapply (store_own c arg26 x26); isplitl [H26]; · iexact H26
  iintro H26
  rw [wp_bind]; iapply (load_own c arg27 x27); isplitl [H27]; · iexact H27
  iintro H27
  rw [wp_bind]; iapply (store_own c arg27 x27); isplitl [H27]; · iexact H27
  iintro H27
  rw [wp_bind]; iapply (load_own c arg1 x1); isplitl [H1]; · iexact H1
  iintro H1
  rw [wp_bind]; iapply (load_own c arg2 x2); isplitl [H2]; · iexact H2
  iintro H2
  rw [wp_bind]; iapply (load_own c arg3 x3); isplitl [H3]; · iexact H3
  iintro H3
  rw [wp_bind]; iapply (load_own c arg4 x4); isplitl [H4]; · iexact H4
  iintro H4
  rw [wp_bind]; iapply (load_own c arg16 x16); isplitl [H16]; · iexact H16
  iintro H16
  rw [wp_bind]; iapply (store_own c arg16 x16); isplitl [H16]; · iexact H16
  iintro H16
  rw [wp_bind]; iapply (load_own c arg20 (k0_pay8 (F := F))); isplitl [H20]; · iexact H20
  iintro H20
  iapply le_wp_ret
  iapply Hk
  isplitl [H1]; · iexact H1
  isplitl [H2]; · iexact H2
  isplitl [H3]; · iexact H3
  isplitl [H4]; · iexact H4
  isplitl [H16]; · iexact H16
  isplitl [H20]; · iexact H20
  isplitl [H21]; · iexact H21
  isplitl [H25]; · iexact H25
  isplitl [H26]; · iexact H26
  iexact H27

/-- The first norm on a later tile: the inner gradient is stored. -/
theorem part2_next (hc : ¬cond0_0 i) (x1 : Vec F S256x1024 .f32) (x2 : Vec F S256x1024 .f32) (x3 : Vec F S1x1024 .f32) (x4 : Vec F S256x1024 .f32) (x16 : Vec F S256x1024 .f32) (x20 : Vec F S1x1024 .f32) {K : (Σ' (arg0 : BitVec 32) (v33 : FVec F S256x1024 .f32) (v35 : FVec F S256x1024 .f32), Vec F S1x1024 .f32) → sProp 𝕄} :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg16 fullShare x16
        ∗ owns (c : Thread nD τ) arg20 fullShare x20
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg16 fullShare (k0_pay16 x1 x2 x3 x4)
        ∗ owns (c : Thread nD τ) arg20 fullShare x20) -∗ K ⟨BitVec.ofNat 32 (i 0).val, k0_pay15 x1 x2, k0_pay16 x1 x2 x3 x4, x20⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [k0_part2_eq_skeleton]; simp only [k0_part2_skel, dif_neg hc]
  iintro ⟨H1, H2, H3, H4, H16, H20, Hk⟩
  rw [wp_bind]; iapply (load_own c arg1 x1); isplitl [H1]; · iexact H1
  iintro H1
  rw [wp_bind]; iapply (load_own c arg2 x2); isplitl [H2]; · iexact H2
  iintro H2
  rw [wp_bind]; iapply (load_own c arg3 x3); isplitl [H3]; · iexact H3
  iintro H3
  rw [wp_bind]; iapply (load_own c arg4 x4); isplitl [H4]; · iexact H4
  iintro H4
  rw [wp_bind]; iapply (load_own c arg16 x16); isplitl [H16]; · iexact H16
  iintro H16
  rw [wp_bind]; iapply (store_own c arg16 x16); isplitl [H16]; · iexact H16
  iintro H16
  rw [wp_bind]; iapply (load_own c arg20 x20); isplitl [H20]; · iexact H20
  iintro H20
  iapply le_wp_ret
  iapply Hk
  isplitl [H1]; · iexact H1
  isplitl [H2]; · iexact H2
  isplitl [H3]; · iexact H3
  isplitl [H4]; · iexact H4
  isplitl [H16]; · iexact H16
  iexact H20

/-- The second norm: adds to the first scale's gradient, reads what the second norm needs. -/
theorem part3 (v33 v35 : FVec F S256x1024 .f32) (v37 : Vec F S1x1024 .f32) (x5 : Vec F S256x1024 .f32) (x6 : Vec F S1x1024 .f32) (x13 : Vec F S256x1024 .bf16) (x20 : Vec F S1x1024 .f32) (x25 : Vec F S1024x1024 .f32) {K : (Σ' (v72 : FVec F S256x1024 .f32) (v73 : FVec F S256x1024 .bf16), FVec F S1024x1024 .f32) → sProp 𝕄} :
    iprop(owns (c : Thread nD τ) arg5 fullShare x5
        ∗ owns (c : Thread nD τ) arg6 fullShare x6
        ∗ owns (c : Thread nD τ) arg13 fullShare x13
        ∗ owns (c : Thread nD τ) arg20 fullShare x20
        ∗ owns (c : Thread nD τ) arg25 fullShare x25
        ∗ (iprop(owns (c : Thread nD τ) arg5 fullShare x5
        ∗ owns (c : Thread nD τ) arg6 fullShare x6
        ∗ owns (c : Thread nD τ) arg13 fullShare x13
        ∗ owns (c : Thread nD τ) arg20 fullShare (k0_pay17 v33 v37)
        ∗ owns (c : Thread nD τ) arg25 fullShare x25) -∗ K ⟨k0_pay20 v35 x5, k0_pay21 v35 x5 x6, k0_pay22 v35 x5 x6 x25 x13⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v33 v35 v37) K := by
  rw [k0_part3_eq_skeleton]; unfold k0_part3_skel
  iintro ⟨H5, H6, H13, H20, H25, Hk⟩
  rw [wp_bind]; iapply (load_own c arg20 x20); isplitl [H20]; · iexact H20
  iintro H20
  rw [wp_bind]; iapply (store_own c arg20 x20); isplitl [H20]; · iexact H20
  iintro H20
  rw [wp_bind]; iapply (load_own c arg5 x5); isplitl [H5]; · iexact H5
  iintro H5
  rw [wp_bind]; iapply (load_own c arg6 x6); isplitl [H6]; · iexact H6
  iintro H6
  rw [wp_bind]; iapply (load_own c arg25 x25); isplitl [H25]; · iexact H25
  iintro H25
  rw [wp_bind]; iapply (load_own c arg13 x13); isplitl [H13]; · iexact H13
  iintro H13
  iapply le_wp_ret
  iapply Hk
  isplitl [H5]; · iexact H5
  isplitl [H6]; · iexact H6
  isplitl [H13]; · iexact H13
  isplitl [H20]; · iexact H20
  iexact H25

/-- The output projection and the gates: the output weight's and the second scale's gradients are stored. -/
theorem part4 (v72 : FVec F S256x1024 .f32) (v73 : FVec F S256x1024 .bf16) (v78 : FVec F S1024x1024 .f32) (x7 : Vec F S1024x1024 .bf16) (x8 : Vec F S256x2048 .f32) (x14 : Vec F S256x1280 .f32) (x21 : Vec F S1x1024 .f32) (x25 : Vec F S1024x1024 .f32) (x26 : Vec F S1280x1024 .f32) {K : (Σ' (v90 : FVec F S256x1024 .f32) (v99 : FVec F S256x1024 .f32) (v107 : FVec F S256x1024 .f32) (v109 : FVec F S256x1024 .bf16) (v111 : FVec F S256x1024 .bf16) (v112 : Vec F S1280x1024 .f32) (v114 : FVec F S256x1280 .bf16), FVec F S1280x1024 .f32) → sProp 𝕄} :
    iprop(owns (c : Thread nD τ) arg7 fullShare x7
        ∗ owns (c : Thread nD τ) arg8 fullShare x8
        ∗ owns (c : Thread nD τ) arg14 fullShare x14
        ∗ owns (c : Thread nD τ) arg21 fullShare x21
        ∗ owns (c : Thread nD τ) arg25 fullShare x25
        ∗ owns (c : Thread nD τ) arg26 fullShare x26
        ∗ (iprop(owns (c : Thread nD τ) arg7 fullShare x7
        ∗ owns (c : Thread nD τ) arg8 fullShare x8
        ∗ owns (c : Thread nD τ) arg14 fullShare x14
        ∗ owns (c : Thread nD τ) arg21 fullShare (k0_pay24 v72 x21)
        ∗ owns (c : Thread nD τ) arg25 fullShare (k0_pay23 v78)
        ∗ owns (c : Thread nD τ) arg26 fullShare x26) -∗ K ⟨k0_pay25 v73 x7, k0_pay26 x8, k0_pay27 x8, k0_pay28 v73 x7 x8, k0_pay29 v73 x7 x8, x26, k0_pay30 x14, constant S1280x1024 .f32 0x00000000#32⟩))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v72 v73 v78) K := by
  rw [k0_part4_eq_skeleton]; unfold k0_part4_skel
  iintro ⟨H7, H8, H14, H21, H25, H26, Hk⟩
  rw [wp_bind]; iapply (load_own c arg25 x25); isplitl [H25]; · iexact H25
  iintro H25
  rw [wp_bind]; iapply (store_own c arg25 x25); isplitl [H25]; · iexact H25
  iintro H25
  rw [wp_bind]; iapply (load_own c arg21 x21); isplitl [H21]; · iexact H21
  iintro H21
  rw [wp_bind]; iapply (load_own c arg21 x21); isplitl [H21]; · iexact H21
  iintro H21
  rw [wp_bind]; iapply (store_own c arg21 x21); isplitl [H21]; · iexact H21
  iintro H21
  rw [wp_bind]; iapply (load_own c arg7 x7); isplitl [H7]; · iexact H7
  iintro H7
  rw [wp_bind]; iapply (load_own c arg8 x8); isplitl [H8]; · iexact H8
  iintro H8
  rw [wp_bind]; iapply (load_own c arg26 x26); isplitl [H26]; · iexact H26
  iintro H26
  rw [wp_bind]; iapply (load_own c arg14 x14); isplitl [H14]; · iexact H14
  iintro H14
  iapply le_wp_ret
  iapply Hk
  isplitl [H7]; · iexact H7
  isplitl [H8]; · iexact H8
  isplitl [H14]; · iexact H14
  isplitl [H21]; · iexact H21
  isplitl [H25]; · iexact H25
  iexact H26

/-- The two branches: their weights' gradients and the gates' gradients are stored. -/
theorem part5 (v90 v99 v107 : FVec F S256x1024 .f32) (v109 v111 : FVec F S256x1024 .bf16) (v112 : Vec F S1280x1024 .f32) (v114 : FVec F S256x1280 .bf16) (cst : FVec F S1280x1024 .f32) (x9 : Vec F S256x1024 .f32) (x10 : Vec F S256x1024 .f32) (x11 : Vec F S1280x1024 .bf16) (x15 : Vec F S256x512 .f32) (x17 : Vec F S256x2048 .bf16) (x26 : Vec F S1280x1024 .f32) (x27 : Vec F S512x1024 .f32) {K : (FVec F S256x1280 .f32) → sProp 𝕄} :
    iprop(owns (c : Thread nD τ) arg9 fullShare x9
        ∗ owns (c : Thread nD τ) arg10 fullShare x10
        ∗ owns (c : Thread nD τ) arg11 fullShare x11
        ∗ owns (c : Thread nD τ) arg15 fullShare x15
        ∗ owns (c : Thread nD τ) arg17 fullShare x17
        ∗ owns (c : Thread nD τ) arg26 fullShare x26
        ∗ owns (c : Thread nD τ) arg27 fullShare x27
        ∗ (iprop(owns (c : Thread nD τ) arg9 fullShare x9
        ∗ owns (c : Thread nD τ) arg10 fullShare x10
        ∗ owns (c : Thread nD τ) arg11 fullShare x11
        ∗ owns (c : Thread nD τ) arg15 fullShare x15
        ∗ owns (c : Thread nD τ) arg17 fullShare (VecWindow.put (VecWindow.put x17 ![0, 0] S256x1024.size (k0_pay33 v90 v99 x9)) ![0, 1024] S256x1024.size (k0_pay34 v90 v107 x10))
        ∗ owns (c : Thread nD τ) arg26 fullShare (k0_pay31 v109 v112 v114 cst)
        ∗ owns (c : Thread nD τ) arg27 fullShare (k0_pay32 v111 x27 x15)) -∗ K (k0_pay35 v109 x11)))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v90 v99 v107 v109 v111 v112 v114 cst) K := by
  rw [k0_part5_eq_skeleton]; unfold k0_part5_skel
  iintro ⟨H9, H10, H11, H15, H17, H26, H27, Hk⟩
  rw [wp_bind]; iapply (load_own c arg26 x26); isplitl [H26]; · iexact H26
  iintro H26
  rw [wp_bind]; iapply (store_own c arg26 x26); isplitl [H26]; · iexact H26
  iintro H26
  rw [wp_bind]; iapply (load_own c arg27 x27); isplitl [H27]; · iexact H27
  iintro H27
  rw [wp_bind]; iapply (load_own c arg15 x15); isplitl [H15]; · iexact H15
  iintro H15
  rw [wp_bind]; iapply (load_own c arg27 x27); isplitl [H27]; · iexact H27
  iintro H27
  rw [wp_bind]; iapply (store_own c arg27 x27); isplitl [H27]; · iexact H27
  iintro H27
  rw [wp_bind]; iapply (load_own c arg9 x9); isplitl [H9]; · iexact H9
  iintro H9
  rw [wp_bind]; iapply (load_box c arg17 x17); isplitl [H17]; · iexact H17
  iintro H17
  rw [wp_bind]; iapply (store_box c arg17 x17); isplitl [H17]; · iexact H17
  iintro H17
  rw [wp_bind]; iapply (load_own c arg10 x10); isplitl [H10]; · iexact H10
  iintro H10
  rw [wp_bind]; iapply (load_box c arg17 (VecWindow.put x17 ![0, 0] S256x1024.size (k0_pay33 v90 v99 x9))); isplitl [H17]; · iexact H17
  iintro H17
  rw [wp_bind]; iapply (store_box c arg17 (VecWindow.put x17 ![0, 0] S256x1024.size (k0_pay33 v90 v99 x9))); isplitl [H17]; · iexact H17
  iintro H17
  rw [wp_bind]; iapply (load_own c arg11 x11); isplitl [H11]; · iexact H11
  iintro H11
  iapply le_wp_ret
  iapply Hk
  isplitl [H9]; · iexact H9
  isplitl [H10]; · iexact H10
  isplitl [H11]; · iexact H11
  isplitl [H15]; · iexact H15
  isplitl [H17]; · iexact H17
  isplitl [H26]; · iexact H26
  iexact H27

/-- The last tile hands out the three weights' gradients. -/
theorem part1 (x22 : Vec F S1024x1024 .bf16) (x23 : Vec F S1280x1024 .bf16) (x24 : Vec F S4x512x256 .bf16) (x25 : Vec F S1024x1024 .f32) (x26 : Vec F S1280x1024 .f32) (x27 : Vec F S512x1024 .f32) {K : PUnit → sProp 𝕄} :
    iprop(owns (c : Thread nD τ) arg22 fullShare x22
        ∗ owns (c : Thread nD τ) arg23 fullShare x23
        ∗ owns (c : Thread nD τ) arg24 fullShare x24
        ∗ owns (c : Thread nD τ) arg25 fullShare x25
        ∗ owns (c : Thread nD τ) arg26 fullShare x26
        ∗ owns (c : Thread nD τ) arg27 fullShare x27
        ∗ (iprop(owns (c : Thread nD τ) arg22 fullShare (k0_pay2 x25)
        ∗ owns (c : Thread nD τ) arg23 fullShare (k0_pay3 x26)
        ∗ owns (c : Thread nD τ) arg24 fullShare (slabs x27)
        ∗ owns (c : Thread nD τ) arg25 fullShare x25
        ∗ owns (c : Thread nD τ) arg26 fullShare x26
        ∗ owns (c : Thread nD τ) arg27 fullShare x27) -∗ K ⟨⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [k0_part1_eq_skeleton]; unfold k0_part1_skel
  iintro ⟨H22, H23, H24, H25, H26, H27, Hk⟩
  rw [wp_bind]; iapply (load_own c arg25 x25); isplitl [H25]; · iexact H25
  iintro H25
  rw [wp_bind]; iapply (load_own c arg22 x22); isplitl [H22]; · iexact H22
  iintro H22
  rw [wp_bind]; iapply (store_own c arg22 x22); isplitl [H22]; · iexact H22
  iintro H22
  rw [wp_bind]; iapply (load_own c arg26 x26); isplitl [H26]; · iexact H26
  iintro H26
  rw [wp_bind]; iapply (load_own c arg23 x23); isplitl [H23]; · iexact H23
  iintro H23
  rw [wp_bind]; iapply (store_own c arg23 x23); isplitl [H23]; · iexact H23
  iintro H23
  rw [wp_bind]; iapply (load_box c arg27 x27); isplitl [H27]; · iexact H27
  iintro H27
  rw [wp_bind]; iapply (load_box c arg24 x24); isplitl [H24]; · iexact H24
  iintro H24
  rw [wp_bind]; iapply (store_box c arg24 x24); isplitl [H24]; · iexact H24
  iintro H24
  rw [wp_bind]; iapply (load_box c arg27 x27); isplitl [H27]; · iexact H27
  iintro H27
  rw [wp_bind]; iapply (load_box c arg24 _); isplitl [H24]; · iexact H24
  iintro H24
  rw [wp_bind]; iapply (store_box c arg24 _); isplitl [H24]; · iexact H24
  iintro H24
  rw [wp_bind]; iapply (load_box c arg27 x27); isplitl [H27]; · iexact H27
  iintro H27
  rw [wp_bind]; iapply (load_box c arg24 _); isplitl [H24]; · iexact H24
  iintro H24
  rw [wp_bind]; iapply (store_box c arg24 _); isplitl [H24]; · iexact H24
  iintro H24
  rw [wp_bind]; iapply (load_box c arg27 x27); isplitl [H27]; · iexact H27
  iintro H27
  rw [wp_bind]; iapply (load_box c arg24 _); isplitl [H24]; · iexact H24
  iintro H24
  rw [wp_bind]; iapply (store_box c arg24 _); isplitl [H24]; · iexact H24
  iintro H24
  rw [put_slabs x24 (fun _ => k0_pay4 (VecWindow.window x27 ![0, 0] S512x256.size inb_S512x1024_S512x256_0_0) (ix3 0 0 0))]
  unfold slabs
  iapply le_wp_ret
  iapply Hk
  isplitl [H22]; · iexact H22
  isplitl [H23]; · iexact H23
  isplitl [H24]; · iexact H24
  isplitl [H25]; · iexact H25
  isplitl [H26]; · iexact H26
  iexact H27

end Cert.KernelIdeal.Own

end
-- ==== Proof.Body.lean ====
module

public import proofs.«01_k».proof.Proof.Parts

@[expose] public section

set_option maxRecDepth 16384

noncomputable section

/-! The kernel body on one tile: on the first tile, on the last, and on those between. -/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S1x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x1024 .f32) (harg6 : arg6.IsWhole)
  (arg7 : Memref sig .tc .vmem S1024x1024 .bf16) (harg7 : arg7.IsWhole)
  (arg8 : Memref sig .tc .vmem S256x2048 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S1280x1024 .bf16) (harg11 : arg11.IsWhole)
  (arg12 : Memref sig .tc .vmem S512x1024 .bf16) (harg12 : arg12.IsWhole)
  (arg13 : Memref sig .tc .vmem S256x1024 .bf16) (harg13 : arg13.IsWhole)
  (arg14 : Memref sig .tc .vmem S256x1280 .f32) (harg14 : arg14.IsWhole)
  (arg15 : Memref sig .tc .vmem S256x512 .f32) (harg15 : arg15.IsWhole)
  (arg16 : Memref sig .tc .vmem S256x1024 .f32) (harg16 : arg16.IsWhole)
  (arg17 : Memref sig .tc .vmem S256x2048 .bf16) (harg17 : arg17.IsWhole)
  (arg18 : Memref sig .tc .vmem S256x1280 .f32) (harg18 : arg18.IsWhole)
  (arg19 : Memref sig .tc .vmem S256x512 .f32) (harg19 : arg19.IsWhole)
  (arg20 : Memref sig .tc .vmem S1x1024 .f32) (harg20 : arg20.IsWhole)
  (arg21 : Memref sig .tc .vmem S1x1024 .f32) (harg21 : arg21.IsWhole)
  (arg22 : Memref sig .tc .vmem S1024x1024 .bf16) (harg22 : arg22.IsWhole)
  (arg23 : Memref sig .tc .vmem S1280x1024 .bf16) (harg23 : arg23.IsWhole)
  (arg24 : Memref sig .tc .vmem S4x512x256 .bf16) (harg24 : arg24.IsWhole)
  (arg25 : Memref sig .tc .vmem S1024x1024 .f32) (harg25 : arg25.IsWhole)
  (arg26 : Memref sig .tc .vmem S1280x1024 .f32) (harg26 : arg26.IsWhole)
  (arg27 : Memref sig .tc .vmem S512x1024 .f32) (harg27 : arg27.IsWhole)
  (x : Ins F) (a : Acc F) {E : Set ℕ}

/-- The first tile: whatever the carried buffers held, they end at this tile's contributions. -/
theorem body_first (hc : cond0_0 i) (hd : ¬cond0_1 i) (y16 : Vec F S256x1024 .f32) (y17 : Vec F S256x2048 .bf16) (y18 : Vec F S256x1280 .f32) (y19 : Vec F S256x512 .f32) (y20 : Vec F S1x1024 .f32) (y21 : Vec F S1x1024 .f32) (y22 : Vec F S1024x1024 .bf16) (y23 : Vec F S1280x1024 .bf16) (y24 : Vec F S4x512x256 .bf16) (y25 : Vec F S1024x1024 .f32) (y26 : Vec F S1280x1024 .f32) (y27 : Vec F S512x1024 .f32) {K : PUnit → sProp 𝕄} :
    iprop(owns (c : Thread nD τ) arg1 fullShare x.x1
        ∗ owns (c : Thread nD τ) arg2 fullShare x.x2
        ∗ owns (c : Thread nD τ) arg3 fullShare x.x3
        ∗ owns (c : Thread nD τ) arg4 fullShare x.x4
        ∗ owns (c : Thread nD τ) arg5 fullShare x.x5
        ∗ owns (c : Thread nD τ) arg6 fullShare x.x6
        ∗ owns (c : Thread nD τ) arg7 fullShare x.x7
        ∗ owns (c : Thread nD τ) arg8 fullShare x.x8
        ∗ owns (c : Thread nD τ) arg9 fullShare x.x9
        ∗ owns (c : Thread nD τ) arg10 fullShare x.x10
        ∗ owns (c : Thread nD τ) arg11 fullShare x.x11
        ∗ owns (c : Thread nD τ) arg12 fullShare x.x12
        ∗ owns (c : Thread nD τ) arg13 fullShare x.x13
        ∗ owns (c : Thread nD τ) arg14 fullShare x.x14
        ∗ owns (c : Thread nD τ) arg15 fullShare x.x15
        ∗ owns (c : Thread nD τ) arg16 fullShare y16
        ∗ owns (c : Thread nD τ) arg17 fullShare y17
        ∗ owns (c : Thread nD τ) arg18 fullShare y18
        ∗ owns (c : Thread nD τ) arg19 fullShare y19
        ∗ owns (c : Thread nD τ) arg20 fullShare y20
        ∗ owns (c : Thread nD τ) arg21 fullShare y21
        ∗ owns (c : Thread nD τ) arg22 fullShare y22
        ∗ owns (c : Thread nD τ) arg23 fullShare y23
        ∗ owns (c : Thread nD τ) arg24 fullShare y24
        ∗ owns (c : Thread nD τ) arg25 fullShare y25
        ∗ owns (c : Thread nD τ) arg26 fullShare y26
        ∗ owns (c : Thread nD τ) arg27 fullShare y27
        ∗ (iprop(owns (c : Thread nD τ) arg1 fullShare x.x1
        ∗ owns (c : Thread nD τ) arg2 fullShare x.x2
        ∗ owns (c : Thread nD τ) arg3 fullShare x.x3
        ∗ owns (c : Thread nD τ) arg4 fullShare x.x4
        ∗ owns (c : Thread nD τ) arg5 fullShare x.x5
        ∗ owns (c : Thread nD τ) arg6 fullShare x.x6
        ∗ owns (c : Thread nD τ) arg7 fullShare x.x7
        ∗ owns (c : Thread nD τ) arg8 fullShare x.x8
        ∗ owns (c : Thread nD τ) arg9 fullShare x.x9
        ∗ owns (c : Thread nD τ) arg10 fullShare x.x10
        ∗ owns (c : Thread nD τ) arg11 fullShare x.x11
        ∗ owns (c : Thread nD τ) arg12 fullShare x.x12
        ∗ owns (c : Thread nD τ) arg13 fullShare x.x13
        ∗ owns (c : Thread nD τ) arg14 fullShare x.x14
        ∗ owns (c : Thread nD τ) arg15 fullShare x.x15
        ∗ owns (c : Thread nD τ) arg16 fullShare x.dh
        ∗ owns (c : Thread nD τ) arg17 fullShare x.dgts
        ∗ owns (c : Thread nD τ) arg18 fullShare x.dyr
        ∗ owns (c : Thread nD τ) arg19 fullShare x.doa
        ∗ owns (c : Thread nD τ) arg20 fullShare (x.step (Acc.start (F := F))).gf
        ∗ owns (c : Thread nD τ) arg21 fullShare (x.step (Acc.start (F := F))).gm
        ∗ owns (c : Thread nD τ) arg22 fullShare y22
        ∗ owns (c : Thread nD τ) arg23 fullShare y23
        ∗ owns (c : Thread nD τ) arg24 fullShare y24
        ∗ owns (c : Thread nD τ) arg25 fullShare (x.step (Acc.start (F := F))).wo
        ∗ owns (c : Thread nD τ) arg26 fullShare (x.step (Acc.start (F := F))).wr
        ∗ owns (c : Thread nD τ) arg27 fullShare (x.step (Acc.start (F := F))).wa) -∗ K ⟨⟩))
      ⊢ wp frame (wpE (defs₀ (F := F)) Variants.none c none) E (cc0_mid_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [cc0_mid_bwd_eq_skeleton]; unfold cc0_mid_bwd_skel
  iintro ⟨H1, H2, H3, H4, H5, H6, H7, H8, H9, H10, H11, H12, H13, H14, H15, H16, H17, H18, H19, H20, H21, H22, H23, H24, H25, H26, H27, Hk⟩
  rw [wp_bind]; iapply (part2_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc)
  isplitl [H1]; · iexact H1
  isplitl [H2]; · iexact H2
  isplitl [H3]; · iexact H3
  isplitl [H4]; · iexact H4
  isplitl [H16]; · iexact H16
  isplitl [H20]; · iexact H20
  isplitl [H21]; · iexact H21
  isplitl [H25]; · iexact H25
  isplitl [H26]; · iexact H26
  isplitl [H27]; · iexact H27
  iintro ⟨H1, H2, H3, H4, H16, H20, H21, H25, H26, H27⟩
  rw [wp_bind]; iapply (part3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H5]; · iexact H5
  isplitl [H6]; · iexact H6
  isplitl [H13]; · iexact H13
  isplitl [H20]; · iexact H20
  isplitl [H25]; · iexact H25
  iintro ⟨H5, H6, H13, H20, H25⟩
  rw [wp_bind]; iapply (part4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H7]; · iexact H7
  isplitl [H8]; · iexact H8
  isplitl [H14]; · iexact H14
  isplitl [H21]; · iexact H21
  isplitl [H25]; · iexact H25
  isplitl [H26]; · iexact H26
  iintro ⟨H7, H8, H14, H21, H25, H26⟩
  rw [wp_bind]; iapply (part5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H9]; · iexact H9
  isplitl [H10]; · iexact H10
  isplitl [H11]; · iexact H11
  isplitl [H15]; · iexact H15
  isplitl [H17]; · iexact H17
  isplitl [H26]; · iexact H26
  isplitl [H27]; · iexact H27
  iintro ⟨H9, H10, H11, H15, H17, H26, H27⟩
  rw [wp_bind]; iapply (load_own c arg18 y18); isplitl [H18]; · iexact H18
  iintro H18
  rw [wp_bind]; iapply (store_own c arg18 y18); isplitl [H18]; · iexact H18
  iintro H18
  rw [wp_bind]; iapply (load_own c arg12 x.x12); isplitl [H12]; · iexact H12
  iintro H12
  rw [wp_bind]; iapply (load_own c arg19 y19); isplitl [H19]; · iexact H19
  iintro H19
  rw [wp_bind]; iapply (store_own c arg19 y19); isplitl [H19]; · iexact H19
  iintro H19
  rw [dif_neg hd]
  rw [put_halves y17 (fun _ => k0_pay33 x.dm (k0_pay26 x.x8) x.x9 (ix2 0 0))]
  iapply le_wp_ret
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- A tile between: the carried gradients gain this tile's contributions. -/
theorem body_mid (hc : ¬cond0_0 i) (hd : ¬cond0_1 i) (y16 : Vec F S256x1024 .f32) (y17 : Vec F S256x2048 .bf16) (y18 : Vec F S256x1280 .f32) (y19 : Vec F S256x512 .f32) (y22 : Vec F S1024x1024 .bf16) (y23 : Vec F S1280x1024 .bf16) (y24 : Vec F S4x512x256 .bf16) {K : PUnit → sProp 𝕄} :
    iprop(owns (c : Thread nD τ) arg1 fullShare x.x1
        ∗ owns (c : Thread nD τ) arg2 fullShare x.x2
        ∗ owns (c : Thread nD τ) arg3 fullShare x.x3
        ∗ owns (c : Thread nD τ) arg4 fullShare x.x4
        ∗ owns (c : Thread nD τ) arg5 fullShare x.x5
        ∗ owns (c : Thread nD τ) arg6 fullShare x.x6
        ∗ owns (c : Thread nD τ) arg7 fullShare x.x7
        ∗ owns (c : Thread nD τ) arg8 fullShare x.x8
        ∗ owns (c : Thread nD τ) arg9 fullShare x.x9
        ∗ owns (c : Thread nD τ) arg10 fullShare x.x10
        ∗ owns (c : Thread nD τ) arg11 fullShare x.x11
        ∗ owns (c : Thread nD τ) arg12 fullShare x.x12
        ∗ owns (c : Thread nD τ) arg13 fullShare x.x13
        ∗ owns (c : Thread nD τ) arg14 fullShare x.x14
        ∗ owns (c : Thread nD τ) arg15 fullShare x.x15
        ∗ owns (c : Thread nD τ) arg16 fullShare y16
        ∗ owns (c : Thread nD τ) arg17 fullShare y17
        ∗ owns (c : Thread nD τ) arg18 fullShare y18
        ∗ owns (c : Thread nD τ) arg19 fullShare y19
        ∗ owns (c : Thread nD τ) arg20 fullShare a.gf
        ∗ owns (c : Thread nD τ) arg21 fullShare a.gm
        ∗ owns (c : Thread nD τ) arg22 fullShare y22
        ∗ owns (c : Thread nD τ) arg23 fullShare y23
        ∗ owns (c : Thread nD τ) arg24 fullShare y24
        ∗ owns (c : Thread nD τ) arg25 fullShare a.wo
        ∗ owns (c : Thread nD τ) arg26 fullShare a.wr
        ∗ owns (c : Thread nD τ) arg27 fullShare a.wa
        ∗ (iprop(owns (c : Thread nD τ) arg1 fullShare x.x1
        ∗ owns (c : Thread nD τ) arg2 fullShare x.x2
        ∗ owns (c : Thread nD τ) arg3 fullShare x.x3
        ∗ owns (c : Thread nD τ) arg4 fullShare x.x4
        ∗ owns (c : Thread nD τ) arg5 fullShare x.x5
        ∗ owns (c : Thread nD τ) arg6 fullShare x.x6
        ∗ owns (c : Thread nD τ) arg7 fullShare x.x7
        ∗ owns (c : Thread nD τ) arg8 fullShare x.x8
        ∗ owns (c : Thread nD τ) arg9 fullShare x.x9
        ∗ owns (c : Thread nD τ) arg10 fullShare x.x10
        ∗ owns (c : Thread nD τ) arg11 fullShare x.x11
        ∗ owns (c : Thread nD τ) arg12 fullShare x.x12
        ∗ owns (c : Thread nD τ) arg13 fullShare x.x13
        ∗ owns (c : Thread nD τ) arg14 fullShare x.x14
        ∗ owns (c : Thread nD τ) arg15 fullShare x.x15
        ∗ owns (c : Thread nD τ) arg16 fullShare x.dh
        ∗ owns (c : Thread nD τ) arg17 fullShare x.dgts
        ∗ owns (c : Thread nD τ) arg18 fullShare x.dyr
        ∗ owns (c : Thread nD τ) arg19 fullShare x.doa
        ∗ owns (c : Thread nD τ) arg20 fullShare (x.step a).gf
        ∗ owns (c : Thread nD τ) arg21 fullShare (x.step a).gm
        ∗ owns (c : Thread nD τ) arg22 fullShare y22
        ∗ owns (c : Thread nD τ) arg23 fullShare y23
        ∗ owns (c : Thread nD τ) arg24 fullShare y24
        ∗ owns (c : Thread nD τ) arg25 fullShare (x.step a).wo
        ∗ owns (c : Thread nD τ) arg26 fullShare (x.step a).wr
        ∗ owns (c : Thread nD τ) arg27 fullShare (x.step a).wa) -∗ K ⟨⟩))
      ⊢ wp frame (wpE (defs₀ (F := F)) Variants.none c none) E (cc0_mid_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [cc0_mid_bwd_eq_skeleton]; unfold cc0_mid_bwd_skel
  iintro ⟨H1, H2, H3, H4, H5, H6, H7, H8, H9, H10, H11, H12, H13, H14, H15, H16, H17, H18, H19, H20, H21, H22, H23, H24, H25, H26, H27, Hk⟩
  rw [wp_bind]; iapply (part2_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc)
  isplitl [H1]; · iexact H1
  isplitl [H2]; · iexact H2
  isplitl [H3]; · iexact H3
  isplitl [H4]; · iexact H4
  isplitl [H16]; · iexact H16
  isplitl [H20]; · iexact H20
  iintro ⟨H1, H2, H3, H4, H16, H20⟩
  rw [wp_bind]; iapply (part3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H5]; · iexact H5
  isplitl [H6]; · iexact H6
  isplitl [H13]; · iexact H13
  isplitl [H20]; · iexact H20
  isplitl [H25]; · iexact H25
  iintro ⟨H5, H6, H13, H20, H25⟩
  rw [wp_bind]; iapply (part4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H7]; · iexact H7
  isplitl [H8]; · iexact H8
  isplitl [H14]; · iexact H14
  isplitl [H21]; · iexact H21
  isplitl [H25]; · iexact H25
  isplitl [H26]; · iexact H26
  iintro ⟨H7, H8, H14, H21, H25, H26⟩
  rw [wp_bind]; iapply (part5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H9]; · iexact H9
  isplitl [H10]; · iexact H10
  isplitl [H11]; · iexact H11
  isplitl [H15]; · iexact H15
  isplitl [H17]; · iexact H17
  isplitl [H26]; · iexact H26
  isplitl [H27]; · iexact H27
  iintro ⟨H9, H10, H11, H15, H17, H26, H27⟩
  rw [wp_bind]; iapply (load_own c arg18 y18); isplitl [H18]; · iexact H18
  iintro H18
  rw [wp_bind]; iapply (store_own c arg18 y18); isplitl [H18]; · iexact H18
  iintro H18
  rw [wp_bind]; iapply (load_own c arg12 x.x12); isplitl [H12]; · iexact H12
  iintro H12
  rw [wp_bind]; iapply (load_own c arg19 y19); isplitl [H19]; · iexact H19
  iintro H19
  rw [wp_bind]; iapply (store_own c arg19 y19); isplitl [H19]; · iexact H19
  iintro H19
  rw [dif_neg hd]
  rw [put_halves y17 (fun _ => k0_pay33 x.dm (k0_pay26 x.x8) x.x9 (ix2 0 0))]
  iapply le_wp_ret
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The last tile: the carried gradients gain this tile's contributions and are handed out. -/
theorem body_last (hc : ¬cond0_0 i) (hd : cond0_1 i) (y16 : Vec F S256x1024 .f32) (y17 : Vec F S256x2048 .bf16) (y18 : Vec F S256x1280 .f32) (y19 : Vec F S256x512 .f32) (y22 : Vec F S1024x1024 .bf16) (y23 : Vec F S1280x1024 .bf16) (y24 : Vec F S4x512x256 .bf16) {K : PUnit → sProp 𝕄} :
    iprop(owns (c : Thread nD τ) arg1 fullShare x.x1
        ∗ owns (c : Thread nD τ) arg2 fullShare x.x2
        ∗ owns (c : Thread nD τ) arg3 fullShare x.x3
        ∗ owns (c : Thread nD τ) arg4 fullShare x.x4
        ∗ owns (c : Thread nD τ) arg5 fullShare x.x5
        ∗ owns (c : Thread nD τ) arg6 fullShare x.x6
        ∗ owns (c : Thread nD τ) arg7 fullShare x.x7
        ∗ owns (c : Thread nD τ) arg8 fullShare x.x8
        ∗ owns (c : Thread nD τ) arg9 fullShare x.x9
        ∗ owns (c : Thread nD τ) arg10 fullShare x.x10
        ∗ owns (c : Thread nD τ) arg11 fullShare x.x11
        ∗ owns (c : Thread nD τ) arg12 fullShare x.x12
        ∗ owns (c : Thread nD τ) arg13 fullShare x.x13
        ∗ owns (c : Thread nD τ) arg14 fullShare x.x14
        ∗ owns (c : Thread nD τ) arg15 fullShare x.x15
        ∗ owns (c : Thread nD τ) arg16 fullShare y16
        ∗ owns (c : Thread nD τ) arg17 fullShare y17
        ∗ owns (c : Thread nD τ) arg18 fullShare y18
        ∗ owns (c : Thread nD τ) arg19 fullShare y19
        ∗ owns (c : Thread nD τ) arg20 fullShare a.gf
        ∗ owns (c : Thread nD τ) arg21 fullShare a.gm
        ∗ owns (c : Thread nD τ) arg22 fullShare y22
        ∗ owns (c : Thread nD τ) arg23 fullShare y23
        ∗ owns (c : Thread nD τ) arg24 fullShare y24
        ∗ owns (c : Thread nD τ) arg25 fullShare a.wo
        ∗ owns (c : Thread nD τ) arg26 fullShare a.wr
        ∗ owns (c : Thread nD τ) arg27 fullShare a.wa
        ∗ (iprop(owns (c : Thread nD τ) arg1 fullShare x.x1
        ∗ owns (c : Thread nD τ) arg2 fullShare x.x2
        ∗ owns (c : Thread nD τ) arg3 fullShare x.x3
        ∗ owns (c : Thread nD τ) arg4 fullShare x.x4
        ∗ owns (c : Thread nD τ) arg5 fullShare x.x5
        ∗ owns (c : Thread nD τ) arg6 fullShare x.x6
        ∗ owns (c : Thread nD τ) arg7 fullShare x.x7
        ∗ owns (c : Thread nD τ) arg8 fullShare x.x8
        ∗ owns (c : Thread nD τ) arg9 fullShare x.x9
        ∗ owns (c : Thread nD τ) arg10 fullShare x.x10
        ∗ owns (c : Thread nD τ) arg11 fullShare x.x11
        ∗ owns (c : Thread nD τ) arg12 fullShare x.x12
        ∗ owns (c : Thread nD τ) arg13 fullShare x.x13
        ∗ owns (c : Thread nD τ) arg14 fullShare x.x14
        ∗ owns (c : Thread nD τ) arg15 fullShare x.x15
        ∗ owns (c : Thread nD τ) arg16 fullShare x.dh
        ∗ owns (c : Thread nD τ) arg17 fullShare x.dgts
        ∗ owns (c : Thread nD τ) arg18 fullShare x.dyr
        ∗ owns (c : Thread nD τ) arg19 fullShare x.doa
        ∗ owns (c : Thread nD τ) arg20 fullShare (x.step a).gf
        ∗ owns (c : Thread nD τ) arg21 fullShare (x.step a).gm
        ∗ owns (c : Thread nD τ) arg22 fullShare (k0_pay2 (x.step a).wo)
        ∗ owns (c : Thread nD τ) arg23 fullShare (k0_pay3 (x.step a).wr)
        ∗ owns (c : Thread nD τ) arg24 fullShare (slabs (x.step a).wa)
        ∗ owns (c : Thread nD τ) arg25 fullShare (x.step a).wo
        ∗ owns (c : Thread nD τ) arg26 fullShare (x.step a).wr
        ∗ owns (c : Thread nD τ) arg27 fullShare (x.step a).wa) -∗ K ⟨⟩))
      ⊢ wp frame (wpE (defs₀ (F := F)) Variants.none c none) E (cc0_mid_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [cc0_mid_bwd_eq_skeleton]; unfold cc0_mid_bwd_skel
  iintro ⟨H1, H2, H3, H4, H5, H6, H7, H8, H9, H10, H11, H12, H13, H14, H15, H16, H17, H18, H19, H20, H21, H22, H23, H24, H25, H26, H27, Hk⟩
  rw [wp_bind]; iapply (part2_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc)
  isplitl [H1]; · iexact H1
  isplitl [H2]; · iexact H2
  isplitl [H3]; · iexact H3
  isplitl [H4]; · iexact H4
  isplitl [H16]; · iexact H16
  isplitl [H20]; · iexact H20
  iintro ⟨H1, H2, H3, H4, H16, H20⟩
  rw [wp_bind]; iapply (part3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H5]; · iexact H5
  isplitl [H6]; · iexact H6
  isplitl [H13]; · iexact H13
  isplitl [H20]; · iexact H20
  isplitl [H25]; · iexact H25
  iintro ⟨H5, H6, H13, H20, H25⟩
  rw [wp_bind]; iapply (part4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H7]; · iexact H7
  isplitl [H8]; · iexact H8
  isplitl [H14]; · iexact H14
  isplitl [H21]; · iexact H21
  isplitl [H25]; · iexact H25
  isplitl [H26]; · iexact H26
  iintro ⟨H7, H8, H14, H21, H25, H26⟩
  rw [wp_bind]; iapply (part5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H9]; · iexact H9
  isplitl [H10]; · iexact H10
  isplitl [H11]; · iexact H11
  isplitl [H15]; · iexact H15
  isplitl [H17]; · iexact H17
  isplitl [H26]; · iexact H26
  isplitl [H27]; · iexact H27
  iintro ⟨H9, H10, H11, H15, H17, H26, H27⟩
  rw [wp_bind]; iapply (load_own c arg18 y18); isplitl [H18]; · iexact H18
  iintro H18
  rw [wp_bind]; iapply (store_own c arg18 y18); isplitl [H18]; · iexact H18
  iintro H18
  rw [wp_bind]; iapply (load_own c arg12 x.x12); isplitl [H12]; · iexact H12
  iintro H12
  rw [wp_bind]; iapply (load_own c arg19 y19); isplitl [H19]; · iexact H19
  iintro H19
  rw [wp_bind]; iapply (store_own c arg19 y19); isplitl [H19]; · iexact H19
  iintro H19
  rw [dif_pos hd]
  rw [wp_bind]; iapply (part1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 )
  isplitl [H22]; · iexact H22
  isplitl [H23]; · iexact H23
  isplitl [H24]; · iexact H24
  isplitl [H25]; · iexact H25
  isplitl [H26]; · iexact H26
  isplitl [H27]; · iexact H27
  iintro ⟨H22, H23, H24, H25, H26, H27⟩
  rw [put_halves y17 (fun _ => k0_pay33 x.dm (k0_pay26 x.x8) x.x9 (ix2 0 0))]
  iapply le_wp_ret
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

end Cert.KernelIdeal.Own

end
-- ==== Proof.Tiles.lean ====
module

public import Idealize.ShloMosaic.Lib.Claim
public import proofs.«01_k».proof.Proof.Body

@[expose] public section

set_option maxRecDepth 16384

noncomputable section

/-! The proof data of the call's pipeline (what every tile leaves, what it carries) and the body
at every tile. -/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of tile `t`. -/
def tile (c : Dev nD) (t : Fin cfg0.N) : Ins F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t
  x13 := iblk m c 12 t
  x14 := iblk m c 13 t
  x15 := iblk m c 14 t

/-- The carried gradients after tile `n`. -/
def carried (c : Dev nD) : (n : ℕ) → n < cfg0.N → Acc F
  | 0, h => (tile m c ⟨0, h⟩).step Acc.start
  | n + 1, h => (tile m c ⟨n + 1, h⟩).step (carried c n (Nat.lt_of_succ_lt h))

theorem carried_first (c : Dev nD) (t : Fin cfg0.N) (hz : t.val = 0) :
    carried m c t.val t.isLt = (tile m c t).step Acc.start := by
  obtain ⟨n, h⟩ := t
  subst hz
  rfl

theorem carried_next (c : Dev nD) (t : Fin cfg0.N) (hz : t.val ≠ 0) :
    carried m c t.val t.isLt = (tile m c t).step (carried m c (t.val - 1) (Nat.lt_of_le_of_lt (Nat.sub_le _ _) t.isLt)) := by
  obtain ⟨n, h⟩ := t
  cases n with
  | zero => exact absurd rfl hz
  | succ n => rfl

/-- Between tiles: before the first the scratch buffers hold anything; after tile `n` they hold the weights' carried
gradients. The random-number register is in some state throughout. -/
def between (c : Dev nD) : (n : ℕ) → n ≤ cfg0.N → sProp 𝕄
  | 0, _ => Pipeline.ΦA spec0 c
  | n + 1, hn => iprop(iprop(owns (c : Thread nD τ) scM0_0 fullShare (carried m c n hn).wo
      ∗ owns (c : Thread nD τ) scM0_1 fullShare (carried m c n hn).wr
      ∗ owns (c : Thread nD τ) scM0_2 fullShare (carried m c n hn).wa) ∗ (∃ r, prngReg c r))

theorem between_zero (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn = iprop(iprop(owns (c : Thread nD τ) scM0_0 fullShare (carried m c n hn).wo
      ∗ owns (c : Thread nD τ) scM0_1 fullShare (carried m c n hn).wr
      ∗ owns (c : Thread nD τ) scM0_2 fullShare (carried m c n hn).wa) ∗ (∃ r, prngReg c r)) := rfl

theorem between_pos (c : Dev nD) (n : ℕ) (h : n ≤ cfg0.N) (hz : n ≠ 0) :
    between m c n h = iprop(iprop(owns (c : Thread nD τ) scM0_0 fullShare (carried m c (n - 1) (by omega)).wo
      ∗ owns (c : Thread nD τ) scM0_1 fullShare (carried m c (n - 1) (by omega)).wr
      ∗ owns (c : Thread nD τ) scM0_2 fullShare (carried m c (n - 1) (by omega)).wa) ∗ (∃ r, prngReg c r)) := by
  cases n with
  | zero => exact absurd rfl hz
  | succ n => rfl

/-- The pipeline's proof data: the arrays as the region finds them, what each tile leaves in every window's buffer,
what holds between tiles. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (tile m c t).dh
    | ⟨16, _⟩ => (tile m c t).dgts
    | ⟨17, _⟩ => (tile m c t).dyr
    | ⟨18, _⟩ => (tile m c t).doa
    | ⟨19, _⟩ => (carried m c t.val t.isLt).gf
    | ⟨20, _⟩ => (carried m c t.val t.isLt).gm
    | ⟨21, _⟩ => k0_pay2 (carried m c t.val t.isLt).wo
    | ⟨22, _⟩ => k0_pay3 (carried m c t.val t.isLt).wr
    | ⟨23, _⟩ => slabs (carried m c t.val t.isLt).wa
    | ⟨_ + 24, h⟩ => absurd h (Nat.not_lt.2 (Nat.le_add_left _ _))
  Φ t := between m c t.val (Nat.le_of_lt_succ t.isLt)
  q _ := fullShare
  owed _ := 0

theorem data_arrays (c : Dev nD) (w : Fin cfg0.W) : (data m 0 c).A w = V m c (Pipeline.arrRef spec0 w) := by
  dsimp only [data]

theorem data_between (c : Dev nD) (t : Fin cfg0.N) :
    (data m 0 c).Φ t.castSucc = between m c t.val (Nat.le_of_lt t.isLt) := by
  dsimp only [data]; exact Pipeline.Dat.Φ_castSucc (between m c) t

theorem leaves_0 (c : Dev nD) (t : Fin cfg0.N) : (data m 0 c).after 0 t = iblk m c 0 t := by dsimp only [data]
theorem leaves_1 (c : Dev nD) (t : Fin cfg0.N) : (data m 0 c).after 1 t = iblk m c 1 t := by dsimp only [data]
theorem leaves_2 (c : Dev nD) (t : Fin cfg0.N) : (data m 0 c).after 2 t = iblk m c 2 t := by dsimp only [data]
theorem leaves_3 (c : Dev nD) (t : Fin cfg0.N) : (data m 0 c).after 3 t = iblk m c 3 t := by dsimp only [data]
theorem leaves_4 (c : Dev nD) (t : Fin cfg0.N) : (data m 0 c).after 4 t = iblk m c 4 t := by dsimp only [data]
theorem leaves_5 (c : Dev nD) (t : Fin cfg0.N) : (data m 0 c).after 5 t = iblk m c 5 t := by dsimp only [data]
theorem leaves_6 (c : Dev nD) (t : Fin cfg0.N) : (data m 0 c).after 6 t = iblk m c 6 t := by dsimp only [data]
theorem leaves_7 (c : Dev nD) (t : Fin cfg0.N) : (data m 0 c).after 7 t = iblk m c 7 t := by dsimp only [data]
theorem leaves_8 (c : Dev nD) (t : Fin cfg0.N) : (data m 0 c).after 8 t = iblk m c 8 t := by dsimp only [data]
theorem leaves_9 (c : Dev nD) (t : Fin cfg0.N) : (data m 0 c).after 9 t = iblk m c 9 t := by dsimp only [data]
theorem leaves_10 (c : Dev nD) (t : Fin cfg0.N) : (data m 0 c).after 10 t = iblk m c 10 t := by dsimp only [data]
theorem leaves_11 (c : Dev nD) (t : Fin cfg0.N) : (data m 0 c).after 11 t = iblk m c 11 t := by dsimp only [data]
theorem leaves_12 (c : Dev nD) (t : Fin cfg0.N) : (data m 0 c).after 12 t = iblk m c 12 t := by dsimp only [data]
theorem leaves_13 (c : Dev nD) (t : Fin cfg0.N) : (data m 0 c).after 13 t = iblk m c 13 t := by dsimp only [data]
theorem leaves_14 (c : Dev nD) (t : Fin cfg0.N) : (data m 0 c).after 14 t = iblk m c 14 t := by dsimp only [data]
theorem leaves_15 (c : Dev nD) (t : Fin cfg0.N) : (data m 0 c).after 15 t = (tile m c t).dh := by dsimp only [data]
theorem leaves_16 (c : Dev nD) (t : Fin cfg0.N) : (data m 0 c).after 16 t = (tile m c t).dgts := by dsimp only [data]
theorem leaves_17 (c : Dev nD) (t : Fin cfg0.N) : (data m 0 c).after 17 t = (tile m c t).dyr := by dsimp only [data]
theorem leaves_18 (c : Dev nD) (t : Fin cfg0.N) : (data m 0 c).after 18 t = (tile m c t).doa := by dsimp only [data]
theorem leaves_19 (c : Dev nD) (t : Fin cfg0.N) : (data m 0 c).after 19 t = (carried m c t.val t.isLt).gf := by dsimp only [data]
theorem leaves_20 (c : Dev nD) (t : Fin cfg0.N) : (data m 0 c).after 20 t = (carried m c t.val t.isLt).gm := by dsimp only [data]
theorem leaves_21 (c : Dev nD) (t : Fin cfg0.N) : (data m 0 c).after 21 t = k0_pay2 (carried m c t.val t.isLt).wo := by dsimp only [data]
theorem leaves_22 (c : Dev nD) (t : Fin cfg0.N) : (data m 0 c).after 22 t = k0_pay3 (carried m c t.val t.isLt).wr := by dsimp only [data]
theorem leaves_23 (c : Dev nD) (t : Fin cfg0.N) : (data m 0 c).after 23 t = slabs (carried m c t.val t.isLt).wa := by dsimp only [data]
theorem finds_0 (c : Dev nD) (t : Fin cfg0.N) (d) : (data m 0 c).before 0 t d = iblk m c 0 t :=
  before0_0_of m (data m 0 c) (data_arrays m c 0) (leaves_0 m c) t d
theorem finds_1 (c : Dev nD) (t : Fin cfg0.N) (d) : (data m 0 c).before 1 t d = iblk m c 1 t :=
  before0_1_of m (data m 0 c) (data_arrays m c 1) (leaves_1 m c) t d
theorem finds_2 (c : Dev nD) (t : Fin cfg0.N) (d) : (data m 0 c).before 2 t d = iblk m c 2 t :=
  before0_2_of m (data m 0 c) (data_arrays m c 2) (leaves_2 m c) t d
theorem finds_3 (c : Dev nD) (t : Fin cfg0.N) (d) : (data m 0 c).before 3 t d = iblk m c 3 t :=
  before0_3_of m (data m 0 c) (data_arrays m c 3) (leaves_3 m c) t d
theorem finds_4 (c : Dev nD) (t : Fin cfg0.N) (d) : (data m 0 c).before 4 t d = iblk m c 4 t :=
  before0_4_of m (data m 0 c) (data_arrays m c 4) (leaves_4 m c) t d
theorem finds_5 (c : Dev nD) (t : Fin cfg0.N) (d) : (data m 0 c).before 5 t d = iblk m c 5 t :=
  before0_5_of m (data m 0 c) (data_arrays m c 5) (leaves_5 m c) t d
theorem finds_6 (c : Dev nD) (t : Fin cfg0.N) (d) : (data m 0 c).before 6 t d = iblk m c 6 t :=
  before0_6_of m (data m 0 c) (data_arrays m c 6) (leaves_6 m c) t d
theorem finds_7 (c : Dev nD) (t : Fin cfg0.N) (d) : (data m 0 c).before 7 t d = iblk m c 7 t :=
  before0_7_of m (data m 0 c) (data_arrays m c 7) (leaves_7 m c) t d
theorem finds_8 (c : Dev nD) (t : Fin cfg0.N) (d) : (data m 0 c).before 8 t d = iblk m c 8 t :=
  before0_8_of m (data m 0 c) (data_arrays m c 8) (leaves_8 m c) t d
theorem finds_9 (c : Dev nD) (t : Fin cfg0.N) (d) : (data m 0 c).before 9 t d = iblk m c 9 t :=
  before0_9_of m (data m 0 c) (data_arrays m c 9) (leaves_9 m c) t d
theorem finds_10 (c : Dev nD) (t : Fin cfg0.N) (d) : (data m 0 c).before 10 t d = iblk m c 10 t :=
  before0_10_of m (data m 0 c) (data_arrays m c 10) (leaves_10 m c) t d
theorem finds_11 (c : Dev nD) (t : Fin cfg0.N) (d) : (data m 0 c).before 11 t d = iblk m c 11 t :=
  before0_11_of m (data m 0 c) (data_arrays m c 11) (leaves_11 m c) t d
theorem finds_12 (c : Dev nD) (t : Fin cfg0.N) (d) : (data m 0 c).before 12 t d = iblk m c 12 t :=
  before0_12_of m (data m 0 c) (data_arrays m c 12) (leaves_12 m c) t d
theorem finds_13 (c : Dev nD) (t : Fin cfg0.N) (d) : (data m 0 c).before 13 t d = iblk m c 13 t :=
  before0_13_of m (data m 0 c) (data_arrays m c 13) (leaves_13 m c) t d
theorem finds_14 (c : Dev nD) (t : Fin cfg0.N) (d) : (data m 0 c).before 14 t d = iblk m c 14 t :=
  before0_14_of m (data m 0 c) (data_arrays m c 14) (leaves_14 m c) t d

/-- On a tile after the first the buffer of window 19 still holds what the tile before left. -/
theorem finds_19 (c : Dev nD) (t : Fin cfg0.N) (h0 : ¬t.val % 32 = 0) (d) :
    (data m 0 c).before 19 t d = (carried m c (t.val - 1) (Nat.lt_of_le_of_lt (Nat.sub_le _ _) t.isLt)).gf := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [data]

/-- On a tile after the first the buffer of window 20 still holds what the tile before left. -/
theorem finds_20 (c : Dev nD) (t : Fin cfg0.N) (h0 : ¬t.val % 32 = 0) (d) :
    (data m 0 c).before 20 t d = (carried m c (t.val - 1) (Nat.lt_of_le_of_lt (Nat.sub_le _ _) t.isLt)).gm := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [data]

theorem gives_0 (c : Dev nD) (t : Fin cfg0.N) :
    (data m 0 c).leavesExact 0 t = owns (c : Thread nD τ) (ms0_0 t) fullShare (iblk m c 0 t) := by
  unfold Dat.leavesExact; rw [liveAt0_0 t, leaves_0]
theorem gives_1 (c : Dev nD) (t : Fin cfg0.N) :
    (data m 0 c).leavesExact 1 t = owns (c : Thread nD τ) (ms0_1 t) fullShare (iblk m c 1 t) := by
  unfold Dat.leavesExact; rw [liveAt0_1 t, leaves_1]
theorem gives_2 (c : Dev nD) (t : Fin cfg0.N) :
    (data m 0 c).leavesExact 2 t = owns (c : Thread nD τ) (ms0_2 t) fullShare (iblk m c 2 t) := by
  unfold Dat.leavesExact; rw [liveAt0_2 t, leaves_2]
theorem gives_3 (c : Dev nD) (t : Fin cfg0.N) :
    (data m 0 c).leavesExact 3 t = owns (c : Thread nD τ) (ms0_3 t) fullShare (iblk m c 3 t) := by
  unfold Dat.leavesExact; rw [liveAt0_3 t, leaves_3]
theorem gives_4 (c : Dev nD) (t : Fin cfg0.N) :
    (data m 0 c).leavesExact 4 t = owns (c : Thread nD τ) (ms0_4 t) fullShare (iblk m c 4 t) := by
  unfold Dat.leavesExact; rw [liveAt0_4 t, leaves_4]
theorem gives_5 (c : Dev nD) (t : Fin cfg0.N) :
    (data m 0 c).leavesExact 5 t = owns (c : Thread nD τ) (ms0_5 t) fullShare (iblk m c 5 t) := by
  unfold Dat.leavesExact; rw [liveAt0_5 t, leaves_5]
theorem gives_6 (c : Dev nD) (t : Fin cfg0.N) :
    (data m 0 c).leavesExact 6 t = owns (c : Thread nD τ) (ms0_6 t) fullShare (iblk m c 6 t) := by
  unfold Dat.leavesExact; rw [liveAt0_6 t, leaves_6]
theorem gives_7 (c : Dev nD) (t : Fin cfg0.N) :
    (data m 0 c).leavesExact 7 t = owns (c : Thread nD τ) (ms0_7 t) fullShare (iblk m c 7 t) := by
  unfold Dat.leavesExact; rw [liveAt0_7 t, leaves_7]
theorem gives_8 (c : Dev nD) (t : Fin cfg0.N) :
    (data m 0 c).leavesExact 8 t = owns (c : Thread nD τ) (ms0_8 t) fullShare (iblk m c 8 t) := by
  unfold Dat.leavesExact; rw [liveAt0_8 t, leaves_8]
theorem gives_9 (c : Dev nD) (t : Fin cfg0.N) :
    (data m 0 c).leavesExact 9 t = owns (c : Thread nD τ) (ms0_9 t) fullShare (iblk m c 9 t) := by
  unfold Dat.leavesExact; rw [liveAt0_9 t, leaves_9]
theorem gives_10 (c : Dev nD) (t : Fin cfg0.N) :
    (data m 0 c).leavesExact 10 t = owns (c : Thread nD τ) (ms0_10 t) fullShare (iblk m c 10 t) := by
  unfold Dat.leavesExact; rw [liveAt0_10 t, leaves_10]
theorem gives_11 (c : Dev nD) (t : Fin cfg0.N) :
    (data m 0 c).leavesExact 11 t = owns (c : Thread nD τ) (ms0_11 t) fullShare (iblk m c 11 t) := by
  unfold Dat.leavesExact; rw [liveAt0_11 t, leaves_11]
theorem gives_12 (c : Dev nD) (t : Fin cfg0.N) :
    (data m 0 c).leavesExact 12 t = owns (c : Thread nD τ) (ms0_12 t) fullShare (iblk m c 12 t) := by
  unfold Dat.leavesExact; rw [liveAt0_12 t, leaves_12]
theorem gives_13 (c : Dev nD) (t : Fin cfg0.N) :
    (data m 0 c).leavesExact 13 t = owns (c : Thread nD τ) (ms0_13 t) fullShare (iblk m c 13 t) := by
  unfold Dat.leavesExact; rw [liveAt0_13 t, leaves_13]
theorem gives_14 (c : Dev nD) (t : Fin cfg0.N) :
    (data m 0 c).leavesExact 14 t = owns (c : Thread nD τ) (ms0_14 t) fullShare (iblk m c 14 t) := by
  unfold Dat.leavesExact; rw [liveAt0_14 t, leaves_14]
theorem gives_15 (c : Dev nD) (t : Fin cfg0.N) :
    (data m 0 c).leavesExact 15 t = owns (c : Thread nD τ) (ms0_15 t) fullShare ((tile m c t).dh) := by
  unfold Dat.leavesExact; rw [liveAt0_15 t, leaves_15]
theorem gives_16 (c : Dev nD) (t : Fin cfg0.N) :
    (data m 0 c).leavesExact 16 t = owns (c : Thread nD τ) (ms0_16 t) fullShare ((tile m c t).dgts) := by
  unfold Dat.leavesExact; rw [liveAt0_16 t, leaves_16]
theorem gives_17 (c : Dev nD) (t : Fin cfg0.N) :
    (data m 0 c).leavesExact 17 t = owns (c : Thread nD τ) (ms0_17 t) fullShare ((tile m c t).dyr) := by
  unfold Dat.leavesExact; rw [liveAt0_17 t, leaves_17]
theorem gives_18 (c : Dev nD) (t : Fin cfg0.N) :
    (data m 0 c).leavesExact 18 t = owns (c : Thread nD τ) (ms0_18 t) fullShare ((tile m c t).doa) := by
  unfold Dat.leavesExact; rw [liveAt0_18 t, leaves_18]
theorem gives_19 (c : Dev nD) (t : Fin cfg0.N) :
    (data m 0 c).leavesExact 19 t = owns (c : Thread nD τ) (ms0_19 t) fullShare ((carried m c t.val t.isLt).gf) := by
  unfold Dat.leavesExact; rw [liveAt0_19 t, leaves_19]
theorem gives_20 (c : Dev nD) (t : Fin cfg0.N) :
    (data m 0 c).leavesExact 20 t = owns (c : Thread nD τ) (ms0_20 t) fullShare ((carried m c t.val t.isLt).gm) := by
  unfold Dat.leavesExact; rw [liveAt0_20 t, leaves_20]
theorem gives_21 (c : Dev nD) (t : Fin cfg0.N) (h0 : ¬cond0_0 (grid0.coords t)) (h1 : cond0_1 (grid0.coords t)) :
    (data m 0 c).leavesExact 21 t = owns (c : Thread nD τ) (ms0_21 t) fullShare (k0_pay2 (carried m c t.val t.isLt).wo) := by
  unfold Dat.leavesExact; rw [liveAt0_21_C t h0 h1, leaves_21]
theorem gives_22 (c : Dev nD) (t : Fin cfg0.N) (h0 : ¬cond0_0 (grid0.coords t)) (h1 : cond0_1 (grid0.coords t)) :
    (data m 0 c).leavesExact 22 t = owns (c : Thread nD τ) (ms0_22 t) fullShare (k0_pay3 (carried m c t.val t.isLt).wr) := by
  unfold Dat.leavesExact; rw [liveAt0_22_C t h0 h1, leaves_22]
theorem gives_23 (c : Dev nD) (t : Fin cfg0.N) (h0 : ¬cond0_0 (grid0.coords t)) (h1 : cond0_1 (grid0.coords t)) :
    (data m 0 c).leavesExact 23 t = owns (c : Thread nD τ) (ms0_23 t) fullShare (slabs (carried m c t.val t.isLt).wa) := by
  unfold Dat.leavesExact; rw [liveAt0_23_C t h0 h1, leaves_23]

/-- What the body is called with at tile `t`. -/
def bodyPre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d))
    ∗ (∃ d, owns (c : Thread nD τ) (ms0_17 t) fullShare ((data m 0 c).before 17 t d))
    ∗ (∃ d, owns (c : Thread nD τ) (ms0_18 t) fullShare ((data m 0 c).before 18 t d))
    ∗ (∃ d, owns (c : Thread nD τ) (ms0_19 t) fullShare ((data m 0 c).before 19 t d))
    ∗ (∃ d, owns (c : Thread nD τ) (ms0_20 t) fullShare ((data m 0 c).before 20 t d))
    ∗ (∃ d, owns (c : Thread nD τ) (ms0_21 t) fullShare ((data m 0 c).before 21 t d))
    ∗ (∃ d, owns (c : Thread nD τ) (ms0_22 t) fullShare ((data m 0 c).before 22 t d))
    ∗ (∃ d, owns (c : Thread nD τ) (ms0_23 t) fullShare ((data m 0 c).before 23 t d)))

/-- What it returns. -/
def bodyPost (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t
    ∗ (data m 0 c).leavesExact 12 t
    ∗ (data m 0 c).leavesExact 13 t
    ∗ (data m 0 c).leavesExact 14 t
    ∗ (data m 0 c).leavesExact 15 t
    ∗ (data m 0 c).leavesExact 16 t
    ∗ (data m 0 c).leavesExact 17 t
    ∗ (data m 0 c).leavesExact 18 t
    ∗ (data m 0 c).leavesExact 19 t
    ∗ (data m 0 c).leavesExact 20 t
    ∗ (data m 0 c).leavesExact 21 t
    ∗ (data m 0 c).leavesExact 22 t
    ∗ (data m 0 c).leavesExact 23 t)

set_option maxHeartbeats 1600000 in
theorem tile_first (c : Dev nD) (t : Fin cfg0.N) (h0 : t.val % 32 = 0) (h1 : ¬t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hc : cond0_0 (grid0.coords t) := (hcond0_0 t).mpr h0
  have hd : ¬cond0_1 (grid0.coords t) := fun h => h1 ((hcond0_1 t).mp h)
  unfold bodyPre bodyPost bodyAt0
  simp only [finds_0, finds_1, finds_2, finds_3, finds_4, finds_5, finds_6, finds_7, finds_8, finds_9, finds_10, finds_11, finds_12, finds_13, finds_14]
  rw [show (data m 0 c).owesAt () t.succ = (data m 0 c).owesAt () t.castSucc from rfl]
  rw [show (data m 0 c).Φ t.succ = between m c (t.val + 1) t.isLt from rfl, between_succ]
  rw [gives_0, gives_1, gives_2, gives_3, gives_4, gives_5, gives_6, gives_7, gives_8, gives_9, gives_10, gives_11, gives_12, gives_13, gives_14, gives_15, gives_16, gives_17, gives_18, gives_19, gives_20]
  rw [Dat.leavesExact_idle (data m 0 c) 21 t (idleAt0_21_A t hc hd) (noFlush0_21_A t hc hd), Dat.leavesExact_idle (data m 0 c) 22 t (idleAt0_22_A t hc hd) (noFlush0_22_A t hc hd), Dat.leavesExact_idle (data m 0 c) 23 t (idleAt0_23_A t hc hd) (noFlush0_23_A t hc hd)]
  rw [data_between m c t, between_zero m c _ _ (by omega), PhiA0_eq, carried_first m c t (by omega)]
  iintro ⟨⟨⟨⟨%s25, H25⟩, ⟨%s26, H26⟩, ⟨%s27, H27⟩⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body_first c (grid0.coords t) _ _ _ _ _ _ _ _ _ _ _ _ _ _ _ _ _ _ _ _ _ _ _ _ _ _ _ _ _ _ _ _ _ _ _ _ _ _ _ _ _ _ _ _ _ _ _ _ _ _ _ _ _ _ (tile m c t) hc hd _ _ _ _ _ _ _ _ _ _ _ _ )
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H1, H2, H3, H4, H5, H6, H7, H8, H9, H10, H11, H12, H13, H14, H15, H16, H17, H18, H19, H20, H21, H22, H23, H24, H25, H26, H27⟩
  isplitl [H25 H26 H27 Hg]
  · isplitl [H25 H26 H27]
    · isplitl [H25]; · iexact H25
      isplitl [H26]; · iexact H26
      iexact H27
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  iexists _; iexact H24

set_option maxHeartbeats 1600000 in
theorem tile_mid (c : Dev nD) (t : Fin cfg0.N) (h0 : ¬t.val % 32 = 0) (h1 : ¬t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hc : ¬cond0_0 (grid0.coords t) := fun h => h0 ((hcond0_0 t).mp h)
  have hd : ¬cond0_1 (grid0.coords t) := fun h => h1 ((hcond0_1 t).mp h)
  unfold bodyPre bodyPost bodyAt0
  simp only [finds_0, finds_1, finds_2, finds_3, finds_4, finds_5, finds_6, finds_7, finds_8, finds_9, finds_10, finds_11, finds_12, finds_13, finds_14]
  simp only [finds_19 m c t h0, finds_20 m c t h0]
  rw [show (data m 0 c).owesAt () t.succ = (data m 0 c).owesAt () t.castSucc from rfl]
  rw [show (data m 0 c).Φ t.succ = between m c (t.val + 1) t.isLt from rfl, between_succ]
  rw [gives_0, gives_1, gives_2, gives_3, gives_4, gives_5, gives_6, gives_7, gives_8, gives_9, gives_10, gives_11, gives_12, gives_13, gives_14, gives_15, gives_16, gives_17, gives_18, gives_19, gives_20]
  rw [Dat.leavesExact_idle (data m 0 c) 21 t (idleAt0_21_B t hc hd) (noFlush0_21_B t hc hd), Dat.leavesExact_idle (data m 0 c) 22 t (idleAt0_22_B t hc hd) (noFlush0_22_B t hc hd), Dat.leavesExact_idle (data m 0 c) 23 t (idleAt0_23_B t hc hd) (noFlush0_23_B t hc hd)]
  rw [data_between m c t, between_pos m c _ _ (by omega), carried_next m c t (by omega)]
  iintro ⟨⟨⟨H25, H26, H27⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body_mid c (grid0.coords t) _ _ _ _ _ _ _ _ _ _ _ _ _ _ _ _ _ _ _ _ _ _ _ _ _ _ _ _ _ _ _ _ _ _ _ _ _ _ _ _ _ _ _ _ _ _ _ _ _ _ _ _ _ _ (tile m c t) (carried m c (t.val - 1) (Nat.lt_of_le_of_lt (Nat.sub_le _ _) t.isLt)) hc hd _ _ _ _ _ _ _ )
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H1, H2, H3, H4, H5, H6, H7, H8, H9, H10, H11, H12, H13, H14, H15, H16, H17, H18, H19, H20, H21, H22, H23, H24, H25, H26, H27⟩
  isplitl [H25 H26 H27 Hg]
  · isplitl [H25 H26 H27]
    · isplitl [H25]; · iexact H25
      isplitl [H26]; · iexact H26
      iexact H27
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  iexists _; iexact H24

set_option maxHeartbeats 1600000 in
theorem tile_last (c : Dev nD) (t : Fin cfg0.N) (h0 : ¬t.val % 32 = 0) (h1 : t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hc : ¬cond0_0 (grid0.coords t) := fun h => h0 ((hcond0_0 t).mp h)
  have hd : cond0_1 (grid0.coords t) := (hcond0_1 t).mpr h1
  unfold bodyPre bodyPost bodyAt0
  simp only [finds_0, finds_1, finds_2, finds_3, finds_4, finds_5, finds_6, finds_7, finds_8, finds_9, finds_10, finds_11, finds_12, finds_13, finds_14]
  simp only [finds_19 m c t h0, finds_20 m c t h0]
  rw [show (data m 0 c).owesAt () t.succ = (data m 0 c).owesAt () t.castSucc from rfl]
  rw [show (data m 0 c).Φ t.succ = between m c (t.val + 1) t.isLt from rfl, between_succ]
  rw [gives_0, gives_1, gives_2, gives_3, gives_4, gives_5, gives_6, gives_7, gives_8, gives_9, gives_10, gives_11, gives_12, gives_13, gives_14, gives_15, gives_16, gives_17, gives_18, gives_19, gives_20]
  rw [gives_21 m c t hc hd, gives_22 m c t hc hd, gives_23 m c t hc hd]
  rw [data_between m c t, between_pos m c _ _ (by omega), carried_next m c t (by omega)]
  iintro ⟨⟨⟨H25, H26, H27⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body_last c (grid0.coords t) _ _ _ _ _ _ _ _ _ _ _ _ _ _ _ _ _ _ _ _ _ _ _ _ _ _ _ _ _ _ _ _ _ _ _ _ _ _ _ _ _ _ _ _ _ _ _ _ _ _ _ _ _ _ (tile m c t) (carried m c (t.val - 1) (Nat.lt_of_le_of_lt (Nat.sub_le _ _) t.isLt)) hc hd _ _ _ _ _ _ _ )
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H1, H2, H3, H4, H5, H6, H7, H8, H9, H10, H11, H12, H13, H14, H15, H16, H17, H18, H19, H20, H21, H22, H23, H24, H25, H26, H27⟩
  isplitl [H25 H26 H27 Hg]
  · isplitl [H25 H26 H27]
    · isplitl [H25]; · iexact H25
      isplitl [H26]; · iexact H26
      iexact H27
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

end Cert.KernelIdeal.Own

end
-- ==== Proof.Run.lean ====
module

public import proofs.«01_k».proof.Proof.Tiles

@[expose] public section

set_option maxRecDepth 16384

noncomputable section

/-! The launch. -/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any tile. -/
theorem tile_any (c : Dev nD) (t : Fin cfg0.N) :
    bodyPre m c t ⊢ wp frame (wpE (defs₀ (F := F)) Variants.none c none) Set.univ (bodyAt0 t) (fun _ => bodyPost m c t) := by
  by_cases h0 : t.val % 32 = 0
  · exact tile_first m c t h0 (by omega)
  · by_cases h1 : t.val % 32 = 31
    · exact tile_last m c t h0 h1
    · exact tile_mid m c t h0 h1

theorem body_row (t : Fin cfg0.N) :
    defs₀ (F := F) .tc cfg0.body (cfg0.bodyArgs t (cfg0.slots t)) = bodyAt0 t := by
  unfold defs₀; rw [Defs.onTc_tc]

set_option maxHeartbeats 1600000 in
/-- The pipeline's obligation for the body. -/
theorem obligation (c : Dev nD) : BodyObligation (data (F := F) m 0 c) (defs₀ (F := F)) Variants.none () Set.univ := fun t => by
  rw [bigSep_W0, bigSep_W0, body_row]
  exact triple_restated (tile_any m c t) rfl .rfl fun _ => .rfl

/-- Before the first tile nothing is known of the scratch buffers. -/
theorem enters (c : Dev nD) : Pipeline.ΦA spec0 c ⊢ (data m 0 c).Φ 0 := by
  rw [show (data m 0 c).Φ 0 = between m c 0 (Nat.zero_le _) from rfl, between_zero m c 0 _ rfl]
  try exact Idealize.SL.BI.Entails.refl _

/-- After the last tile what they hold is forgotten. -/
theorem leaves_all (c : Dev nD) : (data m 0 c).Φ (Fin.last cfg0.N) ⊢ Pipeline.ΦA spec0 c := by
  have hN : (Fin.last cfg0.N).val ≠ 0 := by rw [Fin.val_last]; have : cfg0.N = 32 := N_0; omega
  rw [show (data m 0 c).Φ (Fin.last cfg0.N) = between m c (Fin.last cfg0.N).val (Nat.le_of_lt_succ (Fin.last cfg0.N).isLt) from rfl,
    between_pos m c _ _ hN, PhiA0_eq]
  iintro ⟨⟨H0, H1, H2⟩, Hg⟩
  isplitl [H0 H1 H2]
  · isplitl [H0]
    · iexists _; iexact H0
    isplitl [H1]
    · iexists _; iexact H1
    iexists _; iexact H2
  iexact Hg

set_option backward.isDefEq.respectTransparency.types false in
/-- The launch: from any memory every run ends, with the pipeline's arrays at what its proof data say, every other buffer
as the region found it, and every semaphore at zero. -/
theorem run_quiescent : θ_run defs (onTc (τ := τ) (main (F := F))) (s₀ m ρ)
    (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arrays m) (hin := enters m) (hout := leaves_all m)

/-- The same without the semaphores. -/
theorem run : θ_run defs (onTc (τ := τ) (main (F := F))) (s₀ m ρ) (Pipeline.FramePost cfgs (data m) 0 (V m)) :=
  (θ_run defs _ _).mono (fun _ h => h.1) (run_quiescent m ρ)

end Cert.KernelIdeal.Own

end
-- ==== Proof.Frames.lean ====
module

public import proofs.«01_k».proof.Proof.Run
public import proofs.«01_k».proof.Defs
public import proofs.«01_k».proof.Proof.Gen.Kernel

/-! The kernel's frame: its arguments end unchanged and every semaphore at zero. -/

@[expose] public section

set_option maxRecDepth 16384

noncomputable section

namespace Cert.KernelIdeal.Own

open Idealize.ShloMosaic Idealize.ShloMosaic.TcCoe Idealize.SL.Sem
open Cert.KernelIdeal.Gen

/-- The frame, whatever the floats are. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10))
      ∧ r.2.sem = fun _ => 0) :=
  θ_run_and (frame_of m ρ (data m) (data_arrays m) (run m ρ)) ((θ_run defs _ _).mono (fun _ h => h.2) (run_quiescent m ρ))

/-- The frame of the program read over the reals. -/
theorem frame_ideal : Cert.quiescent_KernelIdeal := fun m ρ _ => frame (F := Ideal) m ρ

set_option backward.isDefEq.respectTransparency false in
set_option smartUnfolding false in
set_option maxHeartbeats 40000000 in
/-- The frame of the program read over the bits: the two programs' texts are one. -/
theorem frame_kernel : Cert.quiescent_Kernel := fun m ρ _ =>
  (θ_run (Cert.KernelIdeal.defs (F := Bits)) _ _).mono (fun _ h => h) (frame (F := Bits) m ρ)

end Cert.KernelIdeal.Own

end
-- ==== Proof.Scalar.lean ====
module

public import Idealize.ShloMosaic.Lib.Pointwise
public import Mathlib.Data.EReal.Basic
public import Mathlib.Data.EReal.Operations
public import Mathlib.Data.EReal.Inv

/-! The scalar mathematics of the gradient of an RMS norm and of a logistic gate, over the extended reals. -/

@[expose] public section

set_option maxRecDepth 16384

noncomputable section

namespace Cert.Grad

open Idealize.ShloMosaic

theorem lit_half : Ideal.ofBits .f32 0x3F000000#32 = (((1 : ℝ) / 2 : ℝ) : EReal) := by
  simp [Ideal.ofBits, Ideal.ieee, -EReal.coe_mul]; norm_num
theorem lit_neg_half : Ideal.ofBits .f32 0xBF000000#32 = ((-((1 : ℝ) / 2) : ℝ) : EReal) := by
  simp [Ideal.ofBits, Ideal.ieee, -EReal.coe_mul, -EReal.coe_neg]; norm_num
theorem lit_1024 : Ideal.ofBits .f32 0x44800000#32 = ((1024 : ℝ) : EReal) := by
  simp [Ideal.ofBits, Ideal.ieee, -EReal.coe_mul]; norm_num
theorem lit_inv_1024 : Ideal.ofBits .f32 0x3A800000#32 = (((1 : ℝ) / 1024 : ℝ) : EReal) := by
  simp [Ideal.ofBits, Ideal.ieee, -EReal.coe_mul]; norm_num
theorem lit_eps : ∃ e : ℝ, 0 < e ∧ Ideal.ofBits .f32 0x358637BD#32 = (e : EReal) :=
  ⟨(8796093 : ℝ) * 2 ^ (-43 : ℤ), by positivity, by
    simp [Ideal.ofBits, Ideal.ieee, -EReal.coe_mul]⟩

theorem div_coe (x : EReal) (r : ℝ) (hr : r ≠ 0) : Ideal.div x (r : EReal) = x * ((r⁻¹ : ℝ) : EReal) := by
  unfold Ideal.div
  rw [if_neg (by simpa using hr), EReal.coe_inv]

theorem add_self (a : EReal) : a + a = a * ((2 : ℝ) : EReal) := by
  induction a using EReal.rec with
  | bot => rw [EReal.bot_mul_coe_of_pos (by norm_num)]; rfl
  | top => rw [EReal.top_mul_coe_of_pos (by norm_num)]; rfl
  | coe x => rw [← EReal.coe_add, ← EReal.coe_mul]; congr 1; ring

theorem mul_self_nonneg (a : EReal) : 0 ≤ a * a := by
  induction a using EReal.rec with
  | bot => simp
  | top => simp
  | coe x => rw [← EReal.coe_mul]; exact_mod_cast _root_.mul_self_nonneg x

/-- The mean square of a row, plus the norm's epsilon. -/
def meanSq (u : Fin 1024 → EReal) : EReal :=
  Ideal.div (∑ k, u k * u k) (Ideal.ofBits .f32 0x44800000#32) + Ideal.ofBits .f32 0x358637BD#32

/-- The norm's factor. -/
def rinv (u : Fin 1024 → EReal) : EReal := Ideal.rsqrt (meanSq u)

theorem meanSq_cases (u : Fin 1024 → EReal) : meanSq u = ⊤ ∨ ∃ p : ℝ, 0 < p ∧ meanSq u = (p : EReal) := by
  obtain ⟨e, he, hee⟩ := lit_eps
  unfold meanSq
  rw [hee, lit_1024, div_coe _ _ (by norm_num)]
  have h0 : 0 ≤ ∑ k, u k * u k := Finset.sum_nonneg fun k _ => mul_self_nonneg _
  generalize (∑ k, u k * u k) = S at h0
  induction S using EReal.rec with
  | bot => simp at h0
  | top =>
    left
    rw [EReal.top_mul_coe_of_pos (by norm_num)]; rfl
  | coe x =>
    right
    refine ⟨x * (1024 : ℝ)⁻¹ + e, ?_, by rw [EReal.coe_add, EReal.coe_mul]⟩
    have : 0 ≤ x := by exact_mod_cast h0
    positivity

/-- The gradient of the norm with respect to its row, as the kernel writes it. -/
def normBwdK (dz u g : Fin 1024 → EReal) (j : Fin 1024) : EReal :=
  rinv u * (dz j * g j - u j * (rinv u * rinv u) * ((∑ k, dz k * g k * u k) * Ideal.ofBits .f32 0x3A800000#32))

/-- What comes to a row through the norm's mean square. -/
def viaMean (dz u g : Fin 1024 → EReal) : EReal :=
  Ideal.div ((∑ k, u k * (dz k * g k)) * (Ideal.ofBits .f32 0xBF000000#32 * Ideal.div (rinv u) (meanSq u)))
    (Ideal.ofBits .f32 0x44800000#32)

/-- The same gradient as differentiation line by line gives it. -/
def normBwdR (dz u g : Fin 1024 → EReal) (j : Fin 1024) : EReal :=
  dz j * g j * rinv u + u j * viaMean dz u g + viaMean dz u g * u j

theorem normBwd_eq (dz u g : Fin 1024 → EReal) (j : Fin 1024) : normBwdK dz u g j = normBwdR dz u g j := by
  unfold normBwdK normBwdR viaMean
  have hP : (∑ k, u k * (dz k * g k)) = ∑ k, dz k * g k * u k := Finset.sum_congr rfl fun k _ => mul_comm _ _
  rw [hP]
  generalize (∑ k, dz k * g k * u k) = P
  rw [lit_1024, lit_neg_half, lit_inv_1024, div_coe _ _ (by norm_num)]
  rcases meanSq_cases u with h | ⟨p, hp, h⟩
  · have hr : rinv u = 0 := by unfold rinv; rw [h]; rfl
    rw [hr, h]
    have : Ideal.div 0 ⊤ = 0 := by unfold Ideal.div; simp
    rw [this]; simp
  · have hr : rinv u = (((Real.sqrt p)⁻¹ : ℝ) : EReal) := by
      unfold rinv; rw [h]
      show (if p < 0 then (⊥ : EReal) else if p = 0 then ⊤ else (((Real.sqrt p)⁻¹ : ℝ) : EReal)) = _
      rw [if_neg (not_lt.mpr hp.le), if_neg hp.ne']
    rw [hr, h, div_coe _ _ hp.ne']
    have hs : 0 < Real.sqrt p := Real.sqrt_pos.mpr hp
    have hi : (Real.sqrt p)⁻¹ * (Real.sqrt p)⁻¹ = p⁻¹ := by
      rw [← mul_inv, Real.mul_self_sqrt hp.le]
    generalize hI : (Real.sqrt p)⁻¹ = i at hi
    have hi0 : 0 ≤ i := by rw [← hI]; positivity
    rw [sub_eq_add_neg, EReal.left_distrib_of_nonneg_of_ne_top (by exact_mod_cast hi0) (EReal.coe_ne_top _), add_assoc]
    congr 1
    · rw [mul_comm]
    · rw [mul_comm _ (u j), add_self]
      simp only [← EReal.coe_mul]
      have e1 : (P * ((-(1 / 2) * (i * p⁻¹) : ℝ) : EReal)) * (((1024 : ℝ)⁻¹ : ℝ) : EReal)
          = P * ((-(1 / 2) * (i * p⁻¹) * (1024 : ℝ)⁻¹ : ℝ) : EReal) := by rw [mul_assoc, ← EReal.coe_mul]
      rw [e1, ← mul_assoc (u j) P, mul_assoc (u j * P), ← EReal.coe_mul, mul_comm (u j) ((i * i : ℝ) : EReal)]
      have e2 : ((i : ℝ) : EReal) * -(((i * i : ℝ) : EReal) * u j * (P * (((1 : ℝ) / 1024 : ℝ) : EReal)))
          = u j * P * ((-(i * (i * i * (1 / 1024))) : ℝ) : EReal) := by
        rw [mul_neg, EReal.coe_neg, mul_neg]
        congr 1
        simp only [EReal.coe_mul]
        ac_rfl
      rw [e2, ← hi]
      congr 2
      ring

/-- The logistic function, as the kernel writes it. -/
def sigK (x : EReal) : EReal :=
  Ideal.ofBits .f32 0x3F000000#32 * Ideal.tanh (Ideal.ofBits .f32 0x3F000000#32 * x) + Ideal.ofBits .f32 0x3F000000#32

/-- The logistic function, as a quotient. -/
def sigR (x : EReal) : EReal := Ideal.div 1 (1 + Ideal.exp (-x))

theorem sig_eq (x : EReal) : sigK x = sigR x := by
  unfold sigK sigR
  rw [lit_half]
  induction x using EReal.rec with
  | bot =>
    rw [EReal.coe_mul_bot_of_pos (by norm_num)]
    show (((1 : ℝ) / 2 : ℝ) : EReal) * (-1) + _ = Ideal.div 1 (1 + Ideal.exp (-⊥))
    rw [EReal.neg_bot]
    show _ = Ideal.div 1 (1 + ⊤)
    have : Ideal.div 1 (1 + ⊤) = 0 := by
      have h1 : (1 : EReal) + ⊤ = ⊤ := rfl
      rw [h1]; unfold Ideal.div; simp
    rw [this, mul_neg, mul_one, ← EReal.coe_neg, ← EReal.coe_add]; norm_num
  | top =>
    rw [EReal.coe_mul_top_of_pos (by norm_num)]
    show (((1 : ℝ) / 2 : ℝ) : EReal) * 1 + _ = Ideal.div 1 (1 + Ideal.exp (-⊤))
    rw [EReal.neg_top]
    show _ = Ideal.div 1 (1 + 0)
    have : Ideal.div 1 (1 + 0) = 1 := by unfold Ideal.div; simp
    rw [this, mul_one, ← EReal.coe_add]; norm_num
  | coe r =>
    rw [← EReal.coe_mul, ← EReal.coe_neg]
    show (((1 : ℝ) / 2 : ℝ) : EReal) * ((Real.tanh (1 / 2 * r) : ℝ) : EReal) + _ = Ideal.div 1 (1 + ((Real.exp (-r) : ℝ) : EReal))
    have hp : (0 : ℝ) < 1 + Real.exp (-r) := by positivity
    rw [show (1 : EReal) = ((1 : ℝ) : EReal) from rfl, ← EReal.coe_add, div_coe _ _ hp.ne', ← EReal.coe_mul,
      ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) = (Real.exp (-(1 / 2 * r)))⁻¹ := by rw [← Real.exp_neg]; congr 1; ring
    rw [h1, h2]
    have hq : 0 < Real.exp (-(1 / 2 * r)) := Real.exp_pos _
    generalize Real.exp (-(1 / 2 * r)) = q at hq
    field_simp
    ring

end Cert.Grad

end
-- ==== Proof.Spec.lean ====
module

public import proofs.«01_k».proof.Proof.Scalar

/-! The gradient of the gated merge, as plain sums over rows and columns.  `In R` is what the gradient takes, over `R` rows;
every result but the parameters' is read row by row, and a parameter's is a sum over the rows. -/

@[expose] public section

set_option maxRecDepth 16384

noncomputable section

namespace Cert.Grad

open Idealize.ShloMosaic

/-- What the gradient takes: the two incoming gradients, the saved forward values and the weights. -/
structure In (R : ℕ) where
  dhn : Fin R → Fin 1024 → EReal
  h1 : Fin R → Fin 1024 → EReal
  gf : Fin 1024 → EReal
  dy : Fin R → Fin 1024 → EReal
  mix : Fin R → Fin 1024 → EReal
  gm : Fin 1024 → EReal
  wo : Fin 1024 → Fin 1024 → EReal
  gts : Fin R → Fin 2048 → EReal
  br : Fin R → Fin 1024 → EReal
  ba : Fin R → Fin 1024 → EReal
  wbr : Fin 1280 → Fin 1024 → EReal
  wba : Fin 512 → Fin 1024 → EReal
  merged : Fin R → Fin 1024 → EReal
  y : Fin R → Fin 1280 → EReal
  o : Fin R → Fin 512 → EReal

namespace In

variable {R : ℕ} (x : In R)

/-- The gradient of the residual stream. -/
def dh1 (r : Fin R) (j : Fin 1024) : EReal := normBwdK (x.dhn r) (x.h1 r) x.gf j + x.dy r j
/-- The gradient of the output product. -/
def dmix (r : Fin R) (j : Fin 1024) : EReal := normBwdK (x.dh1 r) (x.mix r) x.gm j
/-- The gradient of the gated sum. -/
def dm (r : Fin R) (k : Fin 1024) : EReal := ∑ j, x.dmix r j * x.wo k j
/-- The gate of the first branch. -/
def sr (r : Fin R) (k : Fin 1024) : EReal := sigK (x.gts r ⟨k, by omega⟩)
/-- The gate of the second branch. -/
def sa (r : Fin R) (k : Fin 1024) : EReal := sigK (x.gts r ⟨1024 + k, by omega⟩)
/-- The gradient of the first branch's product. -/
def dbr (r : Fin R) (k : Fin 1024) : EReal := x.dm r k * x.sr r k
/-- The gradient of the second branch's product. -/
def dba (r : Fin R) (k : Fin 1024) : EReal := x.dm r k * x.sa r k
/-- The gradient of the first gate's argument. -/
def dgr (r : Fin R) (k : Fin 1024) : EReal := x.dm r k * x.br r k * x.sr r k * (1 - x.sr r k)
/-- The gradient of the second gate's argument. -/
def dga (r : Fin R) (k : Fin 1024) : EReal := x.dm r k * x.ba r k * x.sa r k * (1 - x.sa r k)
/-- The gradient of the recurrence's output. -/
def dyr (r : Fin R) (k : Fin 1280) : EReal := ∑ j, x.dbr r j * x.wbr k j
/-- The gradient of the attention's output. -/
def doa (r : Fin R) (k : Fin 512) : EReal := ∑ j, x.dba r j * x.wba k j
/-- The gradient of the second norm's scale. -/
def dgf (j : Fin 1024) : EReal := ∑ r, x.dhn r j * x.h1 r j * rinv (x.h1 r)
/-- The gradient of the first norm's scale. -/
def dgm (j : Fin 1024) : EReal := ∑ r, x.dh1 r j * x.mix r j * rinv (x.mix r)
/-- The gradient of the output product's weight. -/
def dwo (k j : Fin 1024) : EReal := ∑ r, x.merged r k * x.dmix r j
/-- The gradient of the first branch's weight. -/
def dwbr (k : Fin 1280) (j : Fin 1024) : EReal := ∑ r, x.y r k * x.dbr r j
/-- The gradient of the second branch's weight. -/
def dwba (k : Fin 512) (j : Fin 1024) : EReal := ∑ r, x.o r k * x.dba r j

end In

/-- Row `p` of tile `t`. -/
def row (t : Fin 32) (p : Fin 256) : Fin 8192 := ⟨t * 256 + p, by omega⟩

/-- The 256 rows of tile `t`. -/
def In.tile (x : In 8192) (t : Fin 32) : In 256 where
  dhn p := x.dhn (row t p)
  h1 p := x.h1 (row t p)
  gf := x.gf
  dy p := x.dy (row t p)
  mix p := x.mix (row t p)
  gm := x.gm
  wo := x.wo
  gts p := x.gts (row t p)
  br p := x.br (row t p)
  ba p := x.ba (row t p)
  wbr := x.wbr
  wba := x.wba
  merged p := x.merged (row t p)
  y p := x.y (row t p)
  o p := x.o (row t p)

/-- A sum over all rows is the sum over the tiles of the sums over a tile's rows. -/
theorem sum_rows (f : Fin 8192 → EReal) : ∑ r, f r = ∑ t : Fin 32, ∑ p : Fin 256, f (row t p) :=
  Fin.sum_univ_tiles 32 256 rfl f

theorem dgf_tiles (x : In 8192) (j : Fin 1024) : x.dgf j = ∑ t, (x.tile t).dgf j := sum_rows _
theorem dgm_tiles (x : In 8192) (j : Fin 1024) : x.dgm j = ∑ t, (x.tile t).dgm j := sum_rows _
theorem dwo_tiles (x : In 8192) (k j : Fin 1024) : x.dwo k j = ∑ t, (x.tile t).dwo k j := sum_rows _
theorem dwbr_tiles (x : In 8192) (k : Fin 1280) (j : Fin 1024) : x.dwbr k j = ∑ t, (x.tile t).dwbr k j := sum_rows _
theorem dwba_tiles (x : In 8192) (k : Fin 512) (j : Fin 1024) : x.dwba k j = ∑ t, (x.tile t).dwba k j := sum_rows _

end Cert.Grad

end
-- ==== Proof.Blocks.lean ====
module

public import proofs.«01_k».proof.Proof.Run
public import proofs.«01_k».proof.Proof.Spec
public import Idealize.ShloMosaic.Lib.Pipeline.ValueKit

/-! The input blocks, read at an index, in the arrays the call finds. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Own Cert.Grad

variable (m : (ℓ : Loc nD τ sig) → Buf (Elt Ideal) ℓ) (c : Dev nD)

def b0 : FVec Ideal S8192x1024 .f32 := V m c main_arg10
def b1 : FVec Ideal S8192x1024 .f32 := V m c main_v33
def b2 : FVec Ideal S1x1024 .f32 := V m c main_v34
def b3 : FVec Ideal S8192x1024 .f32 := V m c main_arg9
def b4 : FVec Ideal S8192x1024 .f32 := V m c main_v19
def b5 : FVec Ideal S1x1024 .f32 := V m c main_v35
def b6 : FVec Ideal S1024x1024 .bf16 := V m c main_v36
def b7 : FVec Ideal S8192x2048 .f32 := V m c main_arg2
def b8 : FVec Ideal S8192x1024 .f32 := V m c main_v2
def b9 : FVec Ideal S8192x1024 .f32 := V m c main_v3
def b10 : FVec Ideal S1280x1024 .bf16 := V m c main_v37
def b11 : FVec Ideal S512x1024 .bf16 := V m c main_v38
def b12 : FVec Ideal S8192x1024 .bf16 := V m c main_v39
def b13 : FVec Ideal S8192x1280 .f32 := V m c main_arg0
def b14 : FVec Ideal S8192x512 .f32 := V m c main_arg1

/-- What the gradient takes, in the arrays the call finds. -/
def X : In 8192 where
  dhn r j := b0 m c (ix2 r j)
  h1 r j := b1 m c (ix2 r j)
  gf j := b2 m c (ix2 0 j)
  dy r j := b3 m c (ix2 r j)
  mix r j := b4 m c (ix2 r j)
  gm j := b5 m c (ix2 0 j)
  wo k j := b6 m c (ix2 k j)
  gts r j := b7 m c (ix2 r j)
  br r j := b8 m c (ix2 r j)
  ba r j := b9 m c (ix2 r j)
  wbr k j := b10 m c (ix2 k j)
  wba k j := b11 m c (ix2 k j)
  merged r j := b12 m c (ix2 r j)
  y r j := b13 m c (ix2 r j)
  o r j := b14 m c (ix2 r j)

/-- Every window's block at a tile. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] ∧ win0_7.index t = ![t.val, 0] ∧ win0_8.index t = ![t.val, 0] ∧ win0_9.index t = ![t.val, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![0, 0] ∧ win0_20.index t = ![0, 0] ∧ win0_21.index t = ![0, 0] ∧ win0_22.index t = ![0, 0] ∧ win0_23.index t = ![0, 0, 0] :=
  (by decide +kernel : ∀ t : Fin grid0.N, _)

/-- A tile's number. -/
def num (t : Fin cfg0.N) : Fin 32 := ⟨t.val, by have := t.isLt; have : cfg0.N = 32 := N_0; omega⟩

theorem blk0 (t : Fin cfg0.N) (p : Fin 256) (j : Fin 1024) : (tile m c t).x1 (ix2 p j) = b0 m c (ix2 (row (num t) p) j) := by
  change iblk m c 0 t (ix2 p j) = V m c main_arg10 (ix2 (row (num t) p) j)
  blk_ext [iblk, row, num, idx t]

theorem blk1 (t : Fin cfg0.N) (p : Fin 256) (j : Fin 1024) : (tile m c t).x2 (ix2 p j) = b1 m c (ix2 (row (num t) p) j) := by
  change iblk m c 1 t (ix2 p j) = V m c main_v33 (ix2 (row (num t) p) j)
  blk_ext [iblk, row, num, idx t]

theorem blk2 (t : Fin cfg0.N) (k : Fin 1) (j : Fin 1024) : (tile m c t).x3 (ix2 k j) = b2 m c (ix2 k j) := by
  change iblk m c 2 t (ix2 k j) = V m c main_v34 (ix2 k j)
  blk_ext [iblk, idx t]

theorem blk3 (t : Fin cfg0.N) (p : Fin 256) (j : Fin 1024) : (tile m c t).x4 (ix2 p j) = b3 m c (ix2 (row (num t) p) j) := by
  change iblk m c 3 t (ix2 p j) = V m c main_arg9 (ix2 (row (num t) p) j)
  blk_ext [iblk, row, num, idx t]

theorem blk4 (t : Fin cfg0.N) (p : Fin 256) (j : Fin 1024) : (tile m c t).x5 (ix2 p j) = b4 m c (ix2 (row (num t) p) j) := by
  change iblk m c 4 t (ix2 p j) = V m c main_v19 (ix2 (row (num t) p) j)
  blk_ext [iblk, row, num, idx t]

theorem blk5 (t : Fin cfg0.N) (k : Fin 1) (j : Fin 1024) : (tile m c t).x6 (ix2 k j) = b5 m c (ix2 k j) := by
  change iblk m c 5 t (ix2 k j) = V m c main_v35 (ix2 k j)
  blk_ext [iblk, idx t]

theorem blk6 (t : Fin cfg0.N) (k : Fin 1024) (j : Fin 1024) : (tile m c t).x7 (ix2 k j) = b6 m c (ix2 k j) := by
  change iblk m c 6 t (ix2 k j) = V m c main_v36 (ix2 k j)
  blk_ext [iblk, idx t]

theorem blk7 (t : Fin cfg0.N) (p : Fin 256) (j : Fin 2048) : (tile m c t).x8 (ix2 p j) = b7 m c (ix2 (row (num t) p) j) := by
  change iblk m c 7 t (ix2 p j) = V m c main_arg2 (ix2 (row (num t) p) j)
  blk_ext [iblk, row, num, idx t]

theorem blk8 (t : Fin cfg0.N) (p : Fin 256) (j : Fin 1024) : (tile m c t).x9 (ix2 p j) = b8 m c (ix2 (row (num t) p) j) := by
  change iblk m c 8 t (ix2 p j) = V m c main_v2 (ix2 (row (num t) p) j)
  blk_ext [iblk, row, num, idx t]

theorem blk9 (t : Fin cfg0.N) (p : Fin 256) (j : Fin 1024) : (tile m c t).x10 (ix2 p j) = b9 m c (ix2 (row (num t) p) j) := by
  change iblk m c 9 t (ix2 p j) = V m c main_v3 (ix2 (row (num t) p) j)
  blk_ext [iblk, row, num, idx t]

theorem blk10 (t : Fin cfg0.N) (k : Fin 1280) (j : Fin 1024) : (tile m c t).x11 (ix2 k j) = b10 m c (ix2 k j) := by
  change iblk m c 10 t (ix2 k j) = V m c main_v37 (ix2 k j)
  blk_ext [iblk, idx t]

theorem blk11 (t : Fin cfg0.N) (k : Fin 512) (j : Fin 1024) : (tile m c t).x12 (ix2 k j) = b11 m c (ix2 k j) := by
  change iblk m c 11 t (ix2 k j) = V m c main_v38 (ix2 k j)
  blk_ext [iblk, idx t]

theorem blk12 (t : Fin cfg0.N) (p : Fin 256) (j : Fin 1024) : (tile m c t).x13 (ix2 p j) = b12 m c (ix2 (row (num t) p) j) := by
  change iblk m c 12 t (ix2 p j) = V m c main_v39 (ix2 (row (num t) p) j)
  blk_ext [iblk, row, num, idx t]

theorem blk13 (t : Fin cfg0.N) (p : Fin 256) (j : Fin 1280) : (tile m c t).x14 (ix2 p j) = b13 m c (ix2 (row (num t) p) j) := by
  change iblk m c 13 t (ix2 p j) = V m c main_arg0 (ix2 (row (num t) p) j)
  blk_ext [iblk, row, num, idx t]

theorem blk14 (t : Fin cfg0.N) (p : Fin 256) (j : Fin 512) : (tile m c t).x15 (ix2 p j) = b14 m c (ix2 (row (num t) p) j) := by
  change iblk m c 14 t (ix2 p j) = V m c main_arg1 (ix2 (row (num t) p) j)
  blk_ext [iblk, row, num, idx t]

end Cert.KernelIdeal.Val

end
-- ==== Proof.Pay.lean ====
module

public import proofs.«01_k».proof.Proof.Gen.KernelIdeal.Skeleton
public import proofs.«01_k».proof.Proof.Spec

/-! What the kernel's body computes over one tile of rows, read at an index. -/

@[expose] public section

set_option maxRecDepth 16384

noncomputable section

namespace Cert.KernelIdeal.Pay

open Idealize.ShloMosaic Idealize.ShloMosaic.TcCoe
open Cert.KernelIdeal Cert.KernelIdeal.Gen Cert.Grad

theorem pay14_at (v4 : FVec Ideal S256x1024 .f32) (p : Fin 256) :
    k0_pay14 (F := Ideal) v4 (ix2 p 0) = rinv (fun k => v4 (ix2 p k)) := by
  pointwise [k0_pay14, k0_pay13]; rfl

theorem pay19_at (v4 : FVec Ideal S256x1024 .f32) (p : Fin 256) :
    k0_pay19 (F := Ideal) v4 (ix2 p 0) = rinv (fun k => v4 (ix2 p k)) := by
  pointwise [k0_pay19, k0_pay18]; rfl

theorem pay15_at (v3 v4 : FVec Ideal S256x1024 .f32) (p : Fin 256) (j : Fin 1024) :
    k0_pay15 (F := Ideal) v3 v4 (ix2 p j) = v3 (ix2 p j) * v4 (ix2 p j) * rinv (fun k => v4 (ix2 p k)) := by
  pointwise [k0_pay15, k0_pay13, pay14_at]

theorem pay16_at (v3 v4 : FVec Ideal S256x1024 .f32) (v6 : FVec Ideal S1x1024 .f32) (v34 : FVec Ideal S256x1024 .f32)
    (p : Fin 256) (j : Fin 1024) :
    k0_pay16 (F := Ideal) v3 v4 v6 v34 (ix2 p j)
      = normBwdK (fun k => v3 (ix2 p k)) (fun k => v4 (ix2 p k)) (fun k => v6 (ix2 0 k)) j + v34 (ix2 p j) := by
  pointwise [k0_pay16, k0_pay13, pay14_at]; rfl

theorem pay20_at (v35 v43 : FVec Ideal S256x1024 .f32) (p : Fin 256) (j : Fin 1024) :
    k0_pay20 (F := Ideal) v35 v43 (ix2 p j) = v35 (ix2 p j) * v43 (ix2 p j) * rinv (fun k => v43 (ix2 p k)) := by
  pointwise [k0_pay20, k0_pay18, pay19_at]

theorem pay21_at (v35 v43 : FVec Ideal S256x1024 .f32) (v45 : FVec Ideal S1x1024 .f32) (p : Fin 256) (j : Fin 1024) :
    k0_pay21 (F := Ideal) v35 v43 v45 (ix2 p j)
      = normBwdK (fun k => v35 (ix2 p k)) (fun k => v43 (ix2 p k)) (fun k => v45 (ix2 0 k)) j := by
  pointwise [k0_pay21, k0_pay18, pay19_at]; rfl

theorem pay17_at (v33 : FVec Ideal S256x1024 .f32) (v37 : FVec Ideal S1x1024 .f32) (j : Fin 1024) :
    k0_pay17 (F := Ideal) v33 v37 (ix2 0 j) = v37 (ix2 0 j) + ∑ p, v33 (ix2 p j) := by
  pointwise [k0_pay17]

theorem pay24_at (v72 : FVec Ideal S256x1024 .f32) (v82 : FVec Ideal S1x1024 .f32) (j : Fin 1024) :
    k0_pay24 (F := Ideal) v72 v82 (ix2 0 j) = v82 (ix2 0 j) + ∑ p, v72 (ix2 p j) := by
  pointwise [k0_pay24]

theorem pay22_at (v35 v43 : FVec Ideal S256x1024 .f32) (v45 : FVec Ideal S1x1024 .f32)
    (v74 : FVec Ideal S1024x1024 .f32) (v75 : FVec Ideal S256x1024 .bf16) (k j : Fin 1024) :
    k0_pay23 (F := Ideal) (k0_pay22 (F := Ideal) v35 v43 v45 v74 v75) (ix2 k j)
      = v74 (ix2 k j) + ∑ p, v75 (ix2 p k) * k0_pay21 (F := Ideal) v35 v43 v45 (ix2 p j) := by
  pointwise [k0_pay23, k0_pay22]

theorem pay25_at (v73 : FVec Ideal S256x1024 .bf16) (v88 : FVec Ideal S1024x1024 .bf16) (p : Fin 256) (k : Fin 1024) :
    k0_pay25 (F := Ideal) v73 v88 (ix2 p k) = ∑ j, v73 (ix2 p j) * v88 (ix2 k j) := by
  pointwise [k0_pay25]

theorem pay26_at (v91 : FVec Ideal S256x2048 .f32) (p : Fin 256) (k : Fin 1024) :
    k0_pay26 (F := Ideal) v91 (ix2 p k) = sigK (v91 (ix2 p ⟨k, by omega⟩)) := by
  pointwise [k0_pay26]; rfl

theorem pay27_at (v91 : FVec Ideal S256x2048 .f32) (p : Fin 256) (k : Fin 1024) :
    k0_pay27 (F := Ideal) v91 (ix2 p k) = sigK (v91 (ix2 p ⟨1024 + k, by omega⟩)) := by
  pointwise [k0_pay27]; rfl

theorem pay28_at (v73 : FVec Ideal S256x1024 .bf16) (v88 : FVec Ideal S1024x1024 .bf16) (v91 : FVec Ideal S256x2048 .f32)
    (p : Fin 256) (k : Fin 1024) : k0_pay28 (F := Ideal) v73 v88 v91 (ix2 p k) = (show EReal from k0_pay25 (F := Ideal) v73 v88 (ix2 p k)) * k0_pay26 (F := Ideal) v91 (ix2 p k) := by
  pointwise [k0_pay28]

theorem pay29_at (v73 : FVec Ideal S256x1024 .bf16) (v88 : FVec Ideal S1024x1024 .bf16) (v91 : FVec Ideal S256x2048 .f32)
    (p : Fin 256) (k : Fin 1024) : k0_pay29 (F := Ideal) v73 v88 v91 (ix2 p k) = (show EReal from k0_pay25 (F := Ideal) v73 v88 (ix2 p k)) * k0_pay27 (F := Ideal) v91 (ix2 p k) := by
  pointwise [k0_pay29]

theorem pay31_at (v109 : FVec Ideal S256x1024 .bf16) (v112 : FVec Ideal S1280x1024 .f32) (v113 : FVec Ideal S256x1280 .f32)
    (k : Fin 1280) (j : Fin 1024) :
    k0_pay31 (F := Ideal) v109 v112 (k0_pay30 (F := Ideal) v113) (constant S1280x1024 .f32 0x00000000#32) (ix2 k j)
      = v112 (ix2 k j) + ∑ p, v113 (ix2 p k) * v109 (ix2 p j) := by
  pointwise [k0_pay31, k0_pay30]

theorem pay32_at (v111 : FVec Ideal S256x1024 .bf16) (v120 : FVec Ideal S512x1024 .f32) (v121 : FVec Ideal S256x512 .f32)
    (k : Fin 512) (j : Fin 1024) :
    k0_pay32 (F := Ideal) v111 v120 v121 (ix2 k j) = v120 (ix2 k j) + ∑ p, v121 (ix2 p k) * v111 (ix2 p j) := by
  pointwise [k0_pay32]

theorem pay33_at (v90 v99 v128 : FVec Ideal S256x1024 .f32) (p : Fin 256) (k : Fin 1024) :
    k0_pay33 (F := Ideal) v90 v99 v128 (ix2 p k) = v90 (ix2 p k) * v128 (ix2 p k) * v99 (ix2 p k) * (1 - v99 (ix2 p k)) := by
  pointwise [k0_pay33]

theorem pay34_at (v90 v99 v128 : FVec Ideal S256x1024 .f32) (p : Fin 256) (k : Fin 1024) :
    k0_pay34 (F := Ideal) v90 v99 v128 (ix2 p k) = v90 (ix2 p k) * v128 (ix2 p k) * v99 (ix2 p k) * (1 - v99 (ix2 p k)) := by
  pointwise [k0_pay34]

theorem pay35_at (v109 : FVec Ideal S256x1024 .bf16) (v146 : FVec Ideal S1280x1024 .bf16) (p : Fin 256) (k : Fin 1280) :
    k0_pay35 (F := Ideal) v109 v146 (ix2 p k) = ∑ j, v109 (ix2 p j) * v146 (ix2 k j) := by
  pointwise [k0_pay35]

theorem pay1_at (v111 : FVec Ideal S256x1024 .bf16) (v150 : FVec Ideal S512x1024 .bf16) (p : Fin 256) (k : Fin 512) :
    k0_pay1 (F := Ideal) v111 v150 (ix2 p k) = ∑ j, v111 (ix2 p j) * v150 (ix2 k j) := by
  pointwise [k0_pay1]

end Cert.KernelIdeal.Pay

end
-- ==== Proof.Values.lean ====
module

public import proofs.«01_k».proof.Proof.Pay
public import proofs.«01_k».proof.Proof.Parts

/-! What the body leaves on one tile, read at an index: the gradient's rows, and the tile's share of the carried sums. -/

@[expose] public section

set_option maxRecDepth 16384

noncomputable section

namespace Cert.KernelIdeal.Val

open Idealize.ShloMosaic Idealize.ShloMosaic.TcCoe
open Cert.KernelIdeal Cert.KernelIdeal.Gen Cert.KernelIdeal.Own Cert.KernelIdeal.Pay Cert.Grad

/-- The blocks `x` hold the gradient's inputs `Y`. -/
structure Reads (x : Ins Ideal) (Y : In 256) : Prop where
  h1 : ∀ p j, x.x1 (ix2 p j) = Y.dhn p j
  h2 : ∀ p j, x.x2 (ix2 p j) = Y.h1 p j
  h3 : ∀ j, x.x3 (ix2 0 j) = Y.gf j
  h4 : ∀ p j, x.x4 (ix2 p j) = Y.dy p j
  h5 : ∀ p j, x.x5 (ix2 p j) = Y.mix p j
  h6 : ∀ j, x.x6 (ix2 0 j) = Y.gm j
  h7 : ∀ k j, x.x7 (ix2 k j) = Y.wo k j
  h8 : ∀ p j, x.x8 (ix2 p j) = Y.gts p j
  h9 : ∀ p j, x.x9 (ix2 p j) = Y.br p j
  h10 : ∀ p j, x.x10 (ix2 p j) = Y.ba p j
  h11 : ∀ k j, x.x11 (ix2 k j) = Y.wbr k j
  h12 : ∀ k j, x.x12 (ix2 k j) = Y.wba k j
  h13 : ∀ p j, x.x13 (ix2 p j) = Y.merged p j
  h14 : ∀ p j, x.x14 (ix2 p j) = Y.y p j
  h15 : ∀ p j, x.x15 (ix2 p j) = Y.o p j

namespace Reads
variable {x : Ins Ideal} {Y : In 256} (h : Reads x Y)
include h

theorem dh (p : Fin 256) (j : Fin 1024) : x.dh (ix2 p j) = Y.dh1 p j := by
  refine (pay16_at _ _ _ _ _ _).trans ?_
  simp only [h.h1, h.h2, h.h3, h.h4]; rfl

theorem gmRows (p : Fin 256) (j : Fin 1024) : x.gmRows (ix2 p j) = Y.dh1 p j * Y.mix p j * rinv (Y.mix p) := by
  refine (pay20_at _ _ _ _).trans ?_
  simp only [h.dh, h.h5]

theorem dmix (p : Fin 256) (j : Fin 1024) : x.dmix (ix2 p j) = Y.dmix p j := by
  refine (pay21_at _ _ _ _ _).trans ?_
  simp only [h.dh, h.h5, h.h6]; rfl

theorem dm (p : Fin 256) (k : Fin 1024) : x.dm (ix2 p k) = Y.dm p k := by
  refine (pay25_at _ _ _ _).trans ?_
  simp only [h.dmix, h.h7]; rfl

theorem sr (p : Fin 256) (k : Fin 1024) : k0_pay26 (F := Ideal) x.x8 (ix2 p k) = Y.sr p k := by
  refine (pay26_at _ _ _).trans ?_
  rw [h.h8]; rfl

theorem sa (p : Fin 256) (k : Fin 1024) : k0_pay27 (F := Ideal) x.x8 (ix2 p k) = Y.sa p k := by
  refine (pay27_at _ _ _).trans ?_
  rw [h.h8]; rfl

theorem dbr (p : Fin 256) (k : Fin 1024) : x.dbr (ix2 p k) = Y.dbr p k := by
  refine (pay28_at _ _ _ _ _).trans ?_
  rw [h.sr]
  exact congrArg (· * Y.sr p k) (h.dm p k)

theorem dba (p : Fin 256) (k : Fin 1024) : x.dba (ix2 p k) = Y.dba p k := by
  refine (pay29_at _ _ _ _ _).trans ?_
  rw [h.sa]
  exact congrArg (· * Y.sa p k) (h.dm p k)

theorem dyr (p : Fin 256) (k : Fin 1280) : x.dyr (ix2 p k) = Y.dyr p k := by
  refine (pay35_at _ _ _ _).trans ?_
  simp only [h.dbr, h.h11]; rfl

theorem doa (p : Fin 256) (k : Fin 512) : x.doa (ix2 p k) = Y.doa p k := by
  refine (pay1_at _ _ _ _).trans ?_
  simp only [h.dba, h.h12]; rfl

theorem dgr (p : Fin 256) (k : Fin 1024) :
    k0_pay33 (F := Ideal) x.dm (k0_pay26 x.x8) x.x9 (ix2 p k) = Y.dgr p k := by
  refine (pay33_at _ _ _ _ _).trans ?_
  rw [h.sr, h.dm, h.h9]; rfl

theorem dga (p : Fin 256) (k : Fin 1024) :
    k0_pay34 (F := Ideal) x.dm (k0_pay27 x.x8) x.x10 (ix2 p k) = Y.dga p k := by
  refine (pay34_at _ _ _ _ _).trans ?_
  rw [h.sa, h.dm, h.h10]; rfl

theorem step_gf (a : Acc Ideal) (j : Fin 1024) : (x.step a).gf (ix2 0 j) = a.gf (ix2 0 j) + Y.dgf j := by
  refine (pay17_at _ _ _).trans ?_
  refine congrArg (a.gf (ix2 0 j) + ·) (Finset.sum_congr rfl fun p _ => (pay15_at _ _ _ _).trans ?_)
  simp only [h.h1, h.h2]

theorem step_gm (a : Acc Ideal) (j : Fin 1024) : (x.step a).gm (ix2 0 j) = a.gm (ix2 0 j) + Y.dgm j := by
  refine (pay24_at _ _ _).trans ?_
  exact congrArg (a.gm (ix2 0 j) + ·) (Finset.sum_congr rfl fun p _ => h.gmRows p j)

theorem step_wo (a : Acc Ideal) (k j : Fin 1024) : (x.step a).wo (ix2 k j) = a.wo (ix2 k j) + Y.dwo k j := by
  refine (pay22_at _ _ _ _ _ _ _).trans ?_
  refine congrArg (a.wo (ix2 k j) + ·) (Finset.sum_congr rfl fun p _ => ?_)
  rw [h.h13]
  exact congrArg (Y.merged p k * ·) (h.dmix p j)

theorem step_wr (a : Acc Ideal) (k : Fin 1280) (j : Fin 1024) : (x.step a).wr (ix2 k j) = a.wr (ix2 k j) + Y.dwbr k j := by
  refine (pay31_at _ _ _ _ _).trans ?_
  refine congrArg (a.wr (ix2 k j) + ·) (Finset.sum_congr rfl fun p _ => ?_)
  rw [h.h14, h.dbr]

theorem step_wa (a : Acc Ideal) (k : Fin 512) (j : Fin 1024) : (x.step a).wa (ix2 k j) = a.wa (ix2 k j) + Y.dwba k j := by
  refine (pay32_at _ _ _ _ _).trans ?_
  refine congrArg (a.wa (ix2 k j) + ·) (Finset.sum_congr rfl fun p _ => ?_)
  rw [h.h15, h.dba]

end Reads

theorem start_gf (j : Fin 1024) : (Acc.start (F := Ideal)).gf (ix2 0 j) = 0 := by
  change k0_pay8 (F := Ideal) (ix2 0 j) = 0
  pointwise [k0_pay8]
theorem start_gm (j : Fin 1024) : (Acc.start (F := Ideal)).gm (ix2 0 j) = 0 := by
  change k0_pay9 (F := Ideal) (ix2 0 j) = 0
  pointwise [k0_pay9]
theorem start_wo (k j : Fin 1024) : (Acc.start (F := Ideal)).wo (ix2 k j) = 0 := by
  change k0_pay10 (F := Ideal) (ix2 k j) = 0
  pointwise [k0_pay10]
theorem start_wr (k : Fin 1280) (j : Fin 1024) : (Acc.start (F := Ideal)).wr (ix2 k j) = 0 := by
  change k0_pay11 (F := Ideal) (ix2 k j) = 0
  pointwise [k0_pay11]
theorem start_wa (k : Fin 512) (j : Fin 1024) : (Acc.start (F := Ideal)).wa (ix2 k j) = 0 := by
  change k0_pay12 (F := Ideal) (ix2 k j) = 0
  pointwise [k0_pay12]

/-- Inside its window a put reads the payload. -/
theorem put_in {α : Type} {s : Shape} {x : s.Idx → α} {off size : Fin s.rank → ℕ} {w : ((a : Fin s.rank) → Fin (size a)) → α} {y : s.Idx}
    (h : ∀ a, off a ≤ (y a).val ∧ (y a).val < off a + size a) (z : (a : Fin s.rank) → Fin (size a)) (hz : ∀ a, (z a).val = (y a).val - off a) :
    VecWindow.put x off size w y = w z := by
  unfold VecWindow.put
  rw [dif_pos h]
  exact congrArg w (funext fun a => Fin.ext (hz a).symm)

/-- Outside its window a put reads what was there. -/
theorem put_out {α : Type} {s : Shape} {x : s.Idx → α} {off size : Fin s.rank → ℕ} {w : ((a : Fin s.rank) → Fin (size a)) → α} {y : s.Idx}
    (a : Fin s.rank) (h : ¬ (off a ≤ (y a).val ∧ (y a).val < off a + size a)) :
    VecWindow.put x off size w y = x y := by
  unfold VecWindow.put
  rw [dif_neg fun hh => h (hh a)]

/-- A put of half the columns, read in that half. -/
theorem half_in {α : Type} (x : S256x2048.Idx → α) (w : S256x1024.Idx → α) (o : ℕ) (p : Fin 256) (k : Fin 1024) (e : Fin 2048) (he : e.val = o + k.val) :
    VecWindow.put x ![0, o] S256x1024.size w (ix2 p e) = w (ix2 p k) := by
  have h : ∀ a : Fin 2, (![0, o] : Fin 2 → ℕ) a ≤ ((ix2 p e : S256x2048.Idx) a).val
      ∧ ((ix2 p e : S256x2048.Idx) a).val < (![0, o] : Fin 2 → ℕ) a + S256x1024.size a := fun a => match a with
    | 0 => by change 0 ≤ p.val ∧ p.val < 0 + 256; omega
    | 1 => by change o ≤ e.val ∧ e.val < o + 1024; omega
  refine put_in (s := S256x2048) (w := w) h (ix2 p k : S256x1024.Idx) fun a => ?_
  match a with
  | 0 => rfl
  | 1 => change k.val = e.val - o; omega

theorem Reads.dgts_left {x : Ins Ideal} {Y : In 256} (h : Reads x Y) (p : Fin 256) (k : Fin 1024) :
    x.dgts (ix2 p ⟨k, by omega⟩) = Y.dgr p k := by
  rw [← h.dgr p k]
  unfold Ins.dgts
  rw [put_out (s := S256x2048) 1 (by change ¬ (1024 ≤ k.val ∧ k.val < 1024 + 1024); omega)]
  exact half_in _ _ 0 p k _ (Nat.zero_add _).symm

theorem Reads.dgts_right {x : Ins Ideal} {Y : In 256} (h : Reads x Y) (p : Fin 256) (k : Fin 1024) :
    x.dgts (ix2 p ⟨1024 + k, by omega⟩) = Y.dga p k := by
  rw [← h.dga p k]
  unfold Ins.dgts
  exact half_in _ _ 1024 p k _ rfl

theorem pay4_at (v : Vec Ideal S512x256 .f32) (k : Fin 512) (d : Fin 256) : k0_pay4 (F := Ideal) v (ix3 0 k d) = v (ix2 k d) := by
  pointwise [k0_pay4]
theorem pay5_at (v : Vec Ideal S512x256 .f32) (k : Fin 512) (d : Fin 256) : k0_pay5 (F := Ideal) v (ix3 0 k d) = v (ix2 k d) := by
  pointwise [k0_pay5]
theorem pay6_at (v : Vec Ideal S512x256 .f32) (k : Fin 512) (d : Fin 256) : k0_pay6 (F := Ideal) v (ix3 0 k d) = v (ix2 k d) := by
  pointwise [k0_pay6]
theorem pay7_at (v : Vec Ideal S512x256 .f32) (k : Fin 512) (d : Fin 256) : k0_pay7 (F := Ideal) v (ix3 0 k d) = v (ix2 k d) := by
  pointwise [k0_pay7]

/-- A column block of a matrix, read at an index. -/
theorem block_at (q : Vec Ideal S512x1024 .f32) (o : ℕ) (inb : ∀ a, (![0, o] : Fin 2 → ℕ) a + S512x256.size a ≤ S512x1024.size a)
    (k : Fin 512) (d : Fin 256) (e : Fin 1024) (he : e.val = o + d.val) :
    VecWindow.window q ![0, o] S512x256.size inb (ix2 k d) = q (ix2 k e) := by
  refine congrArg q (funext fun a => Fin.ext ?_)
  match a with
  | 0 => change 0 + 1 * k.val = k.val; omega
  | 1 => change o + 1 * d.val = e.val; omega

/-- A slab's own put, read in the slab. -/
theorem slab_in {α : Type} (x : S4x512x256.Idx → α) (w : S1x512x256.Idx → α) (o : ℕ) (n : Fin 4) (ho : o = n.val) (k : Fin 512) (d : Fin 256) :
    VecWindow.put x ![o, 0, 0] S1x512x256.size w (ix3 n k d) = w (ix3 0 k d) := by
  have h : ∀ a : Fin 3, (![o, 0, 0] : Fin 3 → ℕ) a ≤ ((ix3 n k d : S4x512x256.Idx) a).val
      ∧ ((ix3 n k d : S4x512x256.Idx) a).val < (![o, 0, 0] : Fin 3 → ℕ) a + S1x512x256.size a := fun a => match a with
    | 0 => by change o ≤ n.val ∧ n.val < o + 1; omega
    | 1 => by change 0 ≤ k.val ∧ k.val < 0 + 512; omega
    | 2 => by change 0 ≤ d.val ∧ d.val < 0 + 256; omega
  refine put_in (s := S4x512x256) (w := w) h (ix3 0 k d : S1x512x256.Idx) fun a => ?_
  match a with
  | 0 => change 0 = n.val - o; omega
  | 1 => rfl
  | 2 => rfl

/-- Another slab's put, read in the slab. -/
theorem slab_out {α : Type} (x : S4x512x256.Idx → α) (w : S1x512x256.Idx → α) (o : ℕ) (n : Fin 4) (ho : o ≠ n.val) (k : Fin 512) (d : Fin 256) :
    VecWindow.put x ![o, 0, 0] S1x512x256.size w (ix3 n k d) = x (ix3 n k d) := by
  refine put_out (s := S4x512x256) 0 ?_
  change ¬ (o ≤ n.val ∧ n.val < o + 1)
  omega

/-- A slab read at an index. -/
theorem slabs_at (q : Vec Ideal S512x1024 .f32) (n : Fin 4) (k : Fin 512) (d : Fin 256) :
    slabs q (ix3 n k d) = q (ix2 k ⟨n.val * 256 + d.val, by omega⟩) := by
  unfold slabs
  by_cases h3 : n.val = 3
  · rw [slab_in _ _ 3 n h3.symm, pay7_at]
    exact block_at q 768 _ k d _ (by change n.val * 256 + d.val = _; omega)
  rw [slab_out _ _ 3 n (fun h => h3 h.symm)]
  by_cases h2 : n.val = 2
  · rw [slab_in _ _ 2 n h2.symm, pay6_at]
    exact block_at q 512 _ k d _ (by change n.val * 256 + d.val = _; omega)
  rw [slab_out _ _ 2 n (fun h => h2 h.symm)]
  by_cases h1 : n.val = 1
  · rw [slab_in _ _ 1 n h1.symm, pay5_at]
    exact block_at q 256 _ k d _ (by change n.val * 256 + d.val = _; omega)
  rw [slab_out _ _ 1 n (fun h => h1 h.symm), slab_in _ _ 0 n (by omega), pay4_at]
  exact block_at q 0 _ k d _ (by change n.val * 256 + d.val = _; omega)

theorem pay2_at (v : Vec Ideal S1024x1024 .f32) (k j : Fin 1024) : k0_pay2 (F := Ideal) v (ix2 k j) = v (ix2 k j) := by
  pointwise [k0_pay2]
theorem pay3_at (v : Vec Ideal S1280x1024 .f32) (k : Fin 1280) (j : Fin 1024) : k0_pay3 (F := Ideal) v (ix2 k j) = v (ix2 k j) := by
  pointwise [k0_pay3]

end Cert.KernelIdeal.Val

end
-- ==== Proof.Arrays.lean ====
module

public import proofs.«01_k».proof.Proof.Blocks
public import proofs.«01_k».proof.Proof.Values

/-! The arrays the call leaves, in the gradient's sums. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Own Cert.Grad

variable (m : (ℓ : Loc nD τ sig) → Buf (Elt Ideal) ℓ) (c : Dev nD)

theorem read0 (t : Fin cfg0.N) (p : Fin 256) (j : Fin 1024) : (tile m c t).x1 (ix2 p j) = ((X m c).tile (num t)).dhn p j := blk0 m c t p j
theorem read1 (t : Fin cfg0.N) (p : Fin 256) (j : Fin 1024) : (tile m c t).x2 (ix2 p j) = ((X m c).tile (num t)).h1 p j := blk1 m c t p j
theorem read2 (t : Fin cfg0.N) (j : Fin 1024) : (tile m c t).x3 (ix2 0 j) = ((X m c).tile (num t)).gf j := blk2 m c t 0 j
theorem read3 (t : Fin cfg0.N) (p : Fin 256) (j : Fin 1024) : (tile m c t).x4 (ix2 p j) = ((X m c).tile (num t)).dy p j := blk3 m c t p j
theorem read4 (t : Fin cfg0.N) (p : Fin 256) (j : Fin 1024) : (tile m c t).x5 (ix2 p j) = ((X m c).tile (num t)).mix p j := blk4 m c t p j
theorem read5 (t : Fin cfg0.N) (j : Fin 1024) : (tile m c t).x6 (ix2 0 j) = ((X m c).tile (num t)).gm j := blk5 m c t 0 j
theorem read6 (t : Fin cfg0.N) (k : Fin 1024) (j : Fin 1024) : (tile m c t).x7 (ix2 k j) = ((X m c).tile (num t)).wo k j := blk6 m c t k j
theorem read7 (t : Fin cfg0.N) (p : Fin 256) (j : Fin 2048) : (tile m c t).x8 (ix2 p j) = ((X m c).tile (num t)).gts p j := blk7 m c t p j
theorem read8 (t : Fin cfg0.N) (p : Fin 256) (j : Fin 1024) : (tile m c t).x9 (ix2 p j) = ((X m c).tile (num t)).br p j := blk8 m c t p j
theorem read9 (t : Fin cfg0.N) (p : Fin 256) (j : Fin 1024) : (tile m c t).x10 (ix2 p j) = ((X m c).tile (num t)).ba p j := blk9 m c t p j
theorem read10 (t : Fin cfg0.N) (k : Fin 1280) (j : Fin 1024) : (tile m c t).x11 (ix2 k j) = ((X m c).tile (num t)).wbr k j := blk10 m c t k j
theorem read11 (t : Fin cfg0.N) (k : Fin 512) (j : Fin 1024) : (tile m c t).x12 (ix2 k j) = ((X m c).tile (num t)).wba k j := blk11 m c t k j
theorem read12 (t : Fin cfg0.N) (p : Fin 256) (j : Fin 1024) : (tile m c t).x13 (ix2 p j) = ((X m c).tile (num t)).merged p j := blk12 m c t p j
theorem read13 (t : Fin cfg0.N) (p : Fin 256) (j : Fin 1280) : (tile m c t).x14 (ix2 p j) = ((X m c).tile (num t)).y p j := blk13 m c t p j
theorem read14 (t : Fin cfg0.N) (p : Fin 256) (j : Fin 512) : (tile m c t).x15 (ix2 p j) = ((X m c).tile (num t)).o p j := blk14 m c t p j

set_option maxHeartbeats 1600000 in
/-- A tile's blocks hold that tile's rows. -/
theorem reads (t : Fin cfg0.N) : Reads (tile m c t) ((X m c).tile (num t)) :=
  Reads.mk (read0 m c t) (read1 m c t) (read2 m c t) (read3 m c t) (read4 m c t) (read5 m c t) (read6 m c t) (read7 m c t) (read8 m c t) (read9 m c t) (read10 m c t) (read11 m c t) (read12 m c t) (read13 m c t) (read14 m c t)

/-- What grows by `f t` at tile `t` from zero ends at the sum over the tiles. -/
theorem sum_tiles (f : Fin 32 → EReal) (g : (n : ℕ) → n < cfg0.N → EReal) (h0 : ∀ h, g 0 h = 0 + f 0)
    (hs : ∀ n (h : n + 1 < cfg0.N) (h' : n + 1 < 32), g (n + 1) h = g n (Nat.lt_of_succ_lt h) + f ⟨n + 1, h'⟩)
    (t : Fin cfg0.N) (ht : t.val = 31) : g t.val t.isLt = ∑ s, f s := by
  have key : ∀ n (h : n < cfg0.N) (h' : n + 1 ≤ 32), g n h = ∑ s : Fin (n + 1), f (s.castLE h') := by
    intro n
    induction n with
    | zero =>
      intro h h'
      rw [h0, Fin.sum_univ_one, zero_add]; rfl
    | succ n ih =>
      intro h h'
      rw [hs n h (by omega), ih (Nat.lt_of_succ_lt h) (by omega), Fin.sum_univ_castSucc (n := n + 1)]
      rfl
  obtain ⟨n, h⟩ := t
  subst ht
  rw [key 31 h (le_refl _)]
  rfl

theorem all_gf (t : Fin cfg0.N) (ht : t.val = 31) (j : Fin 1024) : (carried m c t.val t.isLt).gf (ix2 0 j) = (X m c).dgf j := by
  rw [dgf_tiles]
  refine sum_tiles (fun s => ((X m c).tile s).dgf j) (fun n h => (carried m c n h).gf (ix2 0 j)) (fun h => ?_) (fun n h h' => ?_) t ht
  · exact ((reads m c ⟨0, h⟩).step_gf _ j).trans (congrArg (· + _) (start_gf j))
  · exact (reads m c ⟨n + 1, h⟩).step_gf _ j

theorem all_gm (t : Fin cfg0.N) (ht : t.val = 31) (j : Fin 1024) : (carried m c t.val t.isLt).gm (ix2 0 j) = (X m c).dgm j := by
  rw [dgm_tiles]
  refine sum_tiles (fun s => ((X m c).tile s).dgm j) (fun n h => (carried m c n h).gm (ix2 0 j)) (fun h => ?_) (fun n h h' => ?_) t ht
  · exact ((reads m c ⟨0, h⟩).step_gm _ j).trans (congrArg (· + _) (start_gm j))
  · exact (reads m c ⟨n + 1, h⟩).step_gm _ j

theorem all_wo (t : Fin cfg0.N) (ht : t.val = 31) (k j : Fin 1024) : (carried m c t.val t.isLt).wo (ix2 k j) = (X m c).dwo k j := by
  rw [dwo_tiles]
  refine sum_tiles (fun s => ((X m c).tile s).dwo k j) (fun n h => (carried m c n h).wo (ix2 k j)) (fun h => ?_) (fun n h h' => ?_) t ht
  · exact ((reads m c ⟨0, h⟩).step_wo _ k j).trans (congrArg (· + _) (start_wo k j))
  · exact (reads m c ⟨n + 1, h⟩).step_wo _ k j

theorem all_wr (t : Fin cfg0.N) (ht : t.val = 31) (k : Fin 1280) (j : Fin 1024) : (carried m c t.val t.isLt).wr (ix2 k j) = (X m c).dwbr k j := by
  rw [dwbr_tiles]
  refine sum_tiles (fun s => ((X m c).tile s).dwbr k j) (fun n h => (carried m c n h).wr (ix2 k j)) (fun h => ?_) (fun n h h' => ?_) t ht
  · exact ((reads m c ⟨0, h⟩).step_wr _ k j).trans (congrArg (· + _) (start_wr k j))
  · exact (reads m c ⟨n + 1, h⟩).step_wr _ k j

theorem all_wa (t : Fin cfg0.N) (ht : t.val = 31) (k : Fin 512) (j : Fin 1024) : (carried m c t.val t.isLt).wa (ix2 k j) = (X m c).dwba k j := by
  rw [dwba_tiles]
  refine sum_tiles (fun s => ((X m c).tile s).dwba k j) (fun n h => (carried m c n h).wa (ix2 k j)) (fun h => ?_) (fun n h h' => ?_) t ht
  · exact ((reads m c ⟨0, h⟩).step_wa _ k j).trans (congrArg (· + _) (start_wa k j))
  · exact (reads m c ⟨n + 1, h⟩).step_wa _ k j

end Cert.KernelIdeal.Val

end
-- ==== Proof.Results.lean ====
module

public import proofs.«01_k».proof.Proof.Arrays

/-! The nine arrays the call leaves. -/

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Own Cert.Grad

variable (m : (ℓ : Loc nD τ sig) → Buf (Elt Ideal) ℓ) (c : Dev nD)

/-- The last tile is the one at which the carried gradients are written back. -/
theorem last_of {t : Fin cfg0.N} (h : t.val % 32 = 31) : t.val = 31 := by
  have := t.isLt
  have : cfg0.N = 32 := N_0
  omega

/-- The gradient of the residual stream, as an array. -/
def r15 (x : In 8192) : FVec Ideal S8192x1024 .f32 := fun i => x.dh1 (i 0) (i 1)

set_option maxHeartbeats 1600000 in
theorem final15 : (data m 0 c).arrAt 15 cfg0.N = r15 (X m c) := by
  refine (data m 0 c).arrAt_eq_of_covers 15 _ (by decide +kernel) fun t hf y => ?_
  blk_simp
  rw [leaves_15]
  obtain ⟨p, j, rfl⟩ : ∃ (p : Fin 256) (j : Fin 1024), y = ix2 p j := ⟨y 0, y 1, by blk_ext⟩
  refine ((reads m c t).dh p j).trans ?_
  change r15 (X m c) (ix2 (row (num t) p) j) = _
  blk_ext [row, num, idx t]

/-- The gradient of the recurrence's output, as an array. -/
def r17 (x : In 8192) : FVec Ideal S8192x1280 .f32 := fun i => x.dyr (i 0) (i 1)

set_option maxHeartbeats 1600000 in
theorem final17 : (data m 0 c).arrAt 17 cfg0.N = r17 (X m c) := by
  refine (data m 0 c).arrAt_eq_of_covers 17 _ (by decide +kernel) fun t hf y => ?_
  blk_simp
  rw [leaves_17]
  obtain ⟨p, j, rfl⟩ : ∃ (p : Fin 256) (j : Fin 1280), y = ix2 p j := ⟨y 0, y 1, by blk_ext⟩
  refine ((reads m c t).dyr p j).trans ?_
  change r17 (X m c) (ix2 (row (num t) p) j) = _
  blk_ext [row, num, idx t]

/-- The gradient of the attention's output, as an array. -/
def r18 (x : In 8192) : FVec Ideal S8192x512 .f32 := fun i => x.doa (i 0) (i 1)

set_option maxHeartbeats 1600000 in
theorem final18 : (data m 0 c).arrAt 18 cfg0.N = r18 (X m c) := by
  refine (data m 0 c).arrAt_eq_of_covers 18 _ (by decide +kernel) fun t hf y => ?_
  blk_simp
  rw [leaves_18]
  obtain ⟨p, j, rfl⟩ : ∃ (p : Fin 256) (j : Fin 512), y = ix2 p j := ⟨y 0, y 1, by blk_ext⟩
  refine ((reads m c t).doa p j).trans ?_
  change r18 (X m c) (ix2 (row (num t) p) j) = _
  blk_ext [row, num, idx t]

/-- The gradient of the gates, as an array: the first branch's in the left half, the second's in the right. -/
def r16 (x : In 8192) : FVec Ideal S8192x2048 .bf16 := fun i =>
  if h : (i 1).val < 1024 then x.dgr (i 0) ⟨(i 1).val, h⟩
  else x.dga (i 0) ⟨(i 1).val - 1024, by have : (i 1).val < 2048 := (i 1).isLt; omega⟩

theorem r16_left (x : In 8192) (r : Fin 8192) (k : Fin 1024) : r16 x (ix2 r ⟨k, by omega⟩) = x.dgr r k := by
  unfold r16
  exact dif_pos k.isLt

theorem r16_right (x : In 8192) (r : Fin 8192) (k : Fin 1024) : r16 x (ix2 r ⟨1024 + k, by omega⟩) = x.dga r k := by
  unfold r16
  refine (dif_neg (show ¬ 1024 + k.val < 1024 by omega)).trans ?_
  refine congrArg (x.dga r) (Fin.ext ?_)
  change 1024 + k.val - 1024 = k.val
  omega

/-- A column is in the left half or in the right one. -/
theorem by_half {P : Fin 2048 → Prop} (hl : ∀ k : Fin 1024, P ⟨k, by omega⟩) (hr : ∀ k : Fin 1024, P ⟨1024 + k, by omega⟩)
    (j : Fin 2048) : P j := by
  by_cases h : j.val < 1024
  · exact hl ⟨j, h⟩
  · have e : (⟨1024 + (j.val - 1024), by omega⟩ : Fin 2048) = j := Fin.ext (by change 1024 + (j.val - 1024) = j.val; omega)
    exact e ▸ hr ⟨j.val - 1024, by omega⟩

set_option maxHeartbeats 1600000 in
theorem halves_at (t : Fin cfg0.N) (p : Fin 256) (j : Fin 2048) :
    (tile m c t).dgts (ix2 p j) = r16 (X m c) (ix2 (row (num t) p) j) := by
  revert j
  refine by_half (fun k => ?_) (fun k => ?_)
  · exact ((reads m c t).dgts_left p k).trans (r16_left (X m c) (row (num t) p) k).symm
  · exact ((reads m c t).dgts_right p k).trans (r16_right (X m c) (row (num t) p) k).symm

set_option maxHeartbeats 1600000 in
theorem final16 : (data m 0 c).arrAt 16 cfg0.N = r16 (X m c) := by
  refine (data m 0 c).arrAt_eq_of_covers 16 _ (by decide +kernel) fun t hf y => ?_
  blk_simp
  rw [leaves_16]
  obtain ⟨p, j, rfl⟩ : ∃ (p : Fin 256) (j : Fin 2048), y = ix2 p j := ⟨y 0, y 1, by blk_ext⟩
  refine (halves_at m c t p j).trans ?_
  blk_ext [row, num, idx t]

/-- The gradient of the second norm's scale, as an array. -/
def r19 (x : In 8192) : FVec Ideal S1x1024 .f32 := fun i => x.dgf (i 1)

set_option maxHeartbeats 1600000 in
theorem final19 : (data m 0 c).arrAt 19 cfg0.N = r19 (X m c) := by
  refine (data m 0 c).arrAt_eq_of_covers 19 _ (by decide +kernel) fun t hf y => ?_
  blk_simp
  rw [leaves_19]
  obtain ⟨j, rfl⟩ : ∃ (j : Fin 1024), y = ix2 0 j := ⟨y 1, by blk_ext⟩
  refine (all_gf m c t (last_of ((flush0_19 t).mp hf)) j).trans ?_
  change r19 (X m c) (ix2 0 j) = _
  blk_ext [idx t]

/-- The gradient of the first norm's scale, as an array. -/
def r20 (x : In 8192) : FVec Ideal S1x1024 .f32 := fun i => x.dgm (i 1)

set_option maxHeartbeats 1600000 in
theorem final20 : (data m 0 c).arrAt 20 cfg0.N = r20 (X m c) := by
  refine (data m 0 c).arrAt_eq_of_covers 20 _ (by decide +kernel) fun t hf y => ?_
  blk_simp
  rw [leaves_20]
  obtain ⟨j, rfl⟩ : ∃ (j : Fin 1024), y = ix2 0 j := ⟨y 1, by blk_ext⟩
  refine (all_gm m c t (last_of ((flush0_20 t).mp hf)) j).trans ?_
  change r20 (X m c) (ix2 0 j) = _
  blk_ext [idx t]

/-- The gradient of the output product's weight, as an array. -/
def r21 (x : In 8192) : FVec Ideal S1024x1024 .bf16 := fun i => x.dwo (i 0) (i 1)

set_option maxHeartbeats 1600000 in
theorem final21 : (data m 0 c).arrAt 21 cfg0.N = r21 (X m c) := by
  refine (data m 0 c).arrAt_eq_of_covers 21 _ (by decide +kernel) fun t hf y => ?_
  blk_simp
  rw [leaves_21]
  obtain ⟨k, j, rfl⟩ : ∃ (k : Fin 1024) (j : Fin 1024), y = ix2 k j := ⟨y 0, y 1, by blk_ext⟩
  refine ((pay2_at _ k j).trans (all_wo m c t (last_of ((flush0_21 t).mp hf)) k j)).trans ?_
  change r21 (X m c) (ix2 k j) = _
  blk_ext [idx t]

/-- The gradient of the first branch's weight, as an array. -/
def r22 (x : In 8192) : FVec Ideal S1280x1024 .bf16 := fun i => x.dwbr (i 0) (i 1)

set_option maxHeartbeats 1600000 in
theorem final22 : (data m 0 c).arrAt 22 cfg0.N = r22 (X m c) := by
  refine (data m 0 c).arrAt_eq_of_covers 22 _ (by decide +kernel) fun t hf y => ?_
  blk_simp
  rw [leaves_22]
  obtain ⟨k, j, rfl⟩ : ∃ (k : Fin 1280) (j : Fin 1024), y = ix2 k j := ⟨y 0, y 1, by blk_ext⟩
  refine ((pay3_at _ k j).trans (all_wr m c t (last_of ((flush0_22 t).mp hf)) k j)).trans ?_
  change r22 (X m c) (ix2 k j) = _
  blk_ext [idx t]

/-- The gradient of the second branch's weight, as an array: the four blocks of 256 columns one after the other. -/
def r23 (x : In 8192) : FVec Ideal S4x512x256 .bf16 := fun i =>
  x.dwba (i 1) ⟨(i 0).val * 256 + (i 2).val, by
    have h0 : (i 0).val < 4 := (i 0).isLt
    have h2 : (i 2).val < 256 := (i 2).isLt
    omega⟩

set_option maxHeartbeats 1600000 in
theorem final23 : (data m 0 c).arrAt 23 cfg0.N = r23 (X m c) := by
  refine (data m 0 c).arrAt_eq_of_covers 23 _ (by decide +kernel) fun t hf y => ?_
  blk_simp
  rw [leaves_23]
  obtain ⟨n, k, d, rfl⟩ : ∃ (n : Fin 4) (k : Fin 512) (d : Fin 256), y = ix3 n k d := ⟨y 0, y 1, y 2, by blk_ext⟩
  refine ((slabs_at _ n k d).trans (all_wa m c t (last_of ((flush0_23 t).mp hf)) k _)).trans ?_
  change r23 (X m c) (ix3 n k d) = _
  blk_ext [idx t]

end Cert.KernelIdeal.Val

end
-- ==== Proof.Ref.lean ====
module

public import proofs.«01_k».proof.Proof.Gen.ReferenceIdeal.Run
public import proofs.«01_k».proof.Proof.Spec
public import Idealize.ShloMosaic.Lib.Tactic.CleanTypes

/-! The reference's terms, read at an index. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Value Cert.Grad

variable (W : Valuation τ sig (Elt Ideal))

def a0 : FVec Ideal S8192x1280 .f32 := W (Proc.devRef .tc main_arg0)
def a1 : FVec Ideal S8192x512 .f32 := W (Proc.devRef .tc main_arg1)
def a2 : FVec Ideal S8192x2048 .f32 := W (Proc.devRef .tc main_arg2)
def a4 : FVec Ideal S1280x1024 .f32 := W (Proc.devRef .tc main_arg4)
def a5 : FVec Ideal S512x1024 .f32 := W (Proc.devRef .tc main_arg5)
def a6 : FVec Ideal S1024x1024 .f32 := W (Proc.devRef .tc main_arg6)
def a7 : FVec Ideal S1024 .f32 := W (Proc.devRef .tc main_arg7)
def a8 : FVec Ideal S1024 .f32 := W (Proc.devRef .tc main_arg8)
def a9 : FVec Ideal S8192x1024 .f32 := W (Proc.devRef .tc main_arg9)
def a10 : FVec Ideal S8192x1024 .f32 := W (Proc.devRef .tc main_arg10)
def v2 : FVec Ideal S8192x1024 .f32 := res_main_v2 W
def v3 : FVec Ideal S8192x1024 .f32 := res_main_v3 W
def v24 : FVec Ideal S8192x1024 .f32 := res_main_v24 W
def v25 : FVec Ideal S8192x1024 .f32 := res_main_v25 W
def v42 : FVec Ideal S8192x1024 .f32 := res_main_v42 W

/-- What the gradient takes, in the reference's arrays. -/
def X : In 8192 where
  dhn r j := a10 W (ix2 r j)
  h1 r j := v42 W (ix2 r j)
  gf j := a8 W (ix1 j)
  dy r j := a9 W (ix2 r j)
  mix r j := v25 W (ix2 r j)
  gm j := a7 W (ix1 j)
  wo k j := a6 W (ix2 k j)
  gts r j := a2 W (ix2 r j)
  br r j := v2 W (ix2 r j)
  ba r j := v3 W (ix2 r j)
  wbr k j := a4 W (ix2 k j)
  wba k j := a5 W (ix2 k j)
  merged r j := v24 W (ix2 r j)
  y r j := a0 W (ix2 r j)
  o r j := a1 W (ix2 r j)

def v9 : FVec Ideal S8192x1024 .f32 := res_main_v9 W
def v19 : FVec Ideal S8192x1024 .f32 := res_main_v19 W
def v32 : FVec Ideal S8192x1 .f32 := res_main_v32 W
def v33 : FVec Ideal S8192x1 .f32 := res_main_v33 W
def v38 : FVec Ideal S8192x1024 .f32 := res_main_v38 W
def v49 : FVec Ideal S8192x1 .f32 := res_main_v49 W
def v50 : FVec Ideal S8192x1 .f32 := res_main_v50 W
def v55 : FVec Ideal S8192x1024 .f32 := res_main_v55 W
def v63 : FVec Ideal S8192x1024 .f32 := res_main_v63 W
def v75 : FVec Ideal S8192x1024 .f32 := res_main_v75 W
def v80 : FVec Ideal S8192x1024 .f32 := res_main_v80 W
def v85 : FVec Ideal S8192x1024 .f32 := res_main_v85 W
def v96 : FVec Ideal S8192x1024 .f32 := res_main_v96 W
def v100 : FVec Ideal S8192x1024 .f32 := res_main_v100 W
def v103 : FVec Ideal S8192x1024 .f32 := res_main_v103 W
def v104 : FVec Ideal S8192x1024 .f32 := res_main_v104 W
def v107 : FVec Ideal S8192x1024 .f32 := res_main_v107 W

theorem v9_at (r : Fin 8192) (k : Fin 1024) : v9 W (ix2 r k) = (X W).sr r k := by
  refine Eq.trans ?_ (sig_eq _).symm
  change res_main_v9 W (ix2 r k) = _
  unfold res_main_v9; clean_types; pointwise; rfl

theorem v19_at (r : Fin 8192) (k : Fin 1024) : v19 W (ix2 r k) = (X W).sa r k := by
  refine Eq.trans ?_ (sig_eq _).symm
  change res_main_v19 W (ix2 r k) = _
  unfold res_main_v19; clean_types; pointwise; rfl

theorem v32_at (r : Fin 8192) : v32 W (ix2 r 0) = meanSq ((X W).mix r) := by
  change res_main_v32 W (ix2 r 0) = _
  unfold res_main_v32; clean_types; pointwise; rfl

theorem v33_at (r : Fin 8192) : v33 W (ix2 r 0) = rinv ((X W).mix r) := by
  change Ideal.rsqrt (v32 W (ix2 r 0)) = _
  rw [v32_at]; rfl

theorem v49_at (r : Fin 8192) : v49 W (ix2 r 0) = meanSq ((X W).h1 r) := by
  change res_main_v49 W (ix2 r 0) = _
  unfold res_main_v49; clean_types; pointwise; rfl

theorem v50_at (r : Fin 8192) : v50 W (ix2 r 0) = rinv ((X W).h1 r) := by
  change Ideal.rsqrt (v49 W (ix2 r 0)) = _
  rw [v49_at]; rfl

theorem v63_at (r : Fin 8192) (j : Fin 1024) : v63 W (ix2 r j) = (X W).dhn r j * (X W).gf j := by
  change res_main_v63 W (ix2 r j) = _
  unfold res_main_v63 res_main_v56; clean_types; pointwise; rfl

/-- What comes to the residual stream's rows through the second norm's mean square. -/
theorem v75_eq : v75 W = broadcastInDim S8192x1024 ![0] bcast_S8192_S8192x1024_0 (Host.reduceAdd (Host.divf (mulf (shapeCast S8192x1 (Host.reduceAdd (mulf (v42 W) (v63 W)) (constant S_ .f32 0x00000000#32) reducesTo_S8192x1024_S8192_d1 h_S_) shapeCasts_S8192_S8192x1) (mulf (broadcastInDim S8192x1 ![] bcast_S_S8192x1 (constant S_ .f32 0xBF000000#32)) (Host.divf (v50 W) (v49 W)))) (broadcastInDim S8192x1 ![] bcast_S_S8192x1 (constant S_ .f32 0x44800000#32))) (constant S_ .f32 0x00000000#32) reducesTo_S8192x1_S8192_d1 h_S_) := rfl

theorem v75_at (r : Fin 8192) (j : Fin 1024) :
    v75 W (ix2 r j) = viaMean ((X W).dhn r) ((X W).h1 r) (X W).gf := by
  rw [v75_eq]
  pointwise [v63_at]
  rw [Fin.sum_univ_one, v50_at, v49_at]; rfl

/-- The gradient of the residual stream. -/
def dh1 : FVec Ideal S8192x1024 .f32 :=
  addf (addf (addf (a9 W) (mulf (v63 W) (broadcastInDim S8192x1024 ![0, 1] bcast_S8192x1_S8192x1024_0_1 (v50 W)))) (mulf (v42 W) (v75 W))) (mulf (v75 W) (v42 W))

theorem dh1_at (r : Fin 8192) (j : Fin 1024) : dh1 W (ix2 r j) = (X W).dh1 r j := by
  unfold In.dh1
  rw [normBwd_eq]
  unfold normBwdR
  pointwise [dh1, v63_at, v50_at, v75_at]
  change (X W).dy r j + _ + (X W).h1 r j * _ + _ * (X W).h1 r j = _
  rw [add_comm _ ((X W).dy r j), ← add_assoc, ← add_assoc]

theorem v80_at (r : Fin 8192) (j : Fin 1024) : v80 W (ix2 r j) = (X W).dh1 r j := by
  rw [← dh1_at]
  change shapeCast S8192x1024 (dh1 W) shapeCasts_S8192x1024_S8192x1024 (ix2 r j) = _
  pointwise

theorem v85_at (r : Fin 8192) (j : Fin 1024) : v85 W (ix2 r j) = (X W).dh1 r j * (X W).gm j := by
  change mulf (v80 W) (broadcastInDim S8192x1024 ![0, 1] bcast_S1x1024_S8192x1024_0_1 (broadcastInDim S1x1024 ![1] bcast_S1024_S1x1024_1 (a7 W))) (ix2 r j) = _
  pointwise [v80_at]; rfl

theorem v96_eq : v96 W = broadcastInDim S8192x1024 ![0] bcast_S8192_S8192x1024_0 (Host.reduceAdd (Host.divf (mulf (shapeCast S8192x1 (Host.reduceAdd (mulf (v25 W) (v85 W)) (constant S_ .f32 0x00000000#32) reducesTo_S8192x1024_S8192_d1 h_S_) shapeCasts_S8192_S8192x1) (mulf (broadcastInDim S8192x1 ![] bcast_S_S8192x1 (constant S_ .f32 0xBF000000#32)) (Host.divf (v33 W) (v32 W)))) (broadcastInDim S8192x1 ![] bcast_S_S8192x1 (constant S_ .f32 0x44800000#32))) (constant S_ .f32 0x00000000#32) reducesTo_S8192x1_S8192_d1 h_S_) := rfl

theorem v96_at (r : Fin 8192) (j : Fin 1024) :
    v96 W (ix2 r j) = viaMean ((X W).dh1 r) ((X W).mix r) (X W).gm := by
  rw [v96_eq]
  pointwise [v85_at]
  rw [Fin.sum_univ_one, v33_at, v32_at]; rfl

theorem v100_at (r : Fin 8192) (j : Fin 1024) : v100 W (ix2 r j) = (X W).dmix r j := by
  change addf (addf (mulf (v85 W) (broadcastInDim S8192x1024 ![0, 1] bcast_S8192x1_S8192x1024_0_1 (v33 W))) (mulf (v25 W) (v96 W))) (mulf (v96 W) (v25 W)) (ix2 r j) = _
  unfold In.dmix
  rw [normBwd_eq]
  pointwise [v85_at, v33_at, v96_at]; rfl

theorem v103_at (r : Fin 8192) (k : Fin 1024) : v103 W (ix2 r k) = (X W).dm r k := by
  change Host.dotGeneral dot_S8192x1024_S1024x1024_S8192x1024_1_1_0_0_n_n none (v100 W) (a6 W) (ix2 r k) = _
  pointwise [v100_at]; rfl

theorem v104_at (r : Fin 8192) (k : Fin 1024) : v104 W (ix2 r k) = (X W).dba r k := by
  change mulf (v19 W) (v103 W) (ix2 r k) = _
  pointwise [v19_at, v103_at]; exact mul_comm _ _

theorem v107_at (r : Fin 8192) (k : Fin 1024) : v107 W (ix2 r k) = (X W).dbr r k := by
  change mulf (v9 W) (v103 W) (ix2 r k) = _
  pointwise [v9_at, v103_at]; exact mul_comm _ _

/-- The gradient of the gates' arguments. -/
def dgts : FVec Ideal S8192x2048 .bf16 :=
  truncf .bf16 (concatenate S8192x2048 1 [⟨S8192x1024, (mulf (mulf (v103 W) (v2 W)) (mulf (v9 W) (subf (broadcastInDim S8192x1024 ![] bcast_S_S8192x1024 (constant S_ .f32 0x3F800000#32)) (v9 W))))⟩, ⟨S8192x1024, (mulf (mulf (v103 W) (v3 W)) (mulf (v19 W) (subf (broadcastInDim S8192x1024 ![] bcast_S_S8192x1024 (constant S_ .f32 0x3F800000#32)) (v19 W))))⟩] concatenates_S8192x1024_S8192x1024_S8192x2048_d1) bitsLt_bf16_f32

theorem dgts_left (r : Fin 8192) (k : Fin 1024) : dgts W (ix2 r ⟨k, by omega⟩) = (X W).dgr r k := by
  pointwise [dgts, v9_at, v103_at]
  exact (mul_assoc _ _ _).symm

theorem dgts_right (r : Fin 8192) (k : Fin 1024) : dgts W (ix2 r ⟨1024 + k, by omega⟩) = (X W).dga r k := by
  pointwise [dgts, v19_at, v103_at]
  exact (mul_assoc _ _ _).symm

/-- The gradient of the recurrence's output. -/
def dyr : FVec Ideal S8192x1280 .f32 := Host.dotGeneral dot_S8192x1024_S1280x1024_S8192x1280_1_1_0_0_n_n none (v107 W) (a4 W)

theorem dyr_at (r : Fin 8192) (k : Fin 1280) : dyr W (ix2 r k) = (X W).dyr r k := by
  pointwise [dyr, v107_at]; rfl

/-- The gradient of the attention's output. -/
def doa : FVec Ideal S8192x512 .f32 := Host.dotGeneral dot_S8192x1024_S512x1024_S8192x512_1_1_0_0_n_n none (v104 W) (a5 W)

theorem doa_at (r : Fin 8192) (k : Fin 512) : doa W (ix2 r k) = (X W).doa r k := by
  pointwise [doa, v104_at]; rfl

/-- The gradient of the second norm's scale. -/
def dgf : FVec Ideal S1x1024 .f32 :=
  broadcastInDim S1x1024 ![1] bcast_S1024_S1x1024_1 (Host.reduceAdd (shapeCast S1x1024 (Host.reduceAdd (mulf (v55 W) (a10 W)) (constant S_ .f32 0x00000000#32) reducesTo_S8192x1024_S1024_d0 h_S_) shapeCasts_S1024_S1x1024) (constant S_ .f32 0x00000000#32) reducesTo_S1x1024_S1024_d0 h_S_)

theorem v55_at (r : Fin 8192) (j : Fin 1024) : v55 W (ix2 r j) = (X W).h1 r j * rinv ((X W).h1 r) := by
  change mulf (v42 W) (broadcastInDim S8192x1024 ![0, 1] bcast_S8192x1_S8192x1024_0_1 (v50 W)) (ix2 r j) = _
  pointwise [v50_at]; rfl

theorem v38_at (r : Fin 8192) (j : Fin 1024) : v38 W (ix2 r j) = (X W).mix r j * rinv ((X W).mix r) := by
  change mulf (v25 W) (broadcastInDim S8192x1024 ![0, 1] bcast_S8192x1_S8192x1024_0_1 (v33 W)) (ix2 r j) = _
  pointwise [v33_at]; rfl

theorem dgf_at (j : Fin 1024) : dgf W (ix2 0 j) = (X W).dgf j := by
  pointwise [dgf, v55_at]
  rw [Fin.sum_univ_one]
  exact Finset.sum_congr rfl fun r _ => (mul_comm _ _).trans (mul_assoc _ _ _).symm

/-- The gradient of the first norm's scale. -/
def dgm : FVec Ideal S1x1024 .f32 :=
  broadcastInDim S1x1024 ![1] bcast_S1024_S1x1024_1 (Host.reduceAdd (shapeCast S1x1024 (Host.reduceAdd (mulf (v38 W) (v80 W)) (constant S_ .f32 0x00000000#32) reducesTo_S8192x1024_S1024_d0 h_S_) shapeCasts_S1024_S1x1024) (constant S_ .f32 0x00000000#32) reducesTo_S1x1024_S1024_d0 h_S_)

theorem dgm_at (j : Fin 1024) : dgm W (ix2 0 j) = (X W).dgm j := by
  pointwise [dgm, v38_at, v80_at]
  rw [Fin.sum_univ_one]
  exact Finset.sum_congr rfl fun r _ => (mul_comm _ _).trans (mul_assoc _ _ _).symm

/-- The gradient of the output product's weight. -/
def dwo : FVec Ideal S1024x1024 .bf16 :=
  truncf .bf16 (transpose S1024x1024 [1, 0] (Host.dotGeneral dot_S8192x1024_S8192x1024_S1024x1024_0_0_1_1_n_n none (v100 W) (v24 W)) transposes_S1024x1024_S1024x1024_1_0) bitsLt_bf16_f32

theorem dwo_at (k j : Fin 1024) : dwo W (ix2 k j) = (X W).dwo k j := by
  pointwise [dwo, v100_at]
  exact Finset.sum_congr rfl fun r _ => mul_comm _ _

/-- The gradient of the first branch's weight. -/
def dwbr : FVec Ideal S1280x1024 .bf16 :=
  truncf .bf16 (transpose S1280x1024 [1, 0] (Host.dotGeneral dot_S8192x1024_S8192x1280_S1024x1280_0_0_1_1_n_n none (v107 W) (a0 W)) transposes_S1024x1280_S1280x1024_1_0) bitsLt_bf16_f32

theorem dwbr_at (k : Fin 1280) (j : Fin 1024) : dwbr W (ix2 k j) = (X W).dwbr k j := by
  pointwise [dwbr, v107_at]
  exact Finset.sum_congr rfl fun r _ => mul_comm _ _

/-- The gradient of the second branch's weight, in four slabs of columns. -/
def dwba : FVec Ideal S4x512x256 .bf16 :=
  truncf .bf16 (transpose S4x512x256 [1, 0, 2] (shapeCast S512x4x256 (transpose S512x1024 [1, 0] (Host.dotGeneral dot_S8192x1024_S8192x512_S1024x512_0_0_1_1_n_n none (v104 W) (a1 W)) transposes_S1024x512_S512x1024_1_0) shapeCasts_S512x1024_S512x4x256) transposes_S512x4x256_S4x512x256_1_0_2) bitsLt_bf16_f32

theorem dwba_at (q : Fin 4) (k : Fin 512) (j : Fin 256) :
    dwba W (ix3 q k j) = (X W).dwba k ⟨q * 256 + j, by omega⟩ := by
  pointwise [dwba, v104_at]
  exact Finset.sum_congr rfl fun r _ => mul_comm _ _

end Cert.ReferenceIdeal.Val

end
-- ==== Proof.Host.lean ====
module

public import proofs.«01_k».proof.Proof.Blocks
public import proofs.«01_k».proof.Proof.Ref

/-! The arrays the call finds are the reference's forward values. -/

@[expose] public section

set_option maxRecDepth 16384

noncomputable section

namespace Cert.KernelIdeal.Val

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

def A0 : FVec Ideal S8192x1280 .f32 := m ((c.tc : Thread nD τ).loc main_arg0)
def A1 : FVec Ideal S8192x512 .f32 := m ((c.tc : Thread nD τ).loc main_arg1)
def A2 : FVec Ideal S8192x2048 .f32 := m ((c.tc : Thread nD τ).loc main_arg2)
def A3 : FVec Ideal S8192x1024 .f32 := m ((c.tc : Thread nD τ).loc main_arg3)
def A4 : FVec Ideal S1280x1024 .f32 := m ((c.tc : Thread nD τ).loc main_arg4)
def A5 : FVec Ideal S512x1024 .f32 := m ((c.tc : Thread nD τ).loc main_arg5)
def A6 : FVec Ideal S1024x1024 .f32 := m ((c.tc : Thread nD τ).loc main_arg6)
def A7 : FVec Ideal S1024 .f32 := m ((c.tc : Thread nD τ).loc main_arg7)
def A8 : FVec Ideal S1024 .f32 := m ((c.tc : Thread nD τ).loc main_arg8)
def A9 : FVec Ideal S8192x1024 .f32 := m ((c.tc : Thread nD τ).loc main_arg9)
def A10 : FVec Ideal S8192x1024 .f32 := m ((c.tc : Thread nD τ).loc main_arg10)

/-- A branch: rows into a weight. -/
def brd (y : FVec Ideal S8192x1280 .f32) (w : FVec Ideal S1280x1024 .f32) : FVec Ideal S8192x1024 .f32 :=
  Host.dotGeneral dot_S8192x1280_S1280x1024_S8192x1024_1_0_0_1_n_n none y w

/-- The other branch. -/
def bad (y : FVec Ideal S8192x512 .f32) (w : FVec Ideal S512x1024 .f32) : FVec Ideal S8192x1024 .f32 :=
  Host.dotGeneral dot_S8192x512_S512x1024_S8192x1024_1_0_0_1_n_n none y w

/-- One over one plus the exponential of minus the array. -/
def sgd (g : FVec Ideal S8192x1024 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf g)))

/-- The gated sum of the branches. -/
def mrd (g : FVec Ideal S8192x2048 .f32) (r a : FVec Ideal S8192x1024 .f32) : FVec Ideal S8192x1024 .f32 :=
  addf (mulf (sgd (extractStridedSlice S8192x1024 ![0, 0] g slices_S8192x2048_S8192x1024_0_0)) r) (mulf (sgd (extractStridedSlice S8192x1024 ![0, 1024] g slices_S8192x2048_S8192x1024_0_1024)) a)

/-- The merged rows into the output weight. -/
def mxd (z : FVec Ideal S8192x1024 .f32) (w : FVec Ideal S1024x1024 .f32) : FVec Ideal S8192x1024 .f32 :=
  Host.dotGeneral dot_S8192x1024_S1024x1024_S8192x1024_1_0_0_1_n_n none z w

/-- The residual stream after the mixer. -/
def hd1 (x z : FVec Ideal S8192x1024 .f32) (g : FVec Ideal S1024 .f32) : FVec Ideal S8192x1024 .f32 :=
  addf x (mulf (mulf z (broadcastInDim S8192x1024 ![0, 1] bcast_S8192x1_S8192x1024_0_1 (Host.rsqrt (addf (Host.divf (broadcastInDim S8192x1 ![0] bcast_S8192_S8192x1_0 (Host.reduceAdd (mulf z z) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)))

def kbr : FVec Ideal S8192x1024 .f32 := brd (A0 m c) (A4 m c)
def kba : FVec Ideal S8192x1024 .f32 := bad (A1 m c) (A5 m c)
def kmr : FVec Ideal S8192x1024 .f32 := mrd (A2 m c) (kbr m c) (kba m c)
def kmx : FVec Ideal S8192x1024 .f32 := mxd (kmr m c) (A6 m c)

theorem eq8 : b8 m c = kbr m c := by unfold b8 V; after_results; rfl
theorem eq9 : b9 m c = kba m c := by unfold b9 V; after_results; rfl
theorem eq12 : b12 m c = truncf .bf16 (kmr m c) bitsLt_bf16_f32 := by unfold b12 V; after_results; rfl
theorem eq4 : b4 m c = kmx m c := by unfold b4 V; after_results; rfl
theorem eq1 : b1 m c = hd1 (A3 m c) (kmx m c) (A7 m c) := by unfold b1 V; after_results; rfl
theorem eq2 : b2 m c = broadcastInDim S1x1024 ![1] bcast_S1024_S1x1024_1 (A8 m c) := by unfold b2 V; after_results; rfl
theorem eq5 : b5 m c = broadcastInDim S1x1024 ![1] bcast_S1024_S1x1024_1 (A7 m c) := by unfold b5 V; after_results; rfl
theorem eq6 : b6 m c = truncf .bf16 (A6 m c) bitsLt_bf16_f32 := by unfold b6 V; after_results; rfl
theorem eq10 : b10 m c = truncf .bf16 (A4 m c) bitsLt_bf16_f32 := by unfold b10 V; after_results; rfl
theorem eq11 : b11 m c = truncf .bf16 (A5 m c) bitsLt_bf16_f32 := by unfold b11 V; after_results; rfl
theorem eq0 : b0 m c = A10 m c := by unfold b0 V; after_results; rfl
theorem eq3 : b3 m c = A9 m c := by unfold b3 V; after_results; rfl
theorem eq7 : b7 m c = A2 m c := by unfold b7 V; after_results; rfl
theorem eq13 : b13 m c = A0 m c := by unfold b13 V; after_results; rfl
theorem eq14 : b14 m c = A1 m c := by unfold b14 V; after_results; rfl

end Cert.KernelIdeal.Val

namespace Cert.ReferenceIdeal.Val

open Idealize.ShloMosaic Idealize.ShloMosaic.TcCoe Idealize.SL.Sem
open Cert.KernelIdeal.Val

variable (W : Valuation Cert.ReferenceIdeal.τ Cert.ReferenceIdeal.sig (Elt Ideal))

def a3 : FVec Ideal Cert.ReferenceIdeal.S8192x1024 .f32 := W (Proc.devRef .tc Cert.ReferenceIdeal.main_arg3)

theorem v2_eq : v2 W = brd (a0 W) (a4 W) := rfl
theorem v3_eq : v3 W = bad (a1 W) (a5 W) := rfl
theorem v24_eq : v24 W = mrd (a2 W) (v2 W) (v3 W) := rfl
theorem v25_eq : v25 W = mxd (v24 W) (a6 W) := rfl
theorem v42_eq : v42 W = hd1 (a3 W) (v25 W) (a7 W) := rfl

end Cert.ReferenceIdeal.Val

namespace Cert.KernelIdeal.Val

open Idealize.ShloMosaic Idealize.ShloMosaic.TcCoe Idealize.SL.Sem
open Cert.ReferenceIdeal.Val (a0 a1 a2 a3 a4 a5 a6 a7 a8 a9 a10 v2 v3 v24 v25 v42 v2_eq v3_eq v24_eq v25_eq v42_eq)

variable (m : (ℓ : Loc Cert.KernelIdeal.nD Cert.KernelIdeal.τ Cert.KernelIdeal.sig) → Buf (Elt Ideal) ℓ) (c : Dev Cert.KernelIdeal.nD)
variable (W : Valuation Cert.ReferenceIdeal.τ Cert.ReferenceIdeal.sig (Elt Ideal))

/-- The two programs start from the same arguments. -/
structure Same : Prop where
  e0 : a0 W = A0 m c
  e1 : a1 W = A1 m c
  e2 : a2 W = A2 m c
  e3 : a3 W = A3 m c
  e4 : a4 W = A4 m c
  e5 : a5 W = A5 m c
  e6 : a6 W = A6 m c
  e7 : a7 W = A7 m c
  e8 : a8 W = A8 m c
  e9 : a9 W = A9 m c
  e10 : a10 W = A10 m c

variable {m c W} (h : Same m c W)
include h

theorem Same.t8 : b8 m c = v2 W := by rw [eq8, v2_eq, h.e0, h.e4]; rfl
theorem Same.t9 : b9 m c = v3 W := by rw [eq9, v3_eq, h.e1, h.e5]; rfl
theorem Same.tmr : kmr m c = v24 W := by rw [v24_eq, ← h.t8, ← h.t9, h.e2, eq8, eq9]; rfl
theorem Same.t4 : b4 m c = v25 W := by rw [eq4, v25_eq, ← h.tmr, h.e6]; rfl
theorem Same.t1 : b1 m c = v42 W := by rw [eq1, v42_eq, ← h.t4, eq4, h.e3, h.e7]

/-- The gradient's inputs in the two programs are the same. -/
theorem Same.inputs : X m c = Cert.ReferenceIdeal.Val.X W := by
  have t2 : ∀ j, b2 m c (ix2 0 j) = a8 W (ix1 j) := fun j => by rw [eq2, h.e8]; pointwise
  have t5 : ∀ j, b5 m c (ix2 0 j) = a7 W (ix1 j) := fun j => by rw [eq5, h.e7]; pointwise
  have t6 : ∀ k j, b6 m c (ix2 k j) = a6 W (ix2 k j) := fun k j => by rw [eq6, h.e6]; rfl
  have t10 : ∀ k j, b10 m c (ix2 k j) = a4 W (ix2 k j) := fun k j => by rw [eq10, h.e4]; rfl
  have t11 : ∀ k j, b11 m c (ix2 k j) = a5 W (ix2 k j) := fun k j => by rw [eq11, h.e5]; rfl
  have t12 : ∀ r j, b12 m c (ix2 r j) = v24 W (ix2 r j) := fun r j => by rw [eq12, ← h.tmr]; rfl
  unfold X Cert.ReferenceIdeal.Val.X
  simp only [t2, t5, t6, t10, t11, t12, h.t8, h.t9, h.t4, h.t1, eq0, eq3, eq7, eq13, eq14, h.e0, h.e1, h.e2, h.e9, h.e10]

end Cert.KernelIdeal.Val

end
-- ==== Proof.Tie.lean ====
module

public import proofs.«01_k».proof.Proof.Results
public import proofs.«01_k».proof.Proof.Host

/-! The reference's results are the gradient. -/

@[expose] public section

set_option maxRecDepth 16384

noncomputable section

namespace Cert.ReferenceIdeal.Val

open Idealize.ShloMosaic Idealize.ShloMosaic.TcCoe Idealize.SL.Sem
open Cert.KernelIdeal.Val (r15 r16 r17 r18 r19 r20 r21 r22 r23 r16_left r16_right by_half)
open Cert.ReferenceIdeal Cert.Grad

variable (W : Valuation τ sig (Elt Ideal))

theorem dh1_eq : dh1 W = r15 (X W) := by
  funext i
  obtain ⟨r, j, rfl⟩ : ∃ (r : Fin 8192) (j : Fin 1024), i = ix2 r j := ⟨i 0, i 1, by blk_ext⟩
  exact dh1_at W r j

theorem dgts_eq : dgts W = r16 (X W) := by
  funext i
  obtain ⟨r, j, rfl⟩ : ∃ (r : Fin 8192) (j : Fin 2048), i = ix2 r j := ⟨i 0, i 1, by blk_ext⟩
  revert j
  refine by_half (fun k => ?_) (fun k => ?_)
  · exact (dgts_left W r k).trans (r16_left _ r k).symm
  · exact (dgts_right W r k).trans (r16_right _ r k).symm

theorem dyr_eq : dyr W = r17 (X W) := by
  funext i
  obtain ⟨r, j, rfl⟩ : ∃ (r : Fin 8192) (j : Fin 1280), i = ix2 r j := ⟨i 0, i 1, by blk_ext⟩
  exact dyr_at W r j

theorem doa_eq : doa W = r18 (X W) := by
  funext i
  obtain ⟨r, j, rfl⟩ : ∃ (r : Fin 8192) (j : Fin 512), i = ix2 r j := ⟨i 0, i 1, by blk_ext⟩
  exact doa_at W r j

theorem dgf_eq : dgf W = r19 (X W) := by
  funext i
  obtain ⟨j, rfl⟩ : ∃ (j : Fin 1024), i = ix2 0 j := ⟨i 1, by blk_ext⟩
  exact dgf_at W j

theorem dgm_eq : dgm W = r20 (X W) := by
  funext i
  obtain ⟨j, rfl⟩ : ∃ (j : Fin 1024), i = ix2 0 j := ⟨i 1, by blk_ext⟩
  exact dgm_at W j

theorem dwo_eq : dwo W = r21 (X W) := by
  funext i
  obtain ⟨k, j, rfl⟩ : ∃ (k : Fin 1024) (j : Fin 1024), i = ix2 k j := ⟨i 0, i 1, by blk_ext⟩
  exact dwo_at W k j

theorem dwbr_eq : dwbr W = r22 (X W) := by
  funext i
  obtain ⟨k, j, rfl⟩ : ∃ (k : Fin 1280) (j : Fin 1024), i = ix2 k j := ⟨i 0, i 1, by blk_ext⟩
  exact dwbr_at W k j

theorem dwba_eq : dwba W = r23 (X W) := by
  funext i
  obtain ⟨q, k, j, rfl⟩ : ∃ (q : Fin 4) (k : Fin 512) (j : Fin 256), i = ix3 q k j := ⟨i 0, i 1, i 2, by blk_ext⟩
  exact dwba_at W q k j

end Cert.ReferenceIdeal.Val

end
-- ==== Proof.End.lean ====
module

public import proofs.«01_k».proof.Defs
public import proofs.«01_k».proof.Proof.Gen.ReferenceIdeal.Run
public import proofs.«01_k».proof.Proof.Tie

/-! The two runs: each ends with the gradient of its inputs. -/

@[expose] public section

set_option maxRecDepth 16384

noncomputable section

namespace Cert.ReferenceIdeal.Val

open Idealize.ShloMosaic Idealize.ShloMosaic.TcCoe Idealize.SL.Sem Idealize.ShloMosaic.StableHlo
open Cert.KernelIdeal.Val (r15 r16 r17 r18 r19 r20 r21 r22 r23)
open Cert.ReferenceIdeal Cert.ReferenceIdeal.Gen Cert.Grad

/-- The reference's frame: its arguments end unchanged, and it declares no semaphore. -/
theorem frame_reference : Cert.quiescent_ReferenceIdeal := fun m ρ _ =>
  (θ_run Cert.ReferenceIdeal.defs _ _).mono (fun r h => ⟨fun c => (h c).2.2.2.2.2.2.2.2.2,
      Idealize.ShloMosaic.sem_eq_zero_of_no_sems (by decide) r.2⟩)
    (Cert.ReferenceIdeal.Value.run (F := Ideal) m ρ)

set_option maxHeartbeats 4000000 in
/-- The run's term for a result is the one read at an index. -/
theorem is_dh1 (m : (ℓ : Loc nD τ sig) → Buf (Elt Ideal) ℓ) (r : PUnit × MemSt nD τ sig (Elt Ideal)) (c : Dev nD)
    (h : r.2.mem ((c.tc : Thread nD τ).loc main_v79) = dh1 (launchContents m c)) : r.2.mem ((c.tc : Thread nD τ).loc main_v79) = r15 (X (launchContents m c)) :=
  h.trans (dh1_eq _)

set_option maxHeartbeats 4000000 in
/-- The run's term for a result is the one read at an index. -/
theorem is_dgts (m : (ℓ : Loc nD τ sig) → Buf (Elt Ideal) ℓ) (r : PUnit × MemSt nD τ sig (Elt Ideal)) (c : Dev nD)
    (h : r.2.mem ((c.tc : Thread nD τ).loc main_v117) = dgts (launchContents m c)) : r.2.mem ((c.tc : Thread nD τ).loc main_v117) = r16 (X (launchContents m c)) :=
  h.trans (dgts_eq _)

set_option maxHeartbeats 4000000 in
/-- The run's term for a result is the one read at an index. -/
theorem is_dyr (m : (ℓ : Loc nD τ sig) → Buf (Elt Ideal) ℓ) (r : PUnit × MemSt nD τ sig (Elt Ideal)) (c : Dev nD)
    (h : r.2.mem ((c.tc : Thread nD τ).loc main_v115) = dyr (launchContents m c)) : r.2.mem ((c.tc : Thread nD τ).loc main_v115) = r17 (X (launchContents m c)) :=
  h.trans (dyr_eq _)

set_option maxHeartbeats 4000000 in
/-- The run's term for a result is the one read at an index. -/
theorem is_doa (m : (ℓ : Loc nD τ sig) → Buf (Elt Ideal) ℓ) (r : PUnit × MemSt nD τ sig (Elt Ideal)) (c : Dev nD)
    (h : r.2.mem ((c.tc : Thread nD τ).loc main_v112) = doa (launchContents m c)) : r.2.mem ((c.tc : Thread nD τ).loc main_v112) = r18 (X (launchContents m c)) :=
  h.trans (doa_eq _)

set_option maxHeartbeats 4000000 in
/-- The run's term for a result is the one read at an index. -/
theorem is_dgf (m : (ℓ : Loc nD τ sig) → Buf (Elt Ideal) ℓ) (r : PUnit × MemSt nD τ sig (Elt Ideal)) (c : Dev nD)
    (h : r.2.mem ((c.tc : Thread nD τ).loc main_v118) = dgf (launchContents m c)) : r.2.mem ((c.tc : Thread nD τ).loc main_v118) = r19 (X (launchContents m c)) :=
  h.trans (dgf_eq _)

set_option maxHeartbeats 4000000 in
/-- The run's term for a result is the one read at an index. -/
theorem is_dgm (m : (ℓ : Loc nD τ sig) → Buf (Elt Ideal) ℓ) (r : PUnit × MemSt nD τ sig (Elt Ideal)) (c : Dev nD)
    (h : r.2.mem ((c.tc : Thread nD τ).loc main_v119) = dgm (launchContents m c)) : r.2.mem ((c.tc : Thread nD τ).loc main_v119) = r20 (X (launchContents m c)) :=
  h.trans (dgm_eq _)

set_option maxHeartbeats 4000000 in
/-- The run's term for a result is the one read at an index. -/
theorem is_dwo (m : (ℓ : Loc nD τ sig) → Buf (Elt Ideal) ℓ) (r : PUnit × MemSt nD τ sig (Elt Ideal)) (c : Dev nD)
    (h : r.2.mem ((c.tc : Thread nD τ).loc main_v120) = dwo (launchContents m c)) : r.2.mem ((c.tc : Thread nD τ).loc main_v120) = r21 (X (launchContents m c)) :=
  h.trans (dwo_eq _)

set_option maxHeartbeats 4000000 in
/-- The run's term for a result is the one read at an index. -/
theorem is_dwbr (m : (ℓ : Loc nD τ sig) → Buf (Elt Ideal) ℓ) (r : PUnit × MemSt nD τ sig (Elt Ideal)) (c : Dev nD)
    (h : r.2.mem ((c.tc : Thread nD τ).loc main_v121) = dwbr (launchContents m c)) : r.2.mem ((c.tc : Thread nD τ).loc main_v121) = r22 (X (launchContents m c)) :=
  h.trans (dwbr_eq _)

set_option maxHeartbeats 4000000 in
/-- The run's term for a result is the one read at an index. -/
theorem is_dwba (m : (ℓ : Loc nD τ sig) → Buf (Elt Ideal) ℓ) (r : PUnit × MemSt nD τ sig (Elt Ideal)) (c : Dev nD)
    (h : r.2.mem ((c.tc : Thread nD τ).loc main_v124) = dwba (launchContents m c)) : r.2.mem ((c.tc : Thread nD τ).loc main_v124) = r23 (X (launchContents m c)) :=
  h.trans (dwba_eq _)

set_option maxHeartbeats 4000000 in
/-- The reference's run: its results are the gradient of its inputs. -/
theorem results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v79) = r15 (X (launchContents m c))
      ∧ r.2.mem ((c.tc : Thread nD τ).loc main_v117) = r16 (X (launchContents m c))
      ∧ r.2.mem ((c.tc : Thread nD τ).loc main_v115) = r17 (X (launchContents m c))
      ∧ r.2.mem ((c.tc : Thread nD τ).loc main_v112) = r18 (X (launchContents m c))
      ∧ r.2.mem ((c.tc : Thread nD τ).loc main_v118) = r19 (X (launchContents m c))
      ∧ r.2.mem ((c.tc : Thread nD τ).loc main_v119) = r20 (X (launchContents m c))
      ∧ r.2.mem ((c.tc : Thread nD τ).loc main_v120) = r21 (X (launchContents m c))
      ∧ r.2.mem ((c.tc : Thread nD τ).loc main_v121) = r22 (X (launchContents m c))
      ∧ r.2.mem ((c.tc : Thread nD τ).loc main_v124) = r23 (X (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run Cert.ReferenceIdeal.defs _ _).mono (fun r h c => by
    obtain ⟨h0, h1, h2, h3, h4, h5, h6, h7, h8, ha⟩ := h c
    exact ⟨is_dh1 m r c h0, is_dgts m r c h1, is_dyr m r c h2, is_doa m r c h3, is_dgf m r c h4, is_dgm m r c h5, is_dwo m r c h6, is_dwbr m r c h7, is_dwba m r c h8, ha⟩)
    (Cert.ReferenceIdeal.Value.run (F := Ideal) m ρ)

end Cert.ReferenceIdeal.Val

namespace Cert.KernelIdeal.Val

open Idealize.ShloMosaic Idealize.ShloMosaic.TcCoe Idealize.SL.Sem
open Cert.KernelIdeal Cert.KernelIdeal.Gen Cert.KernelIdeal.Own Cert.Grad

variable (m : (ℓ : Loc nD τ sig) → Buf (Elt Ideal) ℓ)

set_option maxHeartbeats 4000000 in
theorem out15 (r : PUnit × MemSt nD τ sig (Elt Ideal)) (h : Pipeline.FramePost cfgs (data m) 0 (V m) r) (c : Dev nD) :
    r.2.mem ((c.tc : Thread nD τ).loc main_v40_0) = r15 (X m c) :=
  ((h c).1 15).trans (final15 m c)

set_option maxHeartbeats 4000000 in
theorem out16 (r : PUnit × MemSt nD τ sig (Elt Ideal)) (h : Pipeline.FramePost cfgs (data m) 0 (V m) r) (c : Dev nD) :
    r.2.mem ((c.tc : Thread nD τ).loc main_v40_1) = r16 (X m c) :=
  ((h c).1 16).trans (final16 m c)

set_option maxHeartbeats 4000000 in
theorem out17 (r : PUnit × MemSt nD τ sig (Elt Ideal)) (h : Pipeline.FramePost cfgs (data m) 0 (V m) r) (c : Dev nD) :
    r.2.mem ((c.tc : Thread nD τ).loc main_v40_2) = r17 (X m c) :=
  ((h c).1 17).trans (final17 m c)

set_option maxHeartbeats 4000000 in
theorem out18 (r : PUnit × MemSt nD τ sig (Elt Ideal)) (h : Pipeline.FramePost cfgs (data m) 0 (V m) r) (c : Dev nD) :
    r.2.mem ((c.tc : Thread nD τ).loc main_v40_3) = r18 (X m c) :=
  ((h c).1 18).trans (final18 m c)

set_option maxHeartbeats 4000000 in
theorem out19 (r : PUnit × MemSt nD τ sig (Elt Ideal)) (h : Pipeline.FramePost cfgs (data m) 0 (V m) r) (c : Dev nD) :
    r.2.mem ((c.tc : Thread nD τ).loc main_v40_4) = r19 (X m c) :=
  ((h c).1 19).trans (final19 m c)

set_option maxHeartbeats 4000000 in
theorem out20 (r : PUnit × MemSt nD τ sig (Elt Ideal)) (h : Pipeline.FramePost cfgs (data m) 0 (V m) r) (c : Dev nD) :
    r.2.mem ((c.tc : Thread nD τ).loc main_v40_5) = r20 (X m c) :=
  ((h c).1 20).trans (final20 m c)

set_option maxHeartbeats 4000000 in
theorem out21 (r : PUnit × MemSt nD τ sig (Elt Ideal)) (h : Pipeline.FramePost cfgs (data m) 0 (V m) r) (c : Dev nD) :
    r.2.mem ((c.tc : Thread nD τ).loc main_v40_6) = r21 (X m c) :=
  ((h c).1 21).trans (final21 m c)

set_option maxHeartbeats 4000000 in
theorem out22 (r : PUnit × MemSt nD τ sig (Elt Ideal)) (h : Pipeline.FramePost cfgs (data m) 0 (V m) r) (c : Dev nD) :
    r.2.mem ((c.tc : Thread nD τ).loc main_v40_7) = r22 (X m c) :=
  ((h c).1 22).trans (final22 m c)

set_option maxHeartbeats 4000000 in
theorem out23 (r : PUnit × MemSt nD τ sig (Elt Ideal)) (h : Pipeline.FramePost cfgs (data m) 0 (V m) r) (c : Dev nD) :
    r.2.mem ((c.tc : Thread nD τ).loc main_v40_8) = r23 (X m c) :=
  ((h c).1 23).trans (final23 m c)

set_option maxHeartbeats 4000000 in
/-- The kernel's run: its results are the gradient of the arrays the call finds. -/
theorem results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40_0) = r15 (X m c)
      ∧ r.2.mem ((c.tc : Thread nD τ).loc main_v40_1) = r16 (X m c)
      ∧ r.2.mem ((c.tc : Thread nD τ).loc main_v40_2) = r17 (X m c)
      ∧ r.2.mem ((c.tc : Thread nD τ).loc main_v40_3) = r18 (X m c)
      ∧ r.2.mem ((c.tc : Thread nD τ).loc main_v40_4) = r19 (X m c)
      ∧ r.2.mem ((c.tc : Thread nD τ).loc main_v40_5) = r20 (X m c)
      ∧ r.2.mem ((c.tc : Thread nD τ).loc main_v40_6) = r21 (X m c)
      ∧ r.2.mem ((c.tc : Thread nD τ).loc main_v40_7) = r22 (X m c)
      ∧ r.2.mem ((c.tc : Thread nD τ).loc main_v40_8) = r23 (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨out15 m r h.1 c, out16 m r h.1 c, out17 m r h.1 c, out18 m r h.1 c, out19 m r h.1 c, out20 m r h.1 c, out21 m r h.1 c, out22 m r h.1 c, out23 m r h.1 c, h.2 c⟩)
    (θ_run_and (run m ρ) (frame_of m ρ (data m) (data_arrays m) (run m ρ)))

end Cert.KernelIdeal.Val

end
-- ==== Proof.Steps.lean ====
module

public import proofs.«01_k».proof.Proof.Scalar

/-! A number that grows by one term at each step ends at the sum of the terms. -/

@[expose] public section

noncomputable section

namespace Cert.Grad

/-- What starts at `0 + f 0` and grows by `f n` at step `n` is, after the last step, the sum of all terms. -/
theorem sum_steps {N : ℕ} (K : ℕ) (hN : N = K + 1) (f : Fin (K + 1) → EReal) (g : (n : ℕ) → n < N → EReal)
    (h0 : ∀ h, g 0 h = 0 + f 0)
    (hs : ∀ n (h : n + 1 < N), g (n + 1) h = g n (Nat.lt_of_succ_lt h) + f ⟨n + 1, by omega⟩)
    (t : Fin N) (ht : t.val = K) : g t.val t.isLt = ∑ s, f s := by
  have key : ∀ n (h : n < N) (h' : n + 1 ≤ K + 1), g n h = ∑ s : Fin (n + 1), f (s.castLE h') := by
    intro n
    induction n with
    | zero =>
      intro h h'
      rw [h0, Fin.sum_univ_one, zero_add]; rfl
    | succ n ih =>
      intro h h'
      rw [hs n h, ih (Nat.lt_of_succ_lt h) (by omega), Fin.sum_univ_castSucc (n := n + 1)]
      rfl
  obtain ⟨n, h⟩ := t
  subst ht
  rw [key n h (le_refl _)]
  rfl

end Cert.Grad

end
-- ==== Proof.Down.lean ====
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Steps
public import Idealize.ShloMosaic.Lib.Pipeline.ValueKit
public import Idealize.ShloMosaic.Lib.Pipeline.ReadBack

/-! The gradient of the feed-forward block's last weight: the activations, transposed, into the gradient of their
product, added up over eight tiles of rows. -/

@[expose] public section

set_option maxRecDepth 16384

noncomputable section

namespace Cert.Kernel3Ideal.Own

open Idealize.ShloMosaic Idealize.ShloMosaic.TcCoe Idealize.SL.Sem Idealize.ShloMosaic.StableHlo
open Cert.Kernel3Ideal Cert.Kernel3Ideal.Gen Cert.Grad

/-- The frame of the program read over the reals. -/
theorem frame_ideal : Cert.quiescent_Kernel3Ideal := fun m ρ _ => Cert.Kernel3Ideal.Gen.frame m ρ

set_option backward.isDefEq.respectTransparency false in
set_option smartUnfolding false in
set_option maxHeartbeats 40000000 in
/-- The frame of the program read over the bits: the two programs' texts are one. -/
theorem frame_kernel : Cert.quiescent_Kernel3 := fun m ρ _ =>
  (θ_run (Cert.Kernel3Ideal.defs (F := Bits)) _ _).mono (fun _ h => h) (Cert.Kernel3Ideal.Gen.frame (F := Bits) m ρ)

/-- The reference's frame. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Row `p` of tile `t`. -/
def line (t : Fin 8) (p : Fin 1024) : Fin 8192 := ⟨t * 1024 + p, by omega⟩

/-- A sum over the rows, tile by tile. -/
theorem sum_lines (f : Fin 8192 → EReal) : ∑ r, f r = ∑ t : Fin 8, ∑ p : Fin 1024, f (line t p) :=
  Fin.sum_univ_tiles 8 1024 rfl f

/-- The gradient of a weight from its product's left factor and gradient. -/
def dw (a : FVec Ideal S8192x3072 .f32) (d : FVec Ideal S8192x1024 .f32) : FVec Ideal S1x3072x1024 .bf16 :=
  fun i => ∑ r : Fin 8192, (show EReal from a (ix2 r (i 1))) * d (ix2 r (i 2))

/-- One tile adds its rows' products. -/
theorem pay2_at (a : FVec Ideal S1024x3072 .bf16) (s : FVec Ideal S3072x1024 .f32) (d : FVec Ideal S1024x1024 .bf16)
    (k : Fin 3072) (j : Fin 1024) :
    k0_pay2 (F := Ideal) a s d (ix2 k j) = s (ix2 k j) + ∑ p, a (ix2 p k) * d (ix2 p j) := by
  pointwise [k0_pay2]

theorem pay1_at (k : Fin 3072) (j : Fin 1024) : k0_pay1 (F := Ideal) (ix2 k j) = (0 : EReal) := by
  pointwise [k0_pay1]

theorem pay3_at (s : FVec Ideal S3072x1024 .f32) (k : Fin 3072) (j : Fin 1024) :
    k0_pay3 (F := Ideal) s (ix3 0 k j) = s (ix2 k j) := by
  pointwise [k0_pay3]

variable (m : (ℓ : Loc nD τ sig) → Buf (Elt Ideal) ℓ) (c : Dev nD)

/-- The activations and the gradient, as the call takes them. -/
def A : FVec Ideal S8192x3072 .f32 := m ((c.tc : Thread nD τ).loc main_arg0)
def D : FVec Ideal S8192x1024 .f32 := m ((c.tc : Thread nD τ).loc main_arg1)

theorem V_a : V m c main_v0 = truncf .bf16 (A m c) bitsLt_bf16_f32 := by unfold V; after_results; rfl
theorem V_d : V m c main_v1 = truncf .bf16 (D m c) bitsLt_bf16_f32 := by unfold V; after_results; rfl

/-- Every window's block at a tile. -/
theorem idx : ∀ t : Fin cfg0.N, win0_0.index t = ![t.val, 0] ∧ win0_1.index t = ![t.val, 0] ∧ win0_2.index t = ![0, 0, 0] :=
  (by decide +kernel : ∀ t : Fin grid0.N, _)

/-- A tile's number. -/
def num (t : Fin cfg0.N) : Fin 8 := ⟨t.val, by have := t.isLt; have : cfg0.N = 8 := N_0; omega⟩

theorem blk_a (t : Fin cfg0.N) (p : Fin 1024) (k : Fin 3072) : iblk m c 0 t (ix2 p k) = A m c (ix2 (line (num t) p) k) := by
  have e : iblk m c 0 t (ix2 p k) = V m c main_v0 (ix2 (line (num t) p) k) := by
    blk_ext [iblk, line, num, idx t]
  rw [e, V_a]; rfl

theorem blk_d (t : Fin cfg0.N) (p : Fin 1024) (k : Fin 1024) : iblk m c 1 t (ix2 p k) = D m c (ix2 (line (num t) p) k) := by
  have e : iblk m c 1 t (ix2 p k) = V m c main_v1 (ix2 (line (num t) p) k) := by
    blk_ext [iblk, line, num, idx t]
  rw [e, V_d]; rfl

/-- A tile's share of the sum. -/
def part (k : Fin 3072) (j : Fin 1024) (t : Fin 8) : EReal :=
  ∑ p : Fin 1024, (show EReal from A m c (ix2 (line t p) k)) * D m c (ix2 (line t p) j)

theorem step (t : Fin cfg0.N) (s : FVec Ideal S3072x1024 .f32) (k : Fin 3072) (j : Fin 1024) :
    k0_pay2 (F := Ideal) (iblk m c 0 t) s (iblk m c 1 t) (ix2 k j) = s (ix2 k j) + part m c k j (num t) := by
  refine (pay2_at _ s _ k j).trans (congrArg (s (ix2 k j) + ·) (Finset.sum_congr rfl fun p _ => ?_))
  rw [blk_a, blk_d]

/-- What the carried sum is after a tile. -/
theorem carried_zero (h : 0 < cfg0.N) : (outsAt0 m c 0 h).2 = k0_pay2 (F := Ideal) (iblk m c 0 ⟨0, h⟩) (k0_pay1 (F := Ideal)) (iblk m c 1 ⟨0, h⟩) := by
  have h1 : ¬((⟨0, h⟩ : Fin cfg0.N).val % 8 = 7) := by dsimp only; omega
  rw [show outsAt0 m c 0 h = _ from outsAt0_A m c ⟨0, h⟩ rfl h1]
  frame_out

theorem carried_succ (n : ℕ) (h : n + 1 < cfg0.N) : (outsAt0 m c (n + 1) h).2
    = k0_pay2 (F := Ideal) (iblk m c 0 ⟨n + 1, h⟩) (outsAt0 m c n (Nat.lt_of_succ_lt h)).2 (iblk m c 1 ⟨n + 1, h⟩) := by
  have hN : cfg0.N = 8 := N_0
  have h0 : ¬((⟨n + 1, h⟩ : Fin cfg0.N).val % 8 = 0) := by dsimp only; omega
  by_cases h1 : (⟨n + 1, h⟩ : Fin cfg0.N).val % 8 = 7
  · rw [show outsAt0 m c (n + 1) h = _ from outsAt0_C m c ⟨n + 1, h⟩ h0 h1]
    frame_out
    simp only [read_unread_whole]
    rfl
  · rw [show outsAt0 m c (n + 1) h = _ from outsAt0_B m c ⟨n + 1, h⟩ h0 h1]
    frame_out
    simp only [read_unread_whole]
    rfl

/-- The last tile writes the carried sum, after its own share. -/
theorem written (t : Fin cfg0.N) (h0 : ¬t.val % 8 = 0) (h1 : t.val % 8 = 7) : (outsAt0 m c t.val t.isLt).1 = k0_pay3 (F := Ideal) (outsAt0 m c t.val t.isLt).2 := by
  rw [outsAt0_C m c t h0 h1]
  frame_out

theorem total (t : Fin cfg0.N) (ht : t.val = 7) (k : Fin 3072) (j : Fin 1024) :
    (outsAt0 m c t.val t.isLt).2 (ix2 k j) = ∑ s, part m c k j s := by
  refine sum_steps 7 N_0 (part m c k j) (fun n h => (outsAt0 m c n h).2 (ix2 k j)) (fun h => ?_) (fun n h => ?_) t ht
  · rw [carried_zero]
    refine (step m c ⟨0, h⟩ _ k j).trans (congrArg (· + _) (pay1_at k j))
  · rw [carried_succ]
    exact step m c ⟨n + 1, h⟩ _ k j

/-- The array the call leaves is the weight's gradient. -/
theorem final : (dats m 0 c).arrAt 2 cfg0.N = dw (A m c) (D m c) := by
  refine (dats m 0 c).arrAt_eq_of_covers 2 _ (by decide +kernel) fun t hf y => ?_
  have hm : t.val % 8 = 7 := (flush0_2 t).mp hf
  have ht : t.val = 7 := by have : t.val < 8 := lt_of_lt_of_eq t.isLt N_0; omega
  blk_simp
  rw [after0_2, written m c t (by omega) hm]
  obtain ⟨k, j, rfl⟩ : ∃ (k : Fin 3072) (j : Fin 1024), y = ix3 0 k j := ⟨y 1, y 2, by blk_ext⟩
  refine (pay3_at _ k j).trans ((total m c t ht k j).trans ?_)
  have e : dw (A m c) (D m c) (ix3 0 k j) = ∑ s, part m c k j s := sum_lines _
  rw [← e]
  blk_ext [idx t]

/-- The run ends with the gradient. -/
theorem result (g : Dev nD → PrngReg) :
    θ_run (defs (F := Ideal)) (onTc (τ := τ) (main (F := Ideal))) ⟨m, fun _ => 0, g⟩ (fun r => ∀ c : Dev nD,
      r.2.mem ((c.tc : Thread nD τ).loc main_v2) = dw (A m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((Cert.Kernel3Ideal.Value.final2 m c).symm.trans (final m c)), (h c).2⟩)
    (Cert.Kernel3Ideal.Value.run (F := Ideal) m g)

/-- The reference's term is the same sum. -/
theorem reference_eq (a : FVec Ideal S8192x3072 .f32) (d : FVec Ideal S8192x1024 .f32) :
    truncf (F := Ideal) .bf16 (broadcastInDim Cert.Reference3Ideal.S1x3072x1024 ![1, 2] Cert.Reference3Ideal.Gen.bcast_S3072x1024_S1x3072x1024_1_2 (transpose Cert.Reference3Ideal.S3072x1024 [1, 0] (Host.dotGeneral Cert.Reference3Ideal.dot_S8192x1024_S8192x3072_S1024x3072_0_0_1_1_n_n none d a) Cert.Reference3Ideal.Gen.transposes_S1024x3072_S3072x1024_1_0)) Cert.Reference3Ideal.Gen.bitsLt_bf16_f32
      = dw a d := by
  funext i
  obtain ⟨k, j, rfl⟩ : ∃ (k : Fin 3072) (j : Fin 1024), i = ix3 0 k j := ⟨i 1, i 2, by blk_ext⟩
  pointwise [dw, mul_comm]

/-- The kernel and the reference agree. -/
theorem algebraic : Cert.algebraic_Kernel3Ideal_Reference3Ideal := by
  intro m g m' g' _ hag
  refine ⟨fun c => dw (A m c) (D m c), result m g, ?_⟩
  refine (θ_run Cert.Reference3Ideal.defs _ _).mono (fun r h c => ⟨?_, (h c).2⟩) (Cert.Reference3Ideal.Value.run (F := Ideal) m' g')
  obtain ⟨h0, h1⟩ := hag c
  have e := (h c).1
  rw [h0, h1] at e
  exact e.trans (reference_eq (A m c) (D m c))

end Cert.Kernel3Ideal.Own

end
-- ==== Proof.Gate.lean ====
module

public import proofs.«01_k».proof.Defs
public import proofs.«01_k».proof.Proof.Gen.Kernel4
public import proofs.«01_k».proof.Proof.Gen.Kernel4Ideal.Value
public import proofs.«01_k».proof.Proof.Gen.Reference4Ideal.Run
public import proofs.«01_k».proof.Proof.Steps
public import Idealize.ShloMosaic.Lib.Pipeline.ValueKit
public import Idealize.ShloMosaic.Lib.Pipeline.ReadBack

/-! The gradient of a weight of the feed-forward block's first layer: the rows, transposed, into the gradient of their
product, added up over eight tiles of rows, and written as four slabs of columns. -/

@[expose] public section

set_option maxRecDepth 16384

noncomputable section

namespace Cert.Kernel4Ideal.Own

open Idealize.ShloMosaic Idealize.ShloMosaic.TcCoe Idealize.SL.Sem Idealize.ShloMosaic.StableHlo
open Cert.Kernel4Ideal Cert.Kernel4Ideal.Gen Cert.Grad

/-- The frame of the program read over the reals. -/
theorem frame_ideal : Cert.quiescent_Kernel4Ideal := fun m ρ _ => Cert.Kernel4Ideal.Gen.frame m ρ

set_option backward.isDefEq.respectTransparency false in
set_option smartUnfolding false in
set_option maxHeartbeats 40000000 in
/-- The frame of the program read over the bits: the two programs' texts are one. -/
theorem frame_kernel : Cert.quiescent_Kernel4 := fun m ρ _ =>
  (θ_run (Cert.Kernel4Ideal.defs (F := Bits)) _ _).mono (fun _ h => h) (Cert.Kernel4Ideal.Gen.frame (F := Bits) m ρ)

/-- The reference's frame. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Row `p` of tile `t`. -/
def line (t : Fin 8) (p : Fin 1024) : Fin 8192 := ⟨t * 1024 + p, by omega⟩

/-- A sum over the rows, tile by tile. -/
theorem sum_lines (f : Fin 8192 → EReal) : ∑ r, f r = ∑ t : Fin 8, ∑ p : Fin 1024, f (line t p) :=
  Fin.sum_univ_tiles 8 1024 rfl f

/-- Column `j` of slab `q`. -/
def col (q : Fin 4) (j : Fin 768) : Fin 3072 := ⟨q * 768 + j, by omega⟩

/-- The gradient of a weight from its product's left factor and gradient, in slabs of columns. -/
def dw (a : FVec Ideal S8192x1024 .f32) (d : FVec Ideal S8192x3072 .f32) : FVec Ideal S4x1024x768 .bf16 :=
  fun i => ∑ r : Fin 8192, (show EReal from a (ix2 r (i 1))) * d (ix2 r (col (i 0) (i 2)))

/-- One tile adds its rows' products. -/
theorem pay2_at (a : FVec Ideal S1024x1024 .bf16) (s : FVec Ideal S1024x3072 .f32) (d : FVec Ideal S1024x3072 .bf16)
    (k : Fin 1024) (j : Fin 3072) :
    k0_pay2 (F := Ideal) a s d (ix2 k j) = s (ix2 k j) + ∑ p, a (ix2 p k) * d (ix2 p j) := by
  pointwise [k0_pay2]

theorem pay1_at (k : Fin 1024) (j : Fin 3072) : k0_pay1 (F := Ideal) (ix2 k j) = (0 : EReal) := by
  pointwise [k0_pay1]

variable (m : (ℓ : Loc nD τ sig) → Buf (Elt Ideal) ℓ) (c : Dev nD)

/-- The activations and the gradient, as the call takes them. -/
def A : FVec Ideal S8192x1024 .f32 := m ((c.tc : Thread nD τ).loc main_arg0)
def D : FVec Ideal S8192x3072 .f32 := m ((c.tc : Thread nD τ).loc main_arg1)

theorem V_a : V m c main_v0 = truncf .bf16 (A m c) bitsLt_bf16_f32 := by unfold V; after_results; rfl
theorem V_d : V m c main_v1 = truncf .bf16 (D m c) bitsLt_bf16_f32 := by unfold V; after_results; rfl

/-- Every window's block at a tile. -/
theorem idx : ∀ t : Fin cfg0.N, win0_0.index t = ![t.val, 0] ∧ win0_1.index t = ![t.val, 0] ∧ win0_2.index t = ![0, 0, 0] :=
  (by decide +kernel : ∀ t : Fin grid0.N, _)

/-- A tile's number. -/
def num (t : Fin cfg0.N) : Fin 8 := ⟨t.val, by have := t.isLt; have : cfg0.N = 8 := N_0; omega⟩

theorem blk_a (t : Fin cfg0.N) (p : Fin 1024) (k : Fin 1024) : iblk m c 0 t (ix2 p k) = A m c (ix2 (line (num t) p) k) := by
  have e : iblk m c 0 t (ix2 p k) = V m c main_v0 (ix2 (line (num t) p) k) := by
    blk_ext [iblk, line, num, idx t]
  rw [e, V_a]; rfl

theorem blk_d (t : Fin cfg0.N) (p : Fin 1024) (k : Fin 3072) : iblk m c 1 t (ix2 p k) = D m c (ix2 (line (num t) p) k) := by
  have e : iblk m c 1 t (ix2 p k) = V m c main_v1 (ix2 (line (num t) p) k) := by
    blk_ext [iblk, line, num, idx t]
  rw [e, V_d]; rfl

/-- A tile's share of the sum. -/
def part (k : Fin 1024) (j : Fin 3072) (t : Fin 8) : EReal :=
  ∑ p : Fin 1024, (show EReal from A m c (ix2 (line t p) k)) * D m c (ix2 (line t p) j)

theorem step (t : Fin cfg0.N) (s : FVec Ideal S1024x3072 .f32) (k : Fin 1024) (j : Fin 3072) :
    k0_pay2 (F := Ideal) (iblk m c 0 t) s (iblk m c 1 t) (ix2 k j) = s (ix2 k j) + part m c k j (num t) := by
  refine (pay2_at _ s _ k j).trans (congrArg (s (ix2 k j) + ·) (Finset.sum_congr rfl fun p _ => ?_))
  rw [blk_a, blk_d]

/-- What the carried sum is after a tile. -/
theorem carried_zero (h : 0 < cfg0.N) : (outsAt0 m c 0 h).2 = k0_pay2 (F := Ideal) (iblk m c 0 ⟨0, h⟩) (k0_pay1 (F := Ideal)) (iblk m c 1 ⟨0, h⟩) := by
  have h1 : ¬((⟨0, h⟩ : Fin cfg0.N).val % 8 = 7) := by dsimp only; omega
  rw [show outsAt0 m c 0 h = _ from outsAt0_A m c ⟨0, h⟩ rfl h1]
  frame_out

theorem carried_succ (n : ℕ) (h : n + 1 < cfg0.N) : (outsAt0 m c (n + 1) h).2
    = k0_pay2 (F := Ideal) (iblk m c 0 ⟨n + 1, h⟩) (outsAt0 m c n (Nat.lt_of_succ_lt h)).2 (iblk m c 1 ⟨n + 1, h⟩) := by
  have hN : cfg0.N = 8 := N_0
  have h0 : ¬((⟨n + 1, h⟩ : Fin cfg0.N).val % 8 = 0) := by dsimp only; omega
  by_cases h1 : (⟨n + 1, h⟩ : Fin cfg0.N).val % 8 = 7
  · rw [show outsAt0 m c (n + 1) h = _ from outsAt0_C m c ⟨n + 1, h⟩ h0 h1]
    frame_out
    simp only [read_unread_whole]
    rfl
  · rw [show outsAt0 m c (n + 1) h = _ from outsAt0_B m c ⟨n + 1, h⟩ h0 h1]
    frame_out
    simp only [read_unread_whole]
    rfl

/-- The last tile writes the carried sum, after its own share, a slab of columns at a time. -/
theorem written (t : Fin cfg0.N) (h0 : ¬t.val % 8 = 0) (h1 : t.val % 8 = 7) (q : Fin 4) (k : Fin 1024) (j : Fin 768) :
    (outsAt0 m c t.val t.isLt).1 (ix3 q k j) = (outsAt0 m c t.val t.isLt).2 (ix2 k (col q j)) := by
  rw [outsAt0_C m c t h0 h1]
  frame_out
  simp (disch := decide) only [View.readCov_fill]
  generalize k0_pay2 (F := Ideal) _ _ _ = S
  refine View.canon_apply_of_pieces (Val := Elt Ideal) (S := S4x1024x768) (e := .bf16) (fun i => S (ix2 (i 1) (col (i 0) (i 2)))) _ ?_ _ ?_
  rotate_left
  · exact View.cover_of_tiledL (s := S4x1024x768) _ S1x1024x768.size (by sl_kernel_rfl) _
  refine View.PiecesOf.mem (Val := Elt Ideal) (s := S4x1024x768) (e := .bf16) (G := fun i => S (ix2 (i 1) (col (i 0) (i 2)))) ?_
  refine ⟨?_, ?_, ?_, ?_, trivial⟩
  all_goals
    intro x
    obtain ⟨k, j, rfl⟩ : ∃ (k : Fin 1024) (j : Fin 768), x = ix3 0 k j := ⟨x 1, x 2, by blk_ext⟩
    pointwise [k0_pay3, k0_pay4, k0_pay5, k0_pay6, col]
    refine congrArg S (congrArg₂ ix2 (Fin.ext ?_) (Fin.ext ?_))
    · rw [ValueKit.rect_emb_unit_val]
      exact (Nat.zero_add _).symm
    · dsimp only
      rw [ValueKit.rect_emb_unit_val, ValueKit.rect_emb_unit_val]
      first
        | exact congrArg (_ + ·) (Nat.zero_add _).symm
        | exact ((Nat.zero_add _).trans (Nat.zero_add _)).symm

theorem total (t : Fin cfg0.N) (ht : t.val = 7) (k : Fin 1024) (j : Fin 3072) :
    (outsAt0 m c t.val t.isLt).2 (ix2 k j) = ∑ s, part m c k j s := by
  refine sum_steps 7 N_0 (part m c k j) (fun n h => (outsAt0 m c n h).2 (ix2 k j)) (fun h => ?_) (fun n h => ?_) t ht
  · rw [carried_zero]
    refine (step m c ⟨0, h⟩ _ k j).trans (congrArg (· + _) (pay1_at k j))
  · rw [carried_succ]
    exact step m c ⟨n + 1, h⟩ _ k j

/-- The array the call leaves is the weight's gradient. -/
theorem final : (dats m 0 c).arrAt 2 cfg0.N = dw (A m c) (D m c) := by
  refine (dats m 0 c).arrAt_eq_of_covers 2 _ (by decide +kernel) fun t hf y => ?_
  have hm : t.val % 8 = 7 := (flush0_2 t).mp hf
  have ht : t.val = 7 := by have : t.val < 8 := lt_of_lt_of_eq t.isLt N_0; omega
  blk_simp
  rw [after0_2]
  obtain ⟨q, k, j, rfl⟩ : ∃ (q : Fin 4) (k : Fin 1024) (j : Fin 768), y = ix3 q k j := ⟨y 0, y 1, y 2, by blk_ext⟩
  refine (written m c t (by omega) hm q k j).trans ((total m c t ht k (col q j)).trans ?_)
  have e : dw (A m c) (D m c) (ix3 q k j) = ∑ s, part m c k (col q j) s := sum_lines _
  rw [← e]
  blk_ext [idx t]

/-- The run ends with the gradient. -/
theorem result (g : Dev nD → PrngReg) :
    θ_run (defs (F := Ideal)) (onTc (τ := τ) (main (F := Ideal))) ⟨m, fun _ => 0, g⟩ (fun r => ∀ c : Dev nD,
      r.2.mem ((c.tc : Thread nD τ).loc main_v2) = dw (A m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((Cert.Kernel4Ideal.Value.final2 m c).symm.trans (final m c)), (h c).2⟩)
    (Cert.Kernel4Ideal.Value.run (F := Ideal) m g)

/-- The reference's term is the same sum. -/
theorem reference_eq (a : FVec Ideal S8192x1024 .f32) (d : FVec Ideal S8192x3072 .f32) :
    truncf (F := Ideal) .bf16 (transpose Cert.Reference4Ideal.S4x1024x768 [1, 0, 2] (shapeCast Cert.Reference4Ideal.S1024x4x768 (transpose Cert.Reference4Ideal.S1024x3072 [1, 0] (Host.dotGeneral Cert.Reference4Ideal.dot_S8192x3072_S8192x1024_S3072x1024_0_0_1_1_n_n none d a) Cert.Reference4Ideal.Gen.transposes_S3072x1024_S1024x3072_1_0) Cert.Reference4Ideal.Gen.shapeCasts_S1024x3072_S1024x4x768) Cert.Reference4Ideal.Gen.transposes_S1024x4x768_S4x1024x768_1_0_2) Cert.Reference4Ideal.Gen.bitsLt_bf16_f32
      = dw a d := by
  funext i
  obtain ⟨q, k, j, rfl⟩ : ∃ (q : Fin 4) (k : Fin 1024) (j : Fin 768), i = ix3 q k j := ⟨i 0, i 1, i 2, by blk_ext⟩
  pointwise [dw, col, mul_comm]

/-- The kernel and the reference agree. -/
theorem algebraic : Cert.algebraic_Kernel4Ideal_Reference4Ideal := by
  intro m g m' g' _ hag
  refine ⟨fun c => dw (A m c) (D m c), result m g, ?_⟩
  refine (θ_run Cert.Reference4Ideal.defs _ _).mono (fun r h c => ⟨?_, (h c).2⟩) (Cert.Reference4Ideal.Value.run (F := Ideal) m' g')
  obtain ⟨h0, h1⟩ := hag c
  have e := (h c).1
  rw [h0, h1] at e
  exact e.trans (reference_eq (A m c) (D m c))

end Cert.Kernel4Ideal.Own

end
-- ==== Proof.LossSpec.lean ====
module

public import proofs.«01_k».proof.Proof.Scalar

/-! The last feed-forward product, its norm and the loss, with the gradients that leave them, as sums over a row. -/

@[expose] public section

noncomputable section

namespace Cert.Grad

open Idealize.ShloMosaic

/-- A row of the feed-forward block's product, from the row of activations and the weight. -/
def ffRow (a : Fin 3072 → EReal) (w : Fin 3072 → Fin 1024 → EReal) (j : Fin 1024) : EReal := ∑ k, a k * w k j

/-- A row's error: the residual stream with the normed product added, less the target. -/
def errRow (u g h y : Fin 1024 → EReal) (j : Fin 1024) : EReal := h j + u j * rinv u * g j - y j

/-- The gradient of the loss at a row. -/
def dyRow (u g h y : Fin 1024 → EReal) (j : Fin 1024) : EReal := errRow u g h y j * Ideal.ofBits .f32 0x3A800000#32

/-- The gradient of the product's row, back through the norm. -/
def dffRow (u g h y : Fin 1024 → EReal) (j : Fin 1024) : EReal := normBwdK (dyRow u g h y) u g j

/-- The gradient of the activations' row. -/
def dactRow (u g h y : Fin 1024 → EReal) (w : Fin 3072 → Fin 1024 → EReal) (k : Fin 3072) : EReal :=
  ∑ j, dffRow u g h y j * w k j

/-- A row's part of the gradient of the norm's scale. -/
def dgRow (u g h y : Fin 1024 → EReal) (j : Fin 1024) : EReal := dyRow u g h y j * u j * rinv u

/-- A row's part of the loss, by columns. -/
def sqRow (u g h y : Fin 1024 → EReal) (j : Fin 1024) : EReal := errRow u g h y j * errRow u g h y j

theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- Half of a square's mean, differentiated: the two halves meet. -/
theorem half_twice (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [lit_1024, div_coe _ _ (by norm_num), lit_half, lit_one, lit_two, lit_inv_1024, ← EReal.coe_mul, ← EReal.coe_mul,
    ← mul_assoc, ← EReal.coe_mul, mul_comm]
  congr 2
  norm_num

end Cert.Grad

end
-- ==== Proof.LossRef.lean ====
module

public import proofs.«01_k».proof.Defs
public import proofs.«01_k».proof.Proof.Gen.Reference2Ideal.Run
public import proofs.«01_k».proof.Proof.LossSpec
public import Idealize.ShloMosaic.Lib.Pipeline.ValueKit

/-! The reference of the last feed-forward product and the loss, read at an index. -/

@[expose] public section

set_option maxRecDepth 16384

noncomputable section

namespace Cert.Reference2Ideal.Own

open Idealize.ShloMosaic Idealize.ShloMosaic.TcCoe Idealize.SL.Sem Idealize.ShloMosaic.StableHlo
open Cert.Reference2Ideal Cert.Reference2Ideal.Gen Cert.Reference2Ideal.Value Cert.Grad

variable (a : FVec Ideal S8192x3072 .f32) (w : FVec Ideal S3072x1024 .f32) (g : FVec Ideal S1024 .f32)
  (h y : FVec Ideal S8192x1024 .f32)

/-- The reference's arrays, each from the ones before it. -/
def ff : FVec Ideal S8192x1024 .f32 := Host.dotGeneral dot_S8192x3072_S3072x1024_S8192x1024_1_0_0_1_n_n none a w
def ms (u : FVec Ideal S8192x1024 .f32) : FVec Ideal S8192x1 .f32 :=
  addf (Host.divf (broadcastInDim S8192x1 ![0] bcast_S8192_S8192x1_0 (Host.reduceAdd (mulf u u) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def ri (u : FVec Ideal S8192x1024 .f32) : FVec Ideal S8192x1 .f32 := Host.rsqrt (ms u)
def wide (v : FVec Ideal S8192x1 .f32) : FVec Ideal S8192x1024 .f32 := broadcastInDim S8192x1024 ![0, 1] bcast_S8192x1_S8192x1024_0_1 v
def scale : FVec Ideal S8192x1024 .f32 := broadcastInDim S8192x1024 ![0, 1] bcast_S1x1024_S8192x1024_0_1 (broadcastInDim S1x1024 ![1] bcast_S1024_S1x1024_1 g)
def err (u : FVec Ideal S8192x1024 .f32) : FVec Ideal S8192x1024 .f32 := subf (addf h (mulf (mulf u (wide (ri u))) (scale g))) y
def dy (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)
def via (u d : FVec Ideal S8192x1024 .f32) : FVec Ideal S8192x1024 .f32 :=
  broadcastInDim S8192x1024 ![0] bcast_S8192_S8192x1024_0 (Host.reduceAdd (Host.divf (mulf (shapeCast S8192x1 (Host.reduceAdd (mulf u (mulf d (scale g))) (constant S_ .f32 0x00000000#32) reducesTo_S8192x1024_S8192_d1 h_S_) shapeCasts_S8192_S8192x1) (mulf (broadcastInDim S8192x1 ![] bcast_S_S8192x1 (constant S_ .f32 0xBF000000#32)) (Host.divf (ri u) (ms u)))) (broadcastInDim S8192x1 ![] bcast_S_S8192x1 (constant S_ .f32 0x44800000#32))) (constant S_ .f32 0x00000000#32) reducesTo_S8192x1_S8192_d1 h_S_)
def dff (u d : FVec Ideal S8192x1024 .f32) : FVec Ideal S8192x1024 .f32 :=
  addf (addf (mulf (mulf d (scale g)) (wide (ri u))) (mulf u (via g u d))) (mulf (via g u d) u)
def dg (u d : FVec Ideal S8192x1024 .f32) : FVec Ideal S1x1024 .f32 :=
  broadcastInDim S1x1024 ![1] bcast_S1024_S1x1024_1 (Host.reduceAdd (shapeCast S1x1024 (Host.reduceAdd (mulf (mulf u (wide (ri u))) d) (constant S_ .f32 0x00000000#32) reducesTo_S8192x1024_S1024_d0 h_S_) shapeCasts_S1024_S1x1024) (constant S_ .f32 0x00000000#32) reducesTo_S1x1024_S1024_d0 h_S_)
def sq (e : FVec Ideal S8192x1024 .f32) : FVec Ideal S1x1024 .f32 :=
  broadcastInDim S1x1024 ![1] bcast_S1024_S1x1024_1 (Host.reduceAdd (mulf e e) (constant S_ .f32 0x00000000#32) reducesTo_S8192x1024_S1024_d0 h_S_)

theorem ff_at (r : Fin 8192) (j : Fin 1024) : ff a w (ix2 r j) = ffRow (fun k => a (ix2 r k)) (fun k j => w (ix2 k j)) j := by
  pointwise [ff]; rfl

theorem ms_at (u : FVec Ideal S8192x1024 .f32) (r : Fin 8192) : ms u (ix2 r 0) = meanSq (fun k => u (ix2 r k)) := by
  pointwise [ms]; rfl

theorem ri_at (u : FVec Ideal S8192x1024 .f32) (r : Fin 8192) : ri u (ix2 r 0) = rinv (fun k => u (ix2 r k)) := by
  change Ideal.rsqrt (ms u (ix2 r 0)) = _
  rw [ms_at]; rfl

theorem wide_at (v : FVec Ideal S8192x1 .f32) (r : Fin 8192) (j : Fin 1024) : wide v (ix2 r j) = v (ix2 r 0) := by
  pointwise [wide]

theorem scale_at (r : Fin 8192) (j : Fin 1024) : scale g (ix2 r j) = g (ix1 j) := by
  pointwise [scale]

theorem err_at (u : FVec Ideal S8192x1024 .f32) (r : Fin 8192) (j : Fin 1024) : err g h y u (ix2 r j)
    = errRow (fun k => u (ix2 r k)) (fun k => g (ix1 k)) (fun k => h (ix2 r k)) (fun k => y (ix2 r k)) j := by
  pointwise [err, wide_at, scale_at, ri_at]; rfl

theorem dy_at (e : FVec Ideal S8192x1024 .f32) (r : Fin 8192) (j : Fin 1024) :
    dy e (ix2 r j) = e (ix2 r j) * Ideal.ofBits .f32 0x3A800000#32 := by
  refine Eq.trans ?_ (half_twice (e (ix2 r j)))
  pointwise [dy]

theorem via_at (u d : FVec Ideal S8192x1024 .f32) (r : Fin 8192) (j : Fin 1024) : via g u d (ix2 r j)
    = viaMean (fun k => d (ix2 r k)) (fun k => u (ix2 r k)) (fun k => g (ix1 k)) := by
  pointwise [via, scale_at]
  rw [Fin.sum_univ_one, ri_at, ms_at]; rfl

theorem dff_at (u d : FVec Ideal S8192x1024 .f32) (r : Fin 8192) (j : Fin 1024) : dff g u d (ix2 r j)
    = normBwdK (fun k => d (ix2 r k)) (fun k => u (ix2 r k)) (fun k => g (ix1 k)) j := by
  rw [normBwd_eq]
  unfold normBwdR
  pointwise [dff, via_at, scale_at, wide_at, ri_at]

theorem dg_at (u d : FVec Ideal S8192x1024 .f32) (j : Fin 1024) : dg u d (ix2 0 j)
    = ∑ r : Fin 8192, d (ix2 r j) * u (ix2 r j) * rinv (fun k => u (ix2 r k)) := by
  pointwise [dg, wide_at, ri_at]
  refine (Fin.sum_univ_one _).trans (Finset.sum_congr rfl fun r _ => ?_)
  rw [mul_comm, mul_assoc]

theorem sq_at (e : FVec Ideal S8192x1024 .f32) (j : Fin 1024) : sq e (ix2 0 j) = ∑ r : Fin 8192, (show EReal from e (ix2 r j)) * e (ix2 r j) := by
  pointwise [sq]

/-- A row of what the reference takes. -/
abbrev u (r : Fin 8192) : Fin 1024 → EReal := ffRow (fun k => a (ix2 r k)) (fun k j => w (ix2 k j))
abbrev gs : Fin 1024 → EReal := fun k => g (ix1 k)
abbrev row (h : FVec Ideal S8192x1024 .f32) (r : Fin 8192) : Fin 1024 → EReal := fun k => h (ix2 r k)

/-- The five results. -/
def out0 : FVec Ideal S8192x1024 .f32 := fun i => dyRow (u a w (i 0)) (gs g) (row h (i 0)) (row y (i 0)) (i 1)
def out1 : FVec Ideal S8192x1024 .bf16 := fun i => dffRow (u a w (i 0)) (gs g) (row h (i 0)) (row y (i 0)) (i 1)
def out2 : FVec Ideal S8192x3072 .f32 := fun i => dactRow (u a w (i 0)) (gs g) (row h (i 0)) (row y (i 0)) (fun k j => w (ix2 k j)) (i 1)
def out3 : FVec Ideal S1x1024 .f32 := fun i => ∑ r : Fin 8192, dgRow (u a w r) (gs g) (row h r) (row y r) (i 1)
def out4 : FVec Ideal S1x1024 .f32 := fun i => ∑ r : Fin 8192, sqRow (u a w r) (gs g) (row h r) (row y r) (i 1)

theorem row_ff (r : Fin 8192) : (fun k => ff a w (ix2 r k)) = u a w r := funext fun j => ff_at a w r j

theorem error_at (r : Fin 8192) (j : Fin 1024) : err g h y (ff a w) (ix2 r j) = errRow (u a w r) (gs g) (row h r) (row y r) j := by
  rw [err_at, row_ff]

theorem dyrow_at (r : Fin 8192) (j : Fin 1024) : dy (err g h y (ff a w)) (ix2 r j) = dyRow (u a w r) (gs g) (row h r) (row y r) j := by
  rw [dy_at, error_at]; rfl

theorem row_dy (r : Fin 8192) : (fun k => dy (err g h y (ff a w)) (ix2 r k)) = dyRow (u a w r) (gs g) (row h r) (row y r) :=
  funext fun j => dyrow_at a w g h y r j

theorem dffrow_at (r : Fin 8192) (j : Fin 1024) : dff g (ff a w) (dy (err g h y (ff a w))) (ix2 r j) = dffRow (u a w r) (gs g) (row h r) (row y r) j := by
  rw [dff_at, row_ff, row_dy]; rfl

theorem eq0 : dy (err g h y (ff a w)) = out0 a w g h y := by
  funext i
  obtain ⟨r, j, rfl⟩ : ∃ (r : Fin 8192) (j : Fin 1024), i = ix2 r j := ⟨i 0, i 1, by blk_ext⟩
  exact dyrow_at a w g h y r j

theorem eq1 : truncf .bf16 (dff g (ff a w) (dy (err g h y (ff a w)))) bitsLt_bf16_f32 = out1 a w g h y := by
  funext i
  obtain ⟨r, j, rfl⟩ : ∃ (r : Fin 8192) (j : Fin 1024), i = ix2 r j := ⟨i 0, i 1, by blk_ext⟩
  exact dffrow_at a w g h y r j

theorem eq2 : Host.dotGeneral dot_S8192x1024_S3072x1024_S8192x3072_1_1_0_0_n_n none (dff g (ff a w) (dy (err g h y (ff a w)))) w
    = out2 a w g h y := by
  funext i
  obtain ⟨r, k, rfl⟩ : ∃ (r : Fin 8192) (k : Fin 3072), i = ix2 r k := ⟨i 0, i 1, by blk_ext⟩
  pointwise [dffrow_at]; rfl

theorem eq3 : dg (ff a w) (dy (err g h y (ff a w))) = out3 a w g h y := by
  funext i
  obtain ⟨j, rfl⟩ : ∃ j : Fin 1024, i = ix2 0 j := ⟨i 1, by blk_ext⟩
  rw [dg_at]
  refine Finset.sum_congr rfl fun r _ => ?_
  rw [dyrow_at, row_ff, ff_at]; rfl

theorem eq4 : sq (err g h y (ff a w)) = out4 a w g h y := by
  funext i
  obtain ⟨j, rfl⟩ : ∃ j : Fin 1024, i = ix2 0 j := ⟨i 1, by blk_ext⟩
  rw [sq_at]
  refine Finset.sum_congr rfl fun r _ => ?_
  rw [error_at]; rfl

variable (m : (ℓ : Loc nD τ sig) → Buf (Elt Ideal) ℓ)

set_option maxHeartbeats 4000000 in
/-- The reference's run ends with the five results. -/
theorem result (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v53) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v54) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v55) = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v73) = out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (eq0 _ _ _ _ _), (h c).2.1.trans (eq1 _ _ _ _ _), (h c).2.2.1.trans (eq2 _ _ _ _ _),
      (h c).2.2.2.1.trans (eq3 _ _ _ _ _), (h c).2.2.2.2.1.trans (eq4 _ _ _ _ _), (h c).2.2.2.2.2⟩)
    (Cert.Reference2Ideal.Value.run (F := Ideal) m ρ)

end Cert.Reference2Ideal.Own

end
-- ==== Proof.Loss.lean ====
module

public import proofs.«01_k».proof.Defs
public import proofs.«01_k».proof.Proof.Gen.Kernel2
public import proofs.«01_k».proof.Proof.Gen.Kernel2Ideal.Value
public import proofs.«01_k».proof.Proof.LossRef
public import proofs.«01_k».proof.Proof.Steps
public import Idealize.ShloMosaic.Lib.Pipeline.ValueKit
public import Idealize.ShloMosaic.Lib.Pipeline.ReadBack

/-! The last feed-forward product with the loss: sixteen tiles of rows, each leaving its rows of three gradients and
adding its part to the scale's gradient and to the loss. -/

@[expose] public section

set_option maxRecDepth 16384

noncomputable section

namespace Cert.Kernel2Ideal.Own

open Idealize.ShloMosaic Idealize.ShloMosaic.TcCoe Idealize.SL.Sem Idealize.ShloMosaic.StableHlo
open Cert.Kernel2Ideal Cert.Kernel2Ideal.Gen Cert.Grad
open Cert.Reference2Ideal.Own (u gs row out0 out1 out2 out3 out4)

/-- The frame of the program read over the reals. -/
theorem frame_ideal : Cert.quiescent_Kernel2Ideal := fun m ρ _ => Cert.Kernel2Ideal.Gen.frame m ρ

set_option backward.isDefEq.respectTransparency false in
set_option smartUnfolding false in
set_option maxHeartbeats 40000000 in
/-- The frame of the program read over the bits: the two programs' texts are one. -/
theorem frame_kernel : Cert.quiescent_Kernel2 := fun m ρ _ =>
  (θ_run (Cert.Kernel2Ideal.defs (F := Bits)) _ _).mono (fun _ h => h) (Cert.Kernel2Ideal.Gen.frame (F := Bits) m ρ)

/-- The reference's frame. -/
theorem frame_reference : Cert.quiescent_Reference2Ideal := fun m ρ _ =>
  (θ_run Cert.Reference2Ideal.defs _ _).mono (fun r h => ⟨fun c => (h c).2.2.2.2.2,
      Idealize.ShloMosaic.sem_eq_zero_of_no_sems (by decide) r.2⟩)
    (Cert.Reference2Ideal.Value.run (F := Ideal) m ρ)

/-- Row `p` of tile `t`. -/
def line (t : Fin 16) (p : Fin 512) : Fin 8192 := ⟨t * 512 + p, by omega⟩

/-- A sum over the rows, tile by tile. -/
theorem sum_lines (f : Fin 8192 → EReal) : ∑ r, f r = ∑ t : Fin 16, ∑ p : Fin 512, f (line t p) :=
  Fin.sum_univ_tiles 16 512 rfl f

section Payloads

variable (w : FVec Ideal S3072x1024 .bf16) (g : FVec Ideal S1x1024 .f32) (a : FVec Ideal S512x3072 .bf16)
  (h y : FVec Ideal S512x1024 .f32)

/-- A row of a tile's product. -/
abbrev tu (p : Fin 512) : Fin 1024 → EReal := ffRow (fun k => a (ix2 p k)) (fun k j => w (ix2 k j))
abbrev tg : Fin 1024 → EReal := fun k => g (ix2 0 k)
abbrev tr (h : FVec Ideal S512x1024 .f32) (p : Fin 512) : Fin 1024 → EReal := fun k => h (ix2 p k)

theorem pay7_at (k : Fin 3072) (j : Fin 1024) : k0_pay7 (F := Ideal) w (ix2 k j) = w (ix2 k j) := by
  pointwise [k0_pay7]

theorem pay8_at (j : Fin 1024) : k0_pay8 (F := Ideal) g (ix2 0 j) = g (ix2 0 j) := by
  pointwise [k0_pay8]

theorem pay9_at (p : Fin 512) (j : Fin 1024) : k0_pay9 (F := Ideal) w a (ix2 p j) = tu w a p j := by
  pointwise [k0_pay9, pay7_at]; rfl

theorem row9 (p : Fin 512) : (fun k => k0_pay9 (F := Ideal) w a (ix2 p k)) = tu w a p := funext fun j => pay9_at w a p j

theorem pay10_at (p : Fin 512) (j : Fin 1024) :
    k0_pay10 (F := Ideal) w g a h y (ix2 p j) = errRow (tu w a p) (tg g) (tr h p) (tr y p) j := by
  rw [← row9]
  pointwise [k0_pay10, pay8_at]; rfl

theorem pay12_at (p : Fin 512) (j : Fin 1024) :
    k0_pay12 (F := Ideal) w g a h y (ix2 p j) = dyRow (tu w a p) (tg g) (tr h p) (tr y p) j := by
  pointwise [k0_pay12, pay10_at]; rfl

theorem row12 (p : Fin 512) : (fun k => k0_pay12 (F := Ideal) w g a h y (ix2 p k)) = dyRow (tu w a p) (tg g) (tr h p) (tr y p) :=
  funext fun j => pay12_at w g a h y p j

theorem pay1_at (v : FVec Ideal S512x1024 .f32) (p : Fin 512) : k0_pay1 (F := Ideal) v (ix2 p 0) = rinv (fun k => v (ix2 p k)) := by
  pointwise [k0_pay1]; rfl

theorem pay2_at (v d : FVec Ideal S512x1024 .f32) (p : Fin 512) (j : Fin 1024) :
    k0_pay2 (F := Ideal) g v d (ix2 p j) = normBwdK (fun k => d (ix2 p k)) (fun k => v (ix2 p k)) (tg g) j := by
  pointwise [k0_pay2, pay1_at]; rfl

theorem pay2_row (p : Fin 512) (j : Fin 1024) :
    k0_pay2 (F := Ideal) (k0_pay8 (F := Ideal) g) (k0_pay9 (F := Ideal) w a) (k0_pay12 (F := Ideal) w g a h y) (ix2 p j)
      = dffRow (tu w a p) (tg g) (tr h p) (tr y p) j := by
  have e : tg (k0_pay8 (F := Ideal) g) = tg g := funext fun j => pay8_at g j
  rw [pay2_at, row9, row12, e]; rfl

theorem pay4_row (p : Fin 512) (k : Fin 3072) :
    k0_pay4 (F := Ideal) (k0_pay7 (F := Ideal) w) (k0_pay8 (F := Ideal) g) (k0_pay9 (F := Ideal) w a) (k0_pay12 (F := Ideal) w g a h y) (ix2 p k)
      = dactRow (tu w a p) (tg g) (tr h p) (tr y p) (fun k j => w (ix2 k j)) k := by
  pointwise [k0_pay4, pay2_row, pay7_at]; rfl

theorem pay3_row (s : FVec Ideal S1x1024 .f32) (j : Fin 1024) :
    k0_pay3 (F := Ideal) (k0_pay9 (F := Ideal) w a) (k0_pay12 (F := Ideal) w g a h y) s (ix2 0 j)
      = s (ix2 0 j) + ∑ p, dgRow (tu w a p) (tg g) (tr h p) (tr y p) j := by
  pointwise [k0_pay3, pay1_at, pay12_at, pay9_at]; rfl

theorem pay11_row (s : FVec Ideal S1x1024 .f32) (j : Fin 1024) :
    k0_pay11 (F := Ideal) w g a h y s (ix2 0 j) = s (ix2 0 j) + ∑ p, sqRow (tu w a p) (tg g) (tr h p) (tr y p) j := by
  pointwise [k0_pay11, pay10_at]; rfl

theorem pay5_at (j : Fin 1024) : k0_pay5 (F := Ideal) (ix2 0 j) = (0 : EReal) := by
  pointwise [k0_pay5]

theorem pay6_at (j : Fin 1024) : k0_pay6 (F := Ideal) (ix2 0 j) = (0 : EReal) := by
  pointwise [k0_pay6]

end Payloads

variable (m : (ℓ : Loc nD τ sig) → Buf (Elt Ideal) ℓ) (c : Dev nD)

/-- What the call takes. -/
def A : FVec Ideal S8192x3072 .f32 := m ((c.tc : Thread nD τ).loc main_arg0)
def W : FVec Ideal S3072x1024 .f32 := m ((c.tc : Thread nD τ).loc main_arg1)
def G : FVec Ideal S1024 .f32 := m ((c.tc : Thread nD τ).loc main_arg2)
def H : FVec Ideal S8192x1024 .f32 := m ((c.tc : Thread nD τ).loc main_arg3)
def Y : FVec Ideal S8192x1024 .f32 := m ((c.tc : Thread nD τ).loc main_arg4)

theorem V_a : V m c main_v0 = truncf .bf16 (A m c) bitsLt_bf16_f32 := by unfold V; after_results; rfl
theorem V_w : V m c main_v1 = truncf .bf16 (W m c) bitsLt_bf16_f32 := by unfold V; after_results; rfl
theorem V_g : V m c main_v2 = broadcastInDim S1x1024 ![1] bcast_S1024_S1x1024_1 (G m c) := by unfold V; after_results; rfl
theorem V_h : V m c main_arg3 = H m c := by unfold V; after_results; rfl
theorem V_y : V m c main_arg4 = Y m c := by unfold V; after_results; rfl

/-- Every window's block at a tile. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

/-- A tile's number. -/
def num (t : Fin cfg0.N) : Fin 16 := ⟨t.val, lt_of_lt_of_eq t.isLt N_0⟩

theorem blk_a (t : Fin cfg0.N) (p : Fin 512) (k : Fin 3072) : iblk m c 0 t (ix2 p k) = A m c (ix2 (line (num t) p) k) := by
  have e : iblk m c 0 t (ix2 p k) = V m c main_v0 (ix2 (line (num t) p) k) := by
    blk_ext [iblk, line, num, idx t]
  rw [e, V_a]; rfl

theorem blk_w (t : Fin cfg0.N) (k : Fin 3072) (j : Fin 1024) : iblk m c 1 t (ix2 k j) = W m c (ix2 k j) := by
  have e : iblk m c 1 t (ix2 k j) = V m c main_v1 (ix2 k j) := by
    blk_ext [iblk, idx t]
  rw [e, V_w]; rfl

theorem blk_g (t : Fin cfg0.N) (j : Fin 1024) : iblk m c 2 t (ix2 0 j) = G m c (ix1 j) := by
  have e : iblk m c 2 t (ix2 0 j) = V m c main_v2 (ix2 0 j) := by
    blk_ext [iblk, idx t]
  rw [e, V_g]
  pointwise

theorem blk_h (t : Fin cfg0.N) (p : Fin 512) (k : Fin 1024) : iblk m c 3 t (ix2 p k) = H m c (ix2 (line (num t) p) k) := by
  have e : iblk m c 3 t (ix2 p k) = V m c main_arg3 (ix2 (line (num t) p) k) := by
    blk_ext [iblk, line, num, idx t]
  rw [e, V_h]

theorem blk_y (t : Fin cfg0.N) (p : Fin 512) (k : Fin 1024) : iblk m c 4 t (ix2 p k) = Y m c (ix2 (line (num t) p) k) := by
  have e : iblk m c 4 t (ix2 p k) = V m c main_arg4 (ix2 (line (num t) p) k) := by
    blk_ext [iblk, line, num, idx t]
  rw [e, V_y]

/-- A row of a tile is the array's row. -/
theorem tu_eq (t : Fin cfg0.N) (p : Fin 512) : tu (iblk m c 1 t) (iblk m c 0 t) p = u (A m c) (W m c) (line (num t) p) := by
  have ea : (fun k => iblk m c 0 t (ix2 p k)) = fun k => A m c (ix2 (line (num t) p) k) := funext fun k => blk_a m c t p k
  have ew : (fun k j => iblk m c 1 t (ix2 k j)) = fun k j => W m c (ix2 k j) := funext fun k => funext fun j => blk_w m c t k j
  exact congrArg₂ ffRow ea ew

theorem tw_eq (t : Fin cfg0.N) : (fun k j => iblk m c 1 t (ix2 k j)) = fun k j => W m c (ix2 k j) :=
  funext fun k => funext fun j => blk_w m c t k j

theorem tg_eq (t : Fin cfg0.N) : tg (iblk m c 2 t) = gs (G m c) := funext fun j => blk_g m c t j

theorem th_eq (t : Fin cfg0.N) (p : Fin 512) : tr (iblk m c 3 t) p = row (H m c) (line (num t) p) := funext fun j => blk_h m c t p j

theorem ty_eq (t : Fin cfg0.N) (p : Fin 512) : tr (iblk m c 4 t) p = row (Y m c) (line (num t) p) := funext fun j => blk_y m c t p j

/-- What each tile leaves in the three windows it writes whole. -/
theorem left5 (t : Fin cfg0.N) : (outsAt0 m c t.val t.isLt).1
    = k0_pay12 (F := Ideal) (iblk m c 1 t) (iblk m c 2 t) (iblk m c 0 t) (iblk m c 3 t) (iblk m c 4 t) := by
  by_cases h0 : t.val % 16 = 0
  · rw [outsAt0_A m c t h0]
    frame_out
  · rw [outsAt0_B m c t h0]
    frame_out

theorem left6 (t : Fin cfg0.N) : (outsAt0 m c t.val t.isLt).2.1
    = k0_pay2 (F := Ideal) (k0_pay8 (F := Ideal) (iblk m c 2 t)) (k0_pay9 (F := Ideal) (iblk m c 1 t) (iblk m c 0 t))
        (k0_pay12 (F := Ideal) (iblk m c 1 t) (iblk m c 2 t) (iblk m c 0 t) (iblk m c 3 t) (iblk m c 4 t)) := by
  by_cases h0 : t.val % 16 = 0
  · rw [outsAt0_A m c t h0]
    frame_out
  · rw [outsAt0_B m c t h0]
    frame_out

theorem left7 (t : Fin cfg0.N) : (outsAt0 m c t.val t.isLt).2.2.1
    = k0_pay4 (F := Ideal) (k0_pay7 (F := Ideal) (iblk m c 1 t)) (k0_pay8 (F := Ideal) (iblk m c 2 t)) (k0_pay9 (F := Ideal) (iblk m c 1 t) (iblk m c 0 t))
        (k0_pay12 (F := Ideal) (iblk m c 1 t) (iblk m c 2 t) (iblk m c 0 t) (iblk m c 3 t) (iblk m c 4 t)) := by
  by_cases h0 : t.val % 16 = 0
  · rw [outsAt0_A m c t h0]
    frame_out
  · rw [outsAt0_B m c t h0]
    frame_out

/-- One tile's step on the scale's gradient and on the loss. -/
def addDg (t : Fin cfg0.N) (s : FVec Ideal S1x1024 .f32) : FVec Ideal S1x1024 .f32 :=
  k0_pay3 (F := Ideal) (k0_pay9 (F := Ideal) (iblk m c 1 t) (iblk m c 0 t))
    (k0_pay12 (F := Ideal) (iblk m c 1 t) (iblk m c 2 t) (iblk m c 0 t) (iblk m c 3 t) (iblk m c 4 t)) s
def addSq (t : Fin cfg0.N) (s : FVec Ideal S1x1024 .f32) : FVec Ideal S1x1024 .f32 :=
  k0_pay11 (F := Ideal) (iblk m c 1 t) (iblk m c 2 t) (iblk m c 0 t) (iblk m c 3 t) (iblk m c 4 t) s

theorem first8 (h : 0 < cfg0.N) : (outsAt0 m c 0 h).2.2.2.1 = addDg m c ⟨0, h⟩ (k0_pay5 (F := Ideal)) := by
  rw [show outsAt0 m c 0 h = _ from outsAt0_A m c ⟨0, h⟩ rfl]
  unfold addDg
  frame_out

theorem first9 (h : 0 < cfg0.N) : (outsAt0 m c 0 h).2.2.2.2 = addSq m c ⟨0, h⟩ (k0_pay6 (F := Ideal)) := by
  rw [show outsAt0 m c 0 h = _ from outsAt0_A m c ⟨0, h⟩ rfl]
  unfold addSq
  frame_out

theorem next8 (n : ℕ) (h : n + 1 < cfg0.N) : (outsAt0 m c (n + 1) h).2.2.2.1
    = addDg m c ⟨n + 1, h⟩ (outsAt0 m c n (Nat.lt_of_succ_lt h)).2.2.2.1 := by
  have hN : n + 1 < 16 := lt_of_lt_of_eq h N_0
  have h0 : ¬((⟨n + 1, h⟩ : Fin cfg0.N).val % 16 = 0) := by dsimp only; omega
  rw [show outsAt0 m c (n + 1) h = _ from outsAt0_B m c ⟨n + 1, h⟩ h0]
  unfold addDg
  frame_out
  rfl

theorem next9 (n : ℕ) (h : n + 1 < cfg0.N) : (outsAt0 m c (n + 1) h).2.2.2.2
    = addSq m c ⟨n + 1, h⟩ (outsAt0 m c n (Nat.lt_of_succ_lt h)).2.2.2.2 := by
  have hN : n + 1 < 16 := lt_of_lt_of_eq h N_0
  have h0 : ¬((⟨n + 1, h⟩ : Fin cfg0.N).val % 16 = 0) := by dsimp only; omega
  rw [show outsAt0 m c (n + 1) h = _ from outsAt0_B m c ⟨n + 1, h⟩ h0]
  unfold addSq
  frame_out
  rfl

/-- A tile's parts of the two sums. -/
def dgPart (j : Fin 1024) (t : Fin 16) : EReal :=
  ∑ p : Fin 512, dgRow (u (A m c) (W m c) (line t p)) (gs (G m c)) (row (H m c) (line t p)) (row (Y m c) (line t p)) j
def sqPart (j : Fin 1024) (t : Fin 16) : EReal :=
  ∑ p : Fin 512, sqRow (u (A m c) (W m c) (line t p)) (gs (G m c)) (row (H m c) (line t p)) (row (Y m c) (line t p)) j

theorem addDg_at (t : Fin cfg0.N) (s : FVec Ideal S1x1024 .f32) (j : Fin 1024) : addDg m c t s (ix2 0 j) = s (ix2 0 j) + dgPart m c j (num t) := by
  refine (pay3_row _ _ _ _ _ s j).trans (congrArg (s (ix2 0 j) + ·) (Finset.sum_congr rfl fun p _ => ?_))
  rw [tu_eq, tg_eq, th_eq, ty_eq]

theorem addSq_at (t : Fin cfg0.N) (s : FVec Ideal S1x1024 .f32) (j : Fin 1024) : addSq m c t s (ix2 0 j) = s (ix2 0 j) + sqPart m c j (num t) := by
  refine (pay11_row _ _ _ _ _ s j).trans (congrArg (s (ix2 0 j) + ·) (Finset.sum_congr rfl fun p _ => ?_))
  rw [tu_eq, tg_eq, th_eq, ty_eq]

theorem total8 (t : Fin cfg0.N) (ht : t.val = 15) (j : Fin 1024) :
    (outsAt0 m c t.val t.isLt).2.2.2.1 (ix2 0 j) = ∑ s, dgPart m c j s := by
  refine sum_steps 15 N_0 (dgPart m c j) (fun n h => (outsAt0 m c n h).2.2.2.1 (ix2 0 j)) (fun h => ?_) (fun n h => ?_) t ht
  · rw [first8]
    exact (addDg_at m c ⟨0, h⟩ _ j).trans (congrArg (· + _) (pay5_at j))
  · rw [next8]
    exact addDg_at m c ⟨n + 1, h⟩ _ j

theorem total9 (t : Fin cfg0.N) (ht : t.val = 15) (j : Fin 1024) :
    (outsAt0 m c t.val t.isLt).2.2.2.2 (ix2 0 j) = ∑ s, sqPart m c j s := by
  refine sum_steps 15 N_0 (sqPart m c j) (fun n h => (outsAt0 m c n h).2.2.2.2 (ix2 0 j)) (fun h => ?_) (fun n h => ?_) t ht
  · rw [first9]
    exact (addSq_at m c ⟨0, h⟩ _ j).trans (congrArg (· + _) (pay6_at j))
  · rw [next9]
    exact addSq_at m c ⟨n + 1, h⟩ _ j

/-- The arrays the call leaves. -/
theorem final5 : (dats m 0 c).arrAt 5 cfg0.N = out0 (A m c) (W m c) (G m c) (H m c) (Y m c) := by
  refine (dats m 0 c).arrAt_eq_of_covers 5 _ (by decide +kernel) fun t hf y => ?_
  blk_simp
  rw [after0_5, left5]
  obtain ⟨p, j, rfl⟩ : ∃ (p : Fin 512) (j : Fin 1024), y = ix2 p j := ⟨y 0, y 1, by blk_ext⟩
  refine (pay12_at _ _ _ _ _ p j).trans ?_
  rw [tu_eq, tg_eq, th_eq, ty_eq]
  change out0 (A m c) (W m c) (G m c) (H m c) (Y m c) (ix2 (line (num t) p) j) = _
  blk_ext [line, num, idx t]

theorem final6 : (dats m 0 c).arrAt 6 cfg0.N = out1 (A m c) (W m c) (G m c) (H m c) (Y m c) := by
  refine (dats m 0 c).arrAt_eq_of_covers 6 _ (by decide +kernel) fun t hf y => ?_
  blk_simp
  rw [after0_6, left6]
  obtain ⟨p, j, rfl⟩ : ∃ (p : Fin 512) (j : Fin 1024), y = ix2 p j := ⟨y 0, y 1, by blk_ext⟩
  refine (pay2_row _ _ _ _ _ p j).trans ?_
  rw [tu_eq, tg_eq, th_eq, ty_eq]
  change out1 (A m c) (W m c) (G m c) (H m c) (Y m c) (ix2 (line (num t) p) j) = _
  blk_ext [line, num, idx t]

theorem final7 : (dats m 0 c).arrAt 7 cfg0.N = out2 (A m c) (W m c) (G m c) (H m c) (Y m c) := by
  refine (dats m 0 c).arrAt_eq_of_covers 7 _ (by decide +kernel) fun t hf y => ?_
  blk_simp
  rw [after0_7, left7]
  obtain ⟨p, k, rfl⟩ : ∃ (p : Fin 512) (k : Fin 3072), y = ix2 p k := ⟨y 0, y 1, by blk_ext⟩
  refine (pay4_row _ _ _ _ _ p k).trans ?_
  rw [tu_eq, tg_eq, th_eq, ty_eq, tw_eq]
  change out2 (A m c) (W m c) (G m c) (H m c) (Y m c) (ix2 (line (num t) p) k) = _
  blk_ext [line, num, idx t]

theorem final8 : (dats m 0 c).arrAt 8 cfg0.N = out3 (A m c) (W m c) (G m c) (H m c) (Y m c) := by
  refine (dats m 0 c).arrAt_eq_of_covers 8 _ (by decide +kernel) fun t hf y => ?_
  have hm : t.val % 16 = 15 := (flush0_8 t).mp hf
  have ht : t.val = 15 := by have : t.val < 16 := lt_of_lt_of_eq t.isLt N_0; omega
  blk_simp
  rw [after0_8]
  obtain ⟨j, rfl⟩ : ∃ j : Fin 1024, y = ix2 0 j := ⟨y 1, by blk_ext⟩
  refine (total8 m c t ht j).trans ?_
  have e : out3 (A m c) (W m c) (G m c) (H m c) (Y m c) (ix2 0 j) = ∑ s, dgPart m c j s := sum_lines _
  rw [← e]
  blk_ext [idx t]

theorem final9 : (dats m 0 c).arrAt 9 cfg0.N = out4 (A m c) (W m c) (G m c) (H m c) (Y m c) := by
  refine (dats m 0 c).arrAt_eq_of_covers 9 _ (by decide +kernel) fun t hf y => ?_
  have hm : t.val % 16 = 15 := (flush0_9 t).mp hf
  have ht : t.val = 15 := by have : t.val < 16 := lt_of_lt_of_eq t.isLt N_0; omega
  blk_simp
  rw [after0_9]
  obtain ⟨j, rfl⟩ : ∃ j : Fin 1024, y = ix2 0 j := ⟨y 1, by blk_ext⟩
  refine (total9 m c t ht j).trans ?_
  have e : out4 (A m c) (W m c) (G m c) (H m c) (Y m c) (ix2 0 j) = ∑ s, sqPart m c j s := sum_lines _
  rw [← e]
  blk_ext [idx t]

/-- The kernel and the reference agree. -/
theorem algebraic : Cert.algebraic_Kernel2Ideal_Reference2Ideal := by
  intro m g m' g' _ hag
  refine ⟨fun c => out0 (A m c) (W m c) (G m c) (H m c) (Y m c), fun c => out1 (A m c) (W m c) (G m c) (H m c) (Y m c),
    fun c => out2 (A m c) (W m c) (G m c) (H m c) (Y m c), fun c => out3 (A m c) (W m c) (G m c) (H m c) (Y m c),
    fun c => out4 (A m c) (W m c) (G m c) (H m c) (Y m c), ?_, ?_⟩
  · exact (θ_run defs _ _).mono (fun r h c => ⟨(h c).1.trans (final5 m c), (h c).2.1.trans (final6 m c), (h c).2.2.1.trans (final7 m c),
        (h c).2.2.2.1.trans (final8 m c), (h c).2.2.2.2.1.trans (final9 m c), (h c).2.2.2.2.2⟩)
      (Cert.Kernel2Ideal.Value.run_blocks (F := Ideal) m g)
  · refine (θ_run Cert.Reference2Ideal.defs _ _).mono (fun r h c => ?_) (Cert.Reference2Ideal.Own.result m' g')
    obtain ⟨h0, h1, h2, h3, h4⟩ := hag c
    obtain ⟨e0, e1, e2, e3, e4, hk⟩ := h c
    rw [h0, h1, h2, h3, h4] at e0 e1 e2 e3 e4
    exact ⟨e0, e1, e2, e3, e4, hk⟩

end Cert.Kernel2Ideal.Own

end
-- ==== Proof.InDx.lean ====
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.Scalar
public import proofs.«01_k».proof.Proof.Steps
public import Idealize.ShloMosaic.Lib.Pipeline.ValueKit
public import Idealize.ShloMosaic.Lib.Pipeline.ReadBack

/-! The input product's backward pass: the seven gradients that come to the product's columns, each against its part of
the weight, and the first norm's backward pass on their sum. Sixteen tiles of rows, each leaving its rows of the residual
stream's gradient and adding its part to the scale's. -/

@[expose] public section

set_option maxRecDepth 16384

noncomputable section

namespace Cert.Grad

open Idealize.ShloMosaic

/-- A row's gradient at the product's input: seven parts of one product. -/
def partsRow (d0 : Fin 1280 → EReal) (d1 d2 d3 d4 d5 : Fin 512 → EReal) (d6 : Fin 2048 → EReal) (w : Fin 1024 → Fin 5888 → EReal)
    (j : Fin 1024) : EReal :=
  ((((((∑ k : Fin 1280, d0 k * w j ⟨k, by omega⟩) + ∑ k : Fin 512, d1 k * w j ⟨1280 + k, by omega⟩) + ∑ k : Fin 512, d2 k * w j ⟨1792 + k, by omega⟩) + ∑ k : Fin 512, d3 k * w j ⟨2304 + k, by omega⟩) + ∑ k : Fin 512, d4 k * w j ⟨2816 + k, by omega⟩) + ∑ k : Fin 512, d5 k * w j ⟨3328 + k, by omega⟩) + ∑ k : Fin 2048, d6 k * w j ⟨3840 + k, by omega⟩

/-- A sum, parted in two. -/
theorem sum_two (n b N : ℕ) (h : n + b = N) (f : Fin N → EReal) :
    ∑ k, f k = (∑ k : Fin n, f ⟨k, by omega⟩) + ∑ k : Fin b, f ⟨n + k, by omega⟩ := by
  subst h
  exact Fin.sum_univ_add f

/-- A sum over the product's columns, parted in seven. -/
theorem sum_seven (f : Fin 5888 → EReal) : ∑ k, f k
    = ((((((∑ k : Fin 1280, f ⟨k, by omega⟩) + ∑ k : Fin 512, f ⟨1280 + k, by omega⟩) + ∑ k : Fin 512, f ⟨1792 + k, by omega⟩) + ∑ k : Fin 512, f ⟨2304 + k, by omega⟩) + ∑ k : Fin 512, f ⟨2816 + k, by omega⟩) + ∑ k : Fin 512, f ⟨3328 + k, by omega⟩) + ∑ k : Fin 2048, f ⟨3840 + k, by omega⟩ := by
  rw [sum_two 3840 2048 5888 rfl f, sum_two 3328 512 3840 rfl, sum_two 2816 512 3328 rfl, sum_two 2304 512 2816 rfl,
    sum_two 1792 512 2304 rfl, sum_two 1280 512 1792 rfl]

end Cert.Grad

namespace Cert.Reference5Ideal.Own

open Idealize.ShloMosaic Idealize.ShloMosaic.TcCoe Idealize.SL.Sem Idealize.ShloMosaic.StableHlo
open Cert.Reference5Ideal Cert.Reference5Ideal.Gen Cert.Reference5Ideal.Value Cert.Grad

variable (d0 : FVec Ideal S8192x1280 .f32) (d1 : FVec Ideal S8192x512 .f32) (d2 : FVec Ideal S8192x512 .f32) (d3 : FVec Ideal S8192x512 .f32) (d4 : FVec Ideal S8192x512 .f32) (d5 : FVec Ideal S8192x512 .f32) (d6 : FVec Ideal S8192x2048 .f32)
  (w : FVec Ideal S1024x5888 .f32) (x : FVec Ideal S8192x1024 .f32) (g : FVec Ideal S1024 .f32) (h : FVec Ideal S8192x1024 .f32)

/-- The reference's arrays, each from the ones before it. -/
def cat : FVec Ideal S8192x5888 .f32 := concatenate S8192x5888 1 [⟨S8192x1280, d0⟩, ⟨S8192x512, d1⟩, ⟨S8192x512, d2⟩, ⟨S8192x512, d3⟩, ⟨S8192x512, d4⟩, ⟨S8192x512, d5⟩, ⟨S8192x2048, d6⟩] concatenates_S8192x1280_S8192x512_S8192x512_S8192x512_S8192x512_S8192x512_S8192x2048_S8192x5888_d1
def dh : FVec Ideal S8192x1024 .f32 := Host.dotGeneral dot_S8192x5888_S1024x5888_S8192x1024_1_1_0_0_n_n none (cat d0 d1 d2 d3 d4 d5 d6) w
def ms (u : FVec Ideal S8192x1024 .f32) : FVec Ideal S8192x1 .f32 :=
  addf (Host.divf (broadcastInDim S8192x1 ![0] bcast_S8192_S8192x1_0 (Host.reduceAdd (mulf u u) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def ri (u : FVec Ideal S8192x1024 .f32) : FVec Ideal S8192x1 .f32 := Host.rsqrt (ms u)
def wide (v : FVec Ideal S8192x1 .f32) : FVec Ideal S8192x1024 .f32 := broadcastInDim S8192x1024 ![0, 1] bcast_S8192x1_S8192x1024_0_1 v
def scale : FVec Ideal S8192x1024 .f32 := broadcastInDim S8192x1024 ![0, 1] bcast_S1x1024_S8192x1024_0_1 (broadcastInDim S1x1024 ![1] bcast_S1024_S1x1024_1 g)
def via (u d : FVec Ideal S8192x1024 .f32) : FVec Ideal S8192x1024 .f32 :=
  broadcastInDim S8192x1024 ![0] bcast_S8192_S8192x1024_0 (Host.reduceAdd (Host.divf (mulf (shapeCast S8192x1 (Host.reduceAdd (mulf u (mulf d (scale g))) (constant S_ .f32 0x00000000#32) reducesTo_S8192x1024_S8192_d1 h_S_) shapeCasts_S8192_S8192x1) (mulf (broadcastInDim S8192x1 ![] bcast_S_S8192x1 (constant S_ .f32 0xBF000000#32)) (Host.divf (ri u) (ms u)))) (broadcastInDim S8192x1 ![] bcast_S_S8192x1 (constant S_ .f32 0x44800000#32))) (constant S_ .f32 0x00000000#32) reducesTo_S8192x1_S8192_d1 h_S_)
def dff (u d : FVec Ideal S8192x1024 .f32) : FVec Ideal S8192x1024 .f32 :=
  addf (addf (mulf (mulf d (scale g)) (wide (ri u))) (mulf u (via g u d))) (mulf (via g u d) u)
def dg (u d : FVec Ideal S8192x1024 .f32) : FVec Ideal S1x1024 .f32 :=
  broadcastInDim S1x1024 ![1] bcast_S1024_S1x1024_1 (Host.reduceAdd (shapeCast S1x1024 (Host.reduceAdd (mulf (mulf u (wide (ri u))) d) (constant S_ .f32 0x00000000#32) reducesTo_S8192x1024_S1024_d0 h_S_) shapeCasts_S1024_S1x1024) (constant S_ .f32 0x00000000#32) reducesTo_S1x1024_S1024_d0 h_S_)

/-- Rows of what the reference takes. -/
abbrev gs : Fin 1024 → EReal := fun k => g (ix1 k)
abbrev row (x : FVec Ideal S8192x1024 .f32) (r : Fin 8192) : Fin 1024 → EReal := fun k => x (ix2 r k)
abbrev rows (r : Fin 8192) : Fin 1024 → EReal :=
  partsRow (fun k => d0 (ix2 r k)) (fun k => d1 (ix2 r k)) (fun k => d2 (ix2 r k)) (fun k => d3 (ix2 r k)) (fun k => d4 (ix2 r k)) (fun k => d5 (ix2 r k)) (fun k => d6 (ix2 r k)) (fun j k => w (ix2 j k))

theorem cat0 (r : Fin 8192) (k : Fin 1280) : cat d0 d1 d2 d3 d4 d5 d6 (ix2 r ⟨k, by omega⟩) = d0 (ix2 r k) := by
  pointwise [cat]

theorem cat1 (r : Fin 8192) (k : Fin 512) : cat d0 d1 d2 d3 d4 d5 d6 (ix2 r ⟨1280 + k, by omega⟩) = d1 (ix2 r k) := by
  pointwise [cat]

theorem cat2 (r : Fin 8192) (k : Fin 512) : cat d0 d1 d2 d3 d4 d5 d6 (ix2 r ⟨1792 + k, by omega⟩) = d2 (ix2 r k) := by
  pointwise [cat]
  refine (dif_neg (by omega)).trans ?_
  refine (dif_neg (by omega)).trans ?_
  refine (dif_pos (by omega)).trans ?_
  blk_ext

theorem cat3 (r : Fin 8192) (k : Fin 512) : cat d0 d1 d2 d3 d4 d5 d6 (ix2 r ⟨2304 + k, by omega⟩) = d3 (ix2 r k) := by
  pointwise [cat]
  refine (dif_neg (by omega)).trans ?_
  refine (dif_neg (by omega)).trans ?_
  refine (dif_neg (by omega)).trans ?_
  refine (dif_pos (by omega)).trans ?_
  blk_ext

theorem cat4 (r : Fin 8192) (k : Fin 512) : cat d0 d1 d2 d3 d4 d5 d6 (ix2 r ⟨2816 + k, by omega⟩) = d4 (ix2 r k) := by
  pointwise [cat]
  refine (dif_neg (by omega)).trans ?_
  refine (dif_neg (by omega)).trans ?_
  refine (dif_neg (by omega)).trans ?_
  refine (dif_neg (by omega)).trans ?_
  refine (dif_pos (by omega)).trans ?_
  blk_ext

theorem cat5 (r : Fin 8192) (k : Fin 512) : cat d0 d1 d2 d3 d4 d5 d6 (ix2 r ⟨3328 + k, by omega⟩) = d5 (ix2 r k) := by
  pointwise [cat]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  blk_ext

theorem cat6 (r : Fin 8192) (k : Fin 2048) : cat d0 d1 d2 d3 d4 d5 d6 (ix2 r ⟨3840 + k, by omega⟩) = d6 (ix2 r k) := by
  pointwise [cat]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  blk_ext

theorem dh_at (r : Fin 8192) (j : Fin 1024) : dh d0 d1 d2 d3 d4 d5 d6 w (ix2 r j) = rows d0 d1 d2 d3 d4 d5 d6 w r j := by
  have e : dh d0 d1 d2 d3 d4 d5 d6 w (ix2 r j) = ∑ k : Fin 5888, (show EReal from cat d0 d1 d2 d3 d4 d5 d6 (ix2 r k)) * w (ix2 j k) := by
    pointwise [dh]
  rw [e, sum_seven]
  simp only [cat0, cat1, cat2, cat3, cat4, cat5, cat6]
  rfl

theorem row_dh (r : Fin 8192) : (fun k => dh d0 d1 d2 d3 d4 d5 d6 w (ix2 r k)) = rows d0 d1 d2 d3 d4 d5 d6 w r := funext fun j => dh_at d0 d1 d2 d3 d4 d5 d6 w r j

theorem ms_at (u : FVec Ideal S8192x1024 .f32) (r : Fin 8192) : ms u (ix2 r 0) = meanSq (fun k => u (ix2 r k)) := by
  pointwise [ms]; rfl

theorem ri_at (u : FVec Ideal S8192x1024 .f32) (r : Fin 8192) : ri u (ix2 r 0) = rinv (fun k => u (ix2 r k)) := by
  change Ideal.rsqrt (ms u (ix2 r 0)) = _
  rw [ms_at]; rfl

theorem wide_at (v : FVec Ideal S8192x1 .f32) (r : Fin 8192) (j : Fin 1024) : wide v (ix2 r j) = v (ix2 r 0) := by
  pointwise [wide]

theorem scale_at (r : Fin 8192) (j : Fin 1024) : scale g (ix2 r j) = g (ix1 j) := by
  pointwise [scale]

theorem via_at (u d : FVec Ideal S8192x1024 .f32) (r : Fin 8192) (j : Fin 1024) : via g u d (ix2 r j)
    = viaMean (fun k => d (ix2 r k)) (fun k => u (ix2 r k)) (fun k => g (ix1 k)) := by
  pointwise [via, scale_at]
  rw [Fin.sum_univ_one, ri_at, ms_at]; rfl

theorem dff_at (u d : FVec Ideal S8192x1024 .f32) (r : Fin 8192) (j : Fin 1024) : dff g u d (ix2 r j)
    = normBwdK (fun k => d (ix2 r k)) (fun k => u (ix2 r k)) (fun k => g (ix1 k)) j := by
  rw [normBwd_eq]
  unfold normBwdR
  pointwise [dff, via_at, scale_at, wide_at, ri_at]

theorem dg_at (u d : FVec Ideal S8192x1024 .f32) (j : Fin 1024) : dg u d (ix2 0 j)
    = ∑ r : Fin 8192, d (ix2 r j) * u (ix2 r j) * rinv (fun k => u (ix2 r k)) := by
  pointwise [dg, wide_at, ri_at]
  refine (Fin.sum_univ_one _).trans (Finset.sum_congr rfl fun r _ => ?_)
  rw [mul_comm, mul_assoc]

/-- The two results, from the gradient at the product's input. -/
def out0 (e : Fin 8192 → Fin 1024 → EReal) : FVec Ideal S8192x1024 .f32 := fun i => normBwdK (e (i 0)) (row x (i 0)) (gs g) (i 1) + row h (i 0) (i 1)
def out1 (e : Fin 8192 → Fin 1024 → EReal) : FVec Ideal S1x1024 .f32 := fun i => ∑ r : Fin 8192, e r (i 1) * row x r (i 1) * rinv (row x r)

theorem eq0 : addf (dff g x (dh d0 d1 d2 d3 d4 d5 d6 w)) h = out0 x g h (rows d0 d1 d2 d3 d4 d5 d6 w) := by
  funext i
  obtain ⟨r, j, rfl⟩ : ∃ (r : Fin 8192) (j : Fin 1024), i = ix2 r j := ⟨i 0, i 1, by blk_ext⟩
  have e : dff g x (dh d0 d1 d2 d3 d4 d5 d6 w) (ix2 r j) = normBwdK (rows d0 d1 d2 d3 d4 d5 d6 w r) (row x r) (gs g) j := by
    rw [dff_at, row_dh]
  pointwise [e]; rfl

theorem eq1 : dg x (dh d0 d1 d2 d3 d4 d5 d6 w) = out1 x (rows d0 d1 d2 d3 d4 d5 d6 w) := by
  funext i
  obtain ⟨j, rfl⟩ : ∃ j : Fin 1024, i = ix2 0 j := ⟨i 1, by blk_ext⟩
  rw [dg_at]
  refine Finset.sum_congr rfl fun r _ => ?_
  rw [dh_at]; rfl

variable (m : (ℓ : Loc nD τ sig) → Buf (Elt Ideal) ℓ) (c : Dev nD)

/-- What the call takes. -/
def D0 : FVec Ideal S8192x1280 .f32 := m ((c.tc : Thread nD τ).loc main_arg0)
def D1 : FVec Ideal S8192x512 .f32 := m ((c.tc : Thread nD τ).loc main_arg1)
def D2 : FVec Ideal S8192x512 .f32 := m ((c.tc : Thread nD τ).loc main_arg2)
def D3 : FVec Ideal S8192x512 .f32 := m ((c.tc : Thread nD τ).loc main_arg3)
def D4 : FVec Ideal S8192x512 .f32 := m ((c.tc : Thread nD τ).loc main_arg4)
def D5 : FVec Ideal S8192x512 .f32 := m ((c.tc : Thread nD τ).loc main_arg5)
def D6 : FVec Ideal S8192x2048 .f32 := m ((c.tc : Thread nD τ).loc main_arg6)
def W : FVec Ideal S1024x5888 .f32 := m ((c.tc : Thread nD τ).loc main_arg7)
def X : FVec Ideal S8192x1024 .f32 := m ((c.tc : Thread nD τ).loc main_arg8)
def G : FVec Ideal S1024 .f32 := m ((c.tc : Thread nD τ).loc main_arg9)
def H : FVec Ideal S8192x1024 .f32 := m ((c.tc : Thread nD τ).loc main_arg10)

/-- The gradient at the product's input. -/
def E : Fin 8192 → Fin 1024 → EReal := rows (D0 m c) (D1 m c) (D2 m c) (D3 m c) (D4 m c) (D5 m c) (D6 m c) (W m c)

set_option maxHeartbeats 4000000 in
/-- The reference's run ends with the two results. -/
theorem result (ρ : Dev nD → PrngReg) :
    θ_run (defs (F := Ideal)) (onTc (τ := τ) (main (F := Ideal))) ⟨m, fun _ => 0, ρ⟩ (fun r => ∀ c : Dev nD,
      r.2.mem ((c.tc : Thread nD τ).loc main_v39) = out0 (X m c) (G m c) (H m c) (E m c)
      ∧ r.2.mem ((c.tc : Thread nD τ).loc main_v40) = out1 (X m c) (E m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (eq0 (D0 m c) (D1 m c) (D2 m c) (D3 m c) (D4 m c) (D5 m c) (D6 m c) (W m c) (X m c) (G m c) (H m c)),
      (h c).2.1.trans (eq1 (D0 m c) (D1 m c) (D2 m c) (D3 m c) (D4 m c) (D5 m c) (D6 m c) (W m c) (X m c)), (h c).2.2⟩)
    (Cert.Reference5Ideal.Value.run (F := Ideal) m ρ)

end Cert.Reference5Ideal.Own

namespace Cert.Kernel5Ideal.Own

open Idealize.ShloMosaic Idealize.ShloMosaic.TcCoe Idealize.SL.Sem Idealize.ShloMosaic.StableHlo
open Cert.Kernel5Ideal Cert.Kernel5Ideal.Gen Cert.Grad
open Cert.Reference5Ideal.Own (gs row rows out0 out1)

/-- The frame of the program read over the reals. -/
theorem frame_ideal : Cert.quiescent_Kernel5Ideal := fun m ρ _ => Cert.Kernel5Ideal.Gen.frame m ρ

set_option backward.isDefEq.respectTransparency false in
set_option smartUnfolding false in
set_option maxHeartbeats 40000000 in
/-- The frame of the program read over the bits: the two programs' texts are one. -/
theorem frame_kernel : Cert.quiescent_Kernel5 := fun m ρ _ =>
  (θ_run (Cert.Kernel5Ideal.defs (F := Bits)) _ _).mono (fun _ h => h) (Cert.Kernel5Ideal.Gen.frame (F := Bits) m ρ)

/-- The reference's frame. -/
theorem frame_reference : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- Row `p` of tile `t`. -/
def line (t : Fin 16) (p : Fin 512) : Fin 8192 := ⟨t * 512 + p, by omega⟩

/-- A sum over the rows, tile by tile. -/
theorem sum_lines (f : Fin 8192 → EReal) : ∑ r, f r = ∑ t : Fin 16, ∑ p : Fin 512, f (line t p) :=
  Fin.sum_univ_tiles 16 512 rfl f

section Payloads

variable (d0 : FVec Ideal S512x1280 .bf16) (d1 : FVec Ideal S512x512 .bf16) (d2 : FVec Ideal S512x512 .bf16) (d3 : FVec Ideal S512x512 .bf16) (d4 : FVec Ideal S512x512 .bf16) (d5 : FVec Ideal S512x512 .bf16) (d6 : FVec Ideal S512x2048 .bf16)
  (w : Vec Ideal S1024x5888 .bf16) (u : FVec Ideal S512x1024 .f32) (g : FVec Ideal S1x1024 .f32) (h : FVec Ideal S512x1024 .f32)

/-- The weight's seven parts. -/
abbrev w0 : Vec Ideal S1024x1280 .bf16 := View.ld w (Rect.unit (s := S1024x5888) ![0, 0] S1024x1280.size inb_S1024x5888_S1024x1280_0_0)
abbrev w1 : Vec Ideal S1024x512 .bf16 := View.ld w (Rect.unit (s := S1024x5888) ![0, 1280] S1024x512.size inb_S1024x5888_S1024x512_0_1280)
abbrev w2 : Vec Ideal S1024x512 .bf16 := View.ld w (Rect.unit (s := S1024x5888) ![0, 1792] S1024x512.size inb_S1024x5888_S1024x512_0_1792)
abbrev w3 : Vec Ideal S1024x512 .bf16 := View.ld w (Rect.unit (s := S1024x5888) ![0, 2304] S1024x512.size inb_S1024x5888_S1024x512_0_2304)
abbrev w4 : Vec Ideal S1024x512 .bf16 := View.ld w (Rect.unit (s := S1024x5888) ![0, 2816] S1024x512.size inb_S1024x5888_S1024x512_0_2816)
abbrev w5 : Vec Ideal S1024x512 .bf16 := View.ld w (Rect.unit (s := S1024x5888) ![0, 3328] S1024x512.size inb_S1024x5888_S1024x512_0_3328)
abbrev w6 : Vec Ideal S1024x2048 .bf16 := View.ld w (Rect.unit (s := S1024x5888) ![0, 3840] S1024x2048.size inb_S1024x5888_S1024x2048_0_3840)

theorem w0_at (j : Fin 1024) (k : Fin 1280) : w0 w (ix2 j k) = w (ix2 j ⟨k, by omega⟩) := by
  refine View.ld_unit_apply_of _ _ _ _ _ _ fun a => ?_
  fin_cases a
  · exact (Nat.zero_add _).symm
  · exact (Nat.zero_add _).symm

theorem w1_at (j : Fin 1024) (k : Fin 512) : w1 w (ix2 j k) = w (ix2 j ⟨1280 + k, by omega⟩) := by
  refine View.ld_unit_apply_of _ _ _ _ _ _ fun a => ?_
  fin_cases a
  · exact (Nat.zero_add _).symm
  · rfl

theorem w2_at (j : Fin 1024) (k : Fin 512) : w2 w (ix2 j k) = w (ix2 j ⟨1792 + k, by omega⟩) := by
  refine View.ld_unit_apply_of _ _ _ _ _ _ fun a => ?_
  fin_cases a
  · exact (Nat.zero_add _).symm
  · rfl

theorem w3_at (j : Fin 1024) (k : Fin 512) : w3 w (ix2 j k) = w (ix2 j ⟨2304 + k, by omega⟩) := by
  refine View.ld_unit_apply_of _ _ _ _ _ _ fun a => ?_
  fin_cases a
  · exact (Nat.zero_add _).symm
  · rfl

theorem w4_at (j : Fin 1024) (k : Fin 512) : w4 w (ix2 j k) = w (ix2 j ⟨2816 + k, by omega⟩) := by
  refine View.ld_unit_apply_of _ _ _ _ _ _ fun a => ?_
  fin_cases a
  · exact (Nat.zero_add _).symm
  · rfl

theorem w5_at (j : Fin 1024) (k : Fin 512) : w5 w (ix2 j k) = w (ix2 j ⟨3328 + k, by omega⟩) := by
  refine View.ld_unit_apply_of _ _ _ _ _ _ fun a => ?_
  fin_cases a
  · exact (Nat.zero_add _).symm
  · rfl

theorem w6_at (j : Fin 1024) (k : Fin 2048) : w6 w (ix2 j k) = w (ix2 j ⟨3840 + k, by omega⟩) := by
  refine View.ld_unit_apply_of _ _ _ _ _ _ fun a => ?_
  fin_cases a
  · exact (Nat.zero_add _).symm
  · rfl

/-- Rows of a tile. -/
abbrev tg : Fin 1024 → EReal := fun k => g (ix2 0 k)
abbrev tr (u : FVec Ideal S512x1024 .f32) (p : Fin 512) : Fin 1024 → EReal := fun k => u (ix2 p k)
abbrev te (p : Fin 512) : Fin 1024 → EReal :=
  partsRow (fun k => d0 (ix2 p k)) (fun k => d1 (ix2 p k)) (fun k => d2 (ix2 p k)) (fun k => d3 (ix2 p k)) (fun k => d4 (ix2 p k)) (fun k => d5 (ix2 p k)) (fun k => d6 (ix2 p k)) (fun j k => w (ix2 j k))

/-- The three of a tile's results that come of the product: the row's gradient, its part of the scale's gradient before the
norm's factor, and the gradient at the product's input. -/
abbrev pd : FVec Ideal S512x1024 .f32 := k0_pay8 (F := Ideal) (k0_pay3 (F := Ideal) d0 (w0 w) d1 (w1 w) d2 (w2 w) d3 (w3 w) d4 (w4 w)) (k0_pay4 (F := Ideal) d5) (w5 w) d6 (w6 w) u g
abbrev pq : FVec Ideal S512x1024 .f32 := k0_pay9 (F := Ideal) (k0_pay3 (F := Ideal) d0 (w0 w) d1 (w1 w) d2 (w2 w) d3 (w3 w) d4 (w4 w)) (k0_pay4 (F := Ideal) d5) (w5 w) d6 (w6 w) u
abbrev pe : FVec Ideal S512x1024 .f32 := k0_pay5 (F := Ideal) (k0_pay3 (F := Ideal) d0 (w0 w) d1 (w1 w) d2 (w2 w) d3 (w3 w) d4 (w4 w)) (k0_pay4 (F := Ideal) d5) (w5 w) d6 (w6 w)

theorem pe_at (p : Fin 512) (j : Fin 1024) : pe d0 d1 d2 d3 d4 d5 d6 w (ix2 p j) = te d0 d1 d2 d3 d4 d5 d6 w p j := by
  pointwise [k0_pay5, k0_pay4, k0_pay3]
  exact congrArg₂ (HAdd.hAdd (α := EReal) (β := EReal)) (congrArg₂ (HAdd.hAdd (α := EReal) (β := EReal)) (congrArg₂ (HAdd.hAdd (α := EReal) (β := EReal)) (congrArg₂ (HAdd.hAdd (α := EReal) (β := EReal)) (congrArg₂ (HAdd.hAdd (α := EReal) (β := EReal)) (congrArg₂ (HAdd.hAdd (α := EReal) (β := EReal)) (Finset.sum_congr rfl fun k _ => congrArg (HMul.hMul (α := EReal) (β := EReal) (d0 (ix2 p k))) (w0_at w j k))
    (Finset.sum_congr rfl fun k _ => congrArg (HMul.hMul (α := EReal) (β := EReal) (d1 (ix2 p k))) (w1_at w j k)))
    (Finset.sum_congr rfl fun k _ => congrArg (HMul.hMul (α := EReal) (β := EReal) (d2 (ix2 p k))) (w2_at w j k)))
    (Finset.sum_congr rfl fun k _ => congrArg (HMul.hMul (α := EReal) (β := EReal) (d3 (ix2 p k))) (w3_at w j k)))
    (Finset.sum_congr rfl fun k _ => congrArg (HMul.hMul (α := EReal) (β := EReal) (d4 (ix2 p k))) (w4_at w j k)))
    (Finset.sum_congr rfl fun k _ => congrArg (HMul.hMul (α := EReal) (β := EReal) (d5 (ix2 p k))) (w5_at w j k)))
    (Finset.sum_congr rfl fun k _ => congrArg (HMul.hMul (α := EReal) (β := EReal) (d6 (ix2 p k))) (w6_at w j k))

theorem pe_row (p : Fin 512) : (fun k => pe d0 d1 d2 d3 d4 d5 d6 w (ix2 p k)) = te d0 d1 d2 d3 d4 d5 d6 w p := funext fun j => pe_at d0 d1 d2 d3 d4 d5 d6 w p j

theorem pay7_at (p : Fin 512) : k0_pay7 (F := Ideal) u (ix2 p 0) = rinv (tr u p) := by
  pointwise [k0_pay7]; rfl

theorem pay10_at (p : Fin 512) (j : Fin 1024) : k0_pay10 (F := Ideal) u (ix2 p j) = rinv (tr u p) := by
  pointwise [k0_pay10, pay7_at]

theorem pd_of (p : Fin 512) (j : Fin 1024) : pd d0 d1 d2 d3 d4 d5 d6 w u g (ix2 p j)
    = normBwdK (fun k => pe d0 d1 d2 d3 d4 d5 d6 w (ix2 p k)) (tr u p) (tg g) j := by
  pointwise [k0_pay8, pay7_at]; rfl

theorem pq_of (p : Fin 512) (j : Fin 1024) : pq d0 d1 d2 d3 d4 d5 d6 w u (ix2 p j) = (show EReal from pe d0 d1 d2 d3 d4 d5 d6 w (ix2 p j)) * u (ix2 p j) := by
  pointwise [k0_pay9]

theorem pay1_at (p : Fin 512) (j : Fin 1024) : k0_pay1 (F := Ideal) (pd d0 d1 d2 d3 d4 d5 d6 w u g) h (ix2 p j)
    = normBwdK (te d0 d1 d2 d3 d4 d5 d6 w p) (tr u p) (tg g) j + tr h p j := by
  have e := pd_of d0 d1 d2 d3 d4 d5 d6 w u g p j
  rw [pe_row] at e
  pointwise [k0_pay1, e]

theorem pay2_at (s : FVec Ideal S1x1024 .f32) (j : Fin 1024) : k0_pay2 (F := Ideal) (pq d0 d1 d2 d3 d4 d5 d6 w u) (k0_pay10 (F := Ideal) u) s (ix2 0 j)
    = s (ix2 0 j) + ∑ p : Fin 512, te d0 d1 d2 d3 d4 d5 d6 w p j * tr u p j * rinv (tr u p) := by
  pointwise [k0_pay2, pq_of, pe_at, pay10_at]

theorem pay6_at (j : Fin 1024) : k0_pay6 (F := Ideal) (ix2 0 j) = (0 : EReal) := by
  pointwise [k0_pay6]

end Payloads

variable (m : (ℓ : Loc nD τ sig) → Buf (Elt Ideal) ℓ) (c : Dev nD)

/-- What the call takes. -/
def D0 : FVec Ideal S8192x1280 .f32 := m ((c.tc : Thread nD τ).loc main_arg0)
def D1 : FVec Ideal S8192x512 .f32 := m ((c.tc : Thread nD τ).loc main_arg1)
def D2 : FVec Ideal S8192x512 .f32 := m ((c.tc : Thread nD τ).loc main_arg2)
def D3 : FVec Ideal S8192x512 .f32 := m ((c.tc : Thread nD τ).loc main_arg3)
def D4 : FVec Ideal S8192x512 .f32 := m ((c.tc : Thread nD τ).loc main_arg4)
def D5 : FVec Ideal S8192x512 .f32 := m ((c.tc : Thread nD τ).loc main_arg5)
def D6 : FVec Ideal S8192x2048 .f32 := m ((c.tc : Thread nD τ).loc main_arg6)
def W : FVec Ideal S1024x5888 .f32 := m ((c.tc : Thread nD τ).loc main_arg7)
def X : FVec Ideal S8192x1024 .f32 := m ((c.tc : Thread nD τ).loc main_arg8)
def G : FVec Ideal S1024 .f32 := m ((c.tc : Thread nD τ).loc main_arg9)
def H : FVec Ideal S8192x1024 .f32 := m ((c.tc : Thread nD τ).loc main_arg10)

/-- The gradient at the product's input. -/
def E : Fin 8192 → Fin 1024 → EReal := rows (D0 m c) (D1 m c) (D2 m c) (D3 m c) (D4 m c) (D5 m c) (D6 m c) (W m c)

theorem V_0 : V m c main_v0 = truncf .bf16 (D0 m c) bitsLt_bf16_f32 := by unfold V; after_results; rfl
theorem V_1 : V m c main_v1 = truncf .bf16 (D1 m c) bitsLt_bf16_f32 := by unfold V; after_results; rfl
theorem V_2 : V m c main_v2 = truncf .bf16 (D2 m c) bitsLt_bf16_f32 := by unfold V; after_results; rfl
theorem V_3 : V m c main_v3 = truncf .bf16 (D3 m c) bitsLt_bf16_f32 := by unfold V; after_results; rfl
theorem V_4 : V m c main_v4 = truncf .bf16 (D4 m c) bitsLt_bf16_f32 := by unfold V; after_results; rfl
theorem V_5 : V m c main_v5 = truncf .bf16 (D5 m c) bitsLt_bf16_f32 := by unfold V; after_results; rfl
theorem V_6 : V m c main_v6 = truncf .bf16 (D6 m c) bitsLt_bf16_f32 := by unfold V; after_results; rfl
theorem V_w : V m c main_v7 = truncf .bf16 (W m c) bitsLt_bf16_f32 := by unfold V; after_results; rfl
theorem V_x : V m c main_arg8 = X m c := by unfold V; after_results; rfl
theorem V_g : V m c main_v8 = broadcastInDim S1x1024 ![1] bcast_S1024_S1x1024_1 (G m c) := by unfold V; after_results; rfl
theorem V_h : V m c main_arg10 = H m c := by unfold V; after_results; rfl

/-- Every window's block at a tile. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)

/-- A tile's number. -/
def num (t : Fin cfg0.N) : Fin 16 := ⟨t.val, lt_of_lt_of_eq t.isLt N_0⟩

theorem blk0 (t : Fin cfg0.N) (p : Fin 512) (k : Fin 1280) : iblk m c 0 t (ix2 p k) = D0 m c (ix2 (line (num t) p) k) := by
  have e : iblk m c 0 t (ix2 p k) = V m c main_v0 (ix2 (line (num t) p) k) := by
    blk_ext [iblk, line, num, idx t]
  rw [e, V_0]; rfl

theorem blk1 (t : Fin cfg0.N) (p : Fin 512) (k : Fin 512) : iblk m c 1 t (ix2 p k) = D1 m c (ix2 (line (num t) p) k) := by
  have e : iblk m c 1 t (ix2 p k) = V m c main_v1 (ix2 (line (num t) p) k) := by
    blk_ext [iblk, line, num, idx t]
  rw [e, V_1]; rfl

theorem blk2 (t : Fin cfg0.N) (p : Fin 512) (k : Fin 512) : iblk m c 2 t (ix2 p k) = D2 m c (ix2 (line (num t) p) k) := by
  have e : iblk m c 2 t (ix2 p k) = V m c main_v2 (ix2 (line (num t) p) k) := by
    blk_ext [iblk, line, num, idx t]
  rw [e, V_2]; rfl

theorem blk3 (t : Fin cfg0.N) (p : Fin 512) (k : Fin 512) : iblk m c 3 t (ix2 p k) = D3 m c (ix2 (line (num t) p) k) := by
  have e : iblk m c 3 t (ix2 p k) = V m c main_v3 (ix2 (line (num t) p) k) := by
    blk_ext [iblk, line, num, idx t]
  rw [e, V_3]; rfl

theorem blk4 (t : Fin cfg0.N) (p : Fin 512) (k : Fin 512) : iblk m c 4 t (ix2 p k) = D4 m c (ix2 (line (num t) p) k) := by
  have e : iblk m c 4 t (ix2 p k) = V m c main_v4 (ix2 (line (num t) p) k) := by
    blk_ext [iblk, line, num, idx t]
  rw [e, V_4]; rfl

theorem blk5 (t : Fin cfg0.N) (p : Fin 512) (k : Fin 512) : iblk m c 5 t (ix2 p k) = D5 m c (ix2 (line (num t) p) k) := by
  have e : iblk m c 5 t (ix2 p k) = V m c main_v5 (ix2 (line (num t) p) k) := by
    blk_ext [iblk, line, num, idx t]
  rw [e, V_5]; rfl

theorem blk6 (t : Fin cfg0.N) (p : Fin 512) (k : Fin 2048) : iblk m c 6 t (ix2 p k) = D6 m c (ix2 (line (num t) p) k) := by
  have e : iblk m c 6 t (ix2 p k) = V m c main_v6 (ix2 (line (num t) p) k) := by
    blk_ext [iblk, line, num, idx t]
  rw [e, V_6]; rfl

theorem blk_w (t : Fin cfg0.N) (j : Fin 1024) (k : Fin 5888) : iblk m c 7 t (ix2 j k) = W m c (ix2 j k) := by
  have e : iblk m c 7 t (ix2 j k) = V m c main_v7 (ix2 j k) := by
    blk_ext [iblk, idx t]
  rw [e, V_w]; rfl

theorem blk_x (t : Fin cfg0.N) (p : Fin 512) (k : Fin 1024) : iblk m c 8 t (ix2 p k) = X m c (ix2 (line (num t) p) k) := by
  have e : iblk m c 8 t (ix2 p k) = V m c main_arg8 (ix2 (line (num t) p) k) := by
    blk_ext [iblk, line, num, idx t]
  rw [e, V_x]

theorem blk_g (t : Fin cfg0.N) (j : Fin 1024) : iblk m c 9 t (ix2 0 j) = G m c (ix1 j) := by
  have e : iblk m c 9 t (ix2 0 j) = V m c main_v8 (ix2 0 j) := by
    blk_ext [iblk, idx t]
  rw [e, V_g]
  pointwise

theorem blk_h (t : Fin cfg0.N) (p : Fin 512) (k : Fin 1024) : iblk m c 10 t (ix2 p k) = H m c (ix2 (line (num t) p) k) := by
  have e : iblk m c 10 t (ix2 p k) = V m c main_arg10 (ix2 (line (num t) p) k) := by
    blk_ext [iblk, line, num, idx t]
  rw [e, V_h]

/-- A tile's rows are the arrays' rows. -/
theorem tg_eq (t : Fin cfg0.N) : tg (iblk m c 9 t) = gs (G m c) := funext fun j => blk_g m c t j
theorem tx_eq (t : Fin cfg0.N) (p : Fin 512) : tr (iblk m c 8 t) p = row (X m c) (line (num t) p) := funext fun k => blk_x m c t p k
theorem th_eq (t : Fin cfg0.N) (p : Fin 512) : tr (iblk m c 10 t) p = row (H m c) (line (num t) p) := funext fun k => blk_h m c t p k

theorem te_eq (t : Fin cfg0.N) (p : Fin 512) : te (iblk m c 0 t) (iblk m c 1 t) (iblk m c 2 t) (iblk m c 3 t) (iblk m c 4 t) (iblk m c 5 t) (iblk m c 6 t) (iblk m c 7 t) p = E m c (line (num t) p) := by
  have e0 : (fun k => iblk m c 0 t (ix2 p k)) = fun k => D0 m c (ix2 (line (num t) p) k) := funext fun k => blk0 m c t p k
  have e1 : (fun k => iblk m c 1 t (ix2 p k)) = fun k => D1 m c (ix2 (line (num t) p) k) := funext fun k => blk1 m c t p k
  have e2 : (fun k => iblk m c 2 t (ix2 p k)) = fun k => D2 m c (ix2 (line (num t) p) k) := funext fun k => blk2 m c t p k
  have e3 : (fun k => iblk m c 3 t (ix2 p k)) = fun k => D3 m c (ix2 (line (num t) p) k) := funext fun k => blk3 m c t p k
  have e4 : (fun k => iblk m c 4 t (ix2 p k)) = fun k => D4 m c (ix2 (line (num t) p) k) := funext fun k => blk4 m c t p k
  have e5 : (fun k => iblk m c 5 t (ix2 p k)) = fun k => D5 m c (ix2 (line (num t) p) k) := funext fun k => blk5 m c t p k
  have e6 : (fun k => iblk m c 6 t (ix2 p k)) = fun k => D6 m c (ix2 (line (num t) p) k) := funext fun k => blk6 m c t p k
  have ew : (fun j k => iblk m c 7 t (ix2 j k)) = fun j k => W m c (ix2 j k) := funext fun j => funext fun k => blk_w m c t j k
  change partsRow (fun k => iblk m c 0 t (ix2 p k)) (fun k => iblk m c 1 t (ix2 p k)) (fun k => iblk m c 2 t (ix2 p k))
    (fun k => iblk m c 3 t (ix2 p k)) (fun k => iblk m c 4 t (ix2 p k)) (fun k => iblk m c 5 t (ix2 p k))
    (fun k => iblk m c 6 t (ix2 p k)) (fun j k => iblk m c 7 t (ix2 j k)) = _
  rw [e0, e1, e2, e3, e4, e5, e6, ew]; rfl

/-- What each tile leaves of the residual stream's gradient. -/
theorem left11 (t : Fin cfg0.N) : (outsAt0 m c t.val t.isLt).1
    = k0_pay1 (F := Ideal) (pd (iblk m c 0 t) (iblk m c 1 t) (iblk m c 2 t) (iblk m c 3 t) (iblk m c 4 t) (iblk m c 5 t) (iblk m c 6 t) (iblk m c 7 t) (iblk m c 8 t) (iblk m c 9 t)) (iblk m c 10 t) := by
  by_cases h0 : t.val % 16 = 0
  · rw [outsAt0_A m c t h0]
    frame_out
  · rw [outsAt0_B m c t h0]
    frame_out

/-- One tile's step on the scale's gradient. -/
def addDg (t : Fin cfg0.N) (s : FVec Ideal S1x1024 .f32) : FVec Ideal S1x1024 .f32 :=
  k0_pay2 (F := Ideal) (pq (iblk m c 0 t) (iblk m c 1 t) (iblk m c 2 t) (iblk m c 3 t) (iblk m c 4 t) (iblk m c 5 t) (iblk m c 6 t) (iblk m c 7 t) (iblk m c 8 t)) (k0_pay10 (F := Ideal) (iblk m c 8 t)) s

theorem first12 (h : 0 < cfg0.N) : (outsAt0 m c 0 h).2 = addDg m c ⟨0, h⟩ (k0_pay6 (F := Ideal)) := by
  rw [show outsAt0 m c 0 h = _ from outsAt0_A m c ⟨0, h⟩ rfl]
  unfold addDg
  frame_out

theorem next12 (n : ℕ) (h : n + 1 < cfg0.N) : (outsAt0 m c (n + 1) h).2
    = addDg m c ⟨n + 1, h⟩ (outsAt0 m c n (Nat.lt_of_succ_lt h)).2 := by
  have hN : n + 1 < 16 := lt_of_lt_of_eq h N_0
  have h0 : ¬((⟨n + 1, h⟩ : Fin cfg0.N).val % 16 = 0) := by dsimp only; omega
  rw [show outsAt0 m c (n + 1) h = _ from outsAt0_B m c ⟨n + 1, h⟩ h0]
  unfold addDg
  frame_out
  rfl

/-- A tile's part of the scale's gradient. -/
def dgPart (j : Fin 1024) (t : Fin 16) : EReal :=
  ∑ p : Fin 512, E m c (line t p) j * row (X m c) (line t p) j * rinv (row (X m c) (line t p))

theorem addDg_at (t : Fin cfg0.N) (s : FVec Ideal S1x1024 .f32) (j : Fin 1024) : addDg m c t s (ix2 0 j) = s (ix2 0 j) + dgPart m c j (num t) := by
  refine (pay2_at _ _ _ _ _ _ _ _ _ s j).trans (congrArg (s (ix2 0 j) + ·) (Finset.sum_congr rfl fun p _ => ?_))
  rw [te_eq, tx_eq]

theorem total12 (t : Fin cfg0.N) (ht : t.val = 15) (j : Fin 1024) : (outsAt0 m c t.val t.isLt).2 (ix2 0 j) = ∑ s, dgPart m c j s := by
  refine sum_steps 15 N_0 (dgPart m c j) (fun n h => (outsAt0 m c n h).2 (ix2 0 j)) (fun h => ?_) (fun n h => ?_) t ht
  · rw [first12]
    exact (addDg_at m c ⟨0, h⟩ _ j).trans (congrArg (· + _) (pay6_at j))
  · rw [next12]
    exact addDg_at m c ⟨n + 1, h⟩ _ j

/-- The arrays the call leaves. -/
theorem final11 : (dats m 0 c).arrAt 11 cfg0.N = out0 (X m c) (G m c) (H m c) (E m c) := by
  refine (dats m 0 c).arrAt_eq_of_covers 11 _ (by decide +kernel) fun t hf y => ?_
  blk_simp
  rw [after0_11, left11]
  obtain ⟨p, j, rfl⟩ : ∃ (p : Fin 512) (j : Fin 1024), y = ix2 p j := ⟨y 0, y 1, by blk_ext⟩
  refine (pay1_at _ _ _ _ _ _ _ _ _ _ _ p j).trans ?_
  rw [te_eq, tg_eq, tx_eq, th_eq]
  change out0 (X m c) (G m c) (H m c) (E m c) (ix2 (line (num t) p) j) = _
  blk_ext [line, num, idx t]

theorem final12 : (dats m 0 c).arrAt 12 cfg0.N = out1 (X m c) (E m c) := by
  refine (dats m 0 c).arrAt_eq_of_covers 12 _ (by decide +kernel) fun t hf y => ?_
  have hm : t.val % 16 = 15 := (flush0_12 t).mp hf
  have ht : t.val = 15 := by have : t.val < 16 := lt_of_lt_of_eq t.isLt N_0; omega
  blk_simp
  rw [after0_12]
  obtain ⟨j, rfl⟩ : ∃ j : Fin 1024, y = ix2 0 j := ⟨y 1, by blk_ext⟩
  refine (total12 m c t ht j).trans ?_
  have e : out1 (X m c) (E m c) (ix2 0 j) = ∑ s, dgPart m c j s := sum_lines _
  rw [← e]
  blk_ext [idx t]

/-- The kernel and the reference agree. -/
theorem algebraic : Cert.algebraic_Kernel5Ideal_Reference5Ideal := by
  intro m g m' g' _ hag
  refine ⟨fun c => out0 (X m c) (G m c) (H m c) (E m c), fun c => out1 (X m c) (E m c), ?_, ?_⟩
  · exact (θ_run defs _ _).mono (fun r h c => ⟨(h c).1.trans (final11 m c), (h c).2.1.trans (final12 m c), (h c).2.2⟩)
      (Cert.Kernel5Ideal.Value.run_blocks (F := Ideal) m g)
  · refine (θ_run Cert.Reference5Ideal.defs _ _).mono (fun r h c => ?_) (Cert.Reference5Ideal.Own.result m' g')
    obtain ⟨h0, h1, h2, h3, h4, h5, h6, h7, h8, h9, h10⟩ := hag c
    have a0 : Cert.Reference5Ideal.Own.D0 m' c = D0 m c := h0
    have a1 : Cert.Reference5Ideal.Own.D1 m' c = D1 m c := h1
    have a2 : Cert.Reference5Ideal.Own.D2 m' c = D2 m c := h2
    have a3 : Cert.Reference5Ideal.Own.D3 m' c = D3 m c := h3
    have a4 : Cert.Reference5Ideal.Own.D4 m' c = D4 m c := h4
    have a5 : Cert.Reference5Ideal.Own.D5 m' c = D5 m c := h5
    have a6 : Cert.Reference5Ideal.Own.D6 m' c = D6 m c := h6
    have a7 : Cert.Reference5Ideal.Own.W m' c = W m c := h7
    have a8 : Cert.Reference5Ideal.Own.X m' c = X m c := h8
    have a9 : Cert.Reference5Ideal.Own.G m' c = G m c := h9
    have a10 : Cert.Reference5Ideal.Own.H m' c = H m c := h10
    have e := h c
    unfold Cert.Reference5Ideal.Own.E at e
    rw [a0, a1, a2, a3, a4, a5, a6, a7, a8, a9, a10] at e
    exact e

end Cert.Kernel5Ideal.Own

end
-- ==== Proof.InProj.lean ====
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.Scalar
public import Idealize.ShloMosaic.Lib.Pipeline.ValueKit
public import Idealize.ShloMosaic.Lib.Pipeline.ReadBack

/-! The first norm and the product with the input weight: sixteen tiles of rows, each leaving its normed rows and three
slices of columns of their product. -/

@[expose] public section

set_option maxRecDepth 16384

noncomputable section

namespace Cert.Grad

open Idealize.ShloMosaic

/-- A normed row. -/
def normRow (x g : Fin 1024 → EReal) (k : Fin 1024) : EReal := x k * rinv x * g k

/-- An entry of a normed row's product. -/
def projRow (x g : Fin 1024 → EReal) (w : Fin 1024 → EReal) : EReal := ∑ k, normRow x g k * w k

/-- The columns of the three slices. -/
def colA (j : Fin 1280) : Fin 5888 := ⟨j, by omega⟩
def colB (j : Fin 2560) : Fin 5888 := ⟨1280 + j, by omega⟩
def colC (j : Fin 2048) : Fin 5888 := ⟨3840 + j, by omega⟩

end Cert.Grad

namespace Cert.Reference6Ideal.Own

open Idealize.ShloMosaic Idealize.ShloMosaic.TcCoe Idealize.SL.Sem Idealize.ShloMosaic.StableHlo
open Cert.Reference6Ideal Cert.Reference6Ideal.Gen Cert.Reference6Ideal.Value Cert.Grad

variable (x : FVec Ideal S8192x1024 .f32) (g : FVec Ideal S1024 .f32) (w : FVec Ideal S1024x5888 .f32)

/-- The reference's normed rows and their product. -/
def ms : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def ri : FVec Ideal S8192x1 .f32 := Host.rsqrt (ms x)
def hn : FVec Ideal S8192x1024 .f32 :=
  mulf (mulf x (broadcastInDim S8192x1024 ![0, 1] bcast_S8192x1_S8192x1024_0_1 (ri x))) (broadcastInDim S8192x1024 ![0, 1] bcast_S1x1024_S8192x1024_0_1 (broadcastInDim S1x1024 ![1] bcast_S1024_S1x1024_1 g))
def prod : FVec Ideal S8192x5888 .f32 := Host.dotGeneral dot_S8192x1024_S1024x5888_S8192x5888_1_0_0_1_n_n none (hn x g) w

abbrev gs : Fin 1024 → EReal := fun k => g (ix1 k)
abbrev row (r : Fin 8192) : Fin 1024 → EReal := fun k => x (ix2 r k)
abbrev wcol (n : Fin 5888) : Fin 1024 → EReal := fun k => w (ix2 k n)

theorem ms_at (r : Fin 8192) : ms x (ix2 r 0) = meanSq (row x r) := by
  pointwise [ms]; rfl

theorem ri_at (r : Fin 8192) : ri x (ix2 r 0) = rinv (row x r) := by
  change Ideal.rsqrt (ms x (ix2 r 0)) = _
  rw [ms_at]; rfl

theorem hn_at (r : Fin 8192) (k : Fin 1024) : hn x g (ix2 r k) = normRow (row x r) (gs g) k := by
  pointwise [hn, ri_at]; rfl

theorem prod_at (r : Fin 8192) (n : Fin 5888) : prod x g w (ix2 r n) = projRow (row x r) (gs g) (wcol w n) := by
  pointwise [prod, hn_at]; rfl

/-- The four results. -/
def out0 : FVec Ideal S8192x1024 .bf16 := fun i => normRow (row x (i 0)) (gs g) (i 1)
def out1 : FVec Ideal S8192x1280 .f32 := fun i => projRow (row x (i 0)) (gs g) (wcol w (colA (i 1)))
def out2 : FVec Ideal S8192x2560 .f32 := fun i => projRow (row x (i 0)) (gs g) (wcol w (colB (i 1)))
def out3 : FVec Ideal S8192x2048 .f32 := fun i => projRow (row x (i 0)) (gs g) (wcol w (colC (i 1)))

theorem eq0 : truncf .bf16 (hn x g) bitsLt_bf16_f32 = out0 x g := by
  funext i
  obtain ⟨r, k, rfl⟩ : ∃ (r : Fin 8192) (k : Fin 1024), i = ix2 r k := ⟨i 0, i 1, by blk_ext⟩
  exact hn_at x g r k

theorem eq1 : extractStridedSlice S8192x1280 ![0, 0] (prod x g w) slices_S8192x5888_S8192x1280_0_0 = out1 x g w := by
  funext i
  obtain ⟨r, j, rfl⟩ : ∃ (r : Fin 8192) (j : Fin 1280), i = ix2 r j := ⟨i 0, i 1, by blk_ext⟩
  refine Eq.trans ?_ (prod_at x g w r (colA j))
  pointwise
  blk_ext [colA]

theorem eq2 : extractStridedSlice S8192x2560 ![0, 1280] (prod x g w) slices_S8192x5888_S8192x2560_0_1280 = out2 x g w := by
  funext i
  obtain ⟨r, j, rfl⟩ : ∃ (r : Fin 8192) (j : Fin 2560), i = ix2 r j := ⟨i 0, i 1, by blk_ext⟩
  refine Eq.trans ?_ (prod_at x g w r (colB j))
  pointwise
  blk_ext [colB]

theorem eq3 : extractStridedSlice S8192x2048 ![0, 3840] (prod x g w) slices_S8192x5888_S8192x2048_0_3840 = out3 x g w := by
  funext i
  obtain ⟨r, j, rfl⟩ : ∃ (r : Fin 8192) (j : Fin 2048), i = ix2 r j := ⟨i 0, i 1, by blk_ext⟩
  refine Eq.trans ?_ (prod_at x g w r (colC j))
  pointwise
  blk_ext [colC]

variable (m : (ℓ : Loc nD τ sig) → Buf (Elt Ideal) ℓ)

set_option maxHeartbeats 4000000 in
/-- The reference's run ends with the four results. -/
theorem result (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = out0 (m ((c.tc : Thread nD τ).loc main_arg0)) (m ((c.tc : Thread nD τ).loc main_arg1))
      ∧ r.2.mem ((c.tc : Thread nD τ).loc main_v15) = out1 (m ((c.tc : Thread nD τ).loc main_arg0)) (m ((c.tc : Thread nD τ).loc main_arg1)) (m ((c.tc : Thread nD τ).loc main_arg2))
      ∧ r.2.mem ((c.tc : Thread nD τ).loc main_v16) = out2 (m ((c.tc : Thread nD τ).loc main_arg0)) (m ((c.tc : Thread nD τ).loc main_arg1)) (m ((c.tc : Thread nD τ).loc main_arg2))
      ∧ r.2.mem ((c.tc : Thread nD τ).loc main_v17) = out3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (eq0 _ _), (h c).2.1.trans (eq1 _ _ _), (h c).2.2.1.trans (eq2 _ _ _),
      (h c).2.2.2.1.trans (eq3 _ _ _), (h c).2.2.2.2⟩)
    (Cert.Reference6Ideal.Value.run (F := Ideal) m ρ)

end Cert.Reference6Ideal.Own

namespace Cert.Kernel6Ideal.Own

open Idealize.ShloMosaic Idealize.ShloMosaic.TcCoe Idealize.SL.Sem Idealize.ShloMosaic.StableHlo
open Cert.Kernel6Ideal Cert.Kernel6Ideal.Gen Cert.Grad
open Cert.Reference6Ideal.Own (gs row wcol out0 out1 out2 out3)

/-- The frame of the program read over the reals. -/
theorem frame_ideal : Cert.quiescent_Kernel6Ideal := fun m ρ _ => Cert.Kernel6Ideal.Gen.frame m ρ

set_option backward.isDefEq.respectTransparency false in
set_option smartUnfolding false in
set_option maxHeartbeats 40000000 in
/-- The frame of the program read over the bits: the two programs' texts are one. -/
theorem frame_kernel : Cert.quiescent_Kernel6 := fun m ρ _ =>
  (θ_run (Cert.Kernel6Ideal.defs (F := Bits)) _ _).mono (fun _ h => h) (Cert.Kernel6Ideal.Gen.frame (F := Bits) m ρ)

/-- The reference's frame. -/
theorem frame_reference : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

/-- Row `p` of tile `t`. -/
def line (t : Fin 16) (p : Fin 512) : Fin 8192 := ⟨t * 512 + p, by omega⟩

section Payloads

variable (x : FVec Ideal S512x1024 .f32) (g : FVec Ideal S1x1024 .f32) (w : FVec Ideal S1024x5888 .bf16)

abbrev tg : Fin 1024 → EReal := fun k => g (ix2 0 k)
abbrev tr (p : Fin 512) : Fin 1024 → EReal := fun k => x (ix2 p k)
abbrev tw (n : Fin 5888) : Fin 1024 → EReal := fun k => w (ix2 k n)

theorem pay1_at (p : Fin 512) (k : Fin 1024) : k0_pay1 (F := Ideal) x g (ix2 p k) = normRow (tr x p) (tg g) k := by
  pointwise [k0_pay1]; rfl

theorem zero2 : (![0, 0] : Fin 2 → Nat) = fun _ => 0 := funext fun a => by fin_cases a <;> rfl

theorem left3 : out0_3 (F := Ideal) x g w = k0_pay1 (F := Ideal) x g := by
  unfold out0_3
  rw [View.canon_unit_zero zero2, View.ld_unit_zero zero2, View.ld_unit_zero zero2]

theorem left4 : out0_4 (F := Ideal) x g w = k0_pay2 (F := Ideal) x g (View.ld w r0_2) := by
  unfold out0_4
  rw [View.canon_unit_zero zero2, View.ld_unit_zero zero2, View.ld_unit_zero zero2]

theorem left5 : out0_5 (F := Ideal) x g w = k0_pay3 (F := Ideal) x g (View.ld w r0_4) := by
  unfold out0_5
  rw [View.canon_unit_zero zero2, View.ld_unit_zero zero2, View.ld_unit_zero zero2]

theorem left6 : out0_6 (F := Ideal) x g w = k0_pay4 (F := Ideal) x g (View.ld w r0_6) := by
  unfold out0_6
  rw [View.canon_unit_zero zero2, View.ld_unit_zero zero2, View.ld_unit_zero zero2]

theorem ld_a (k : Fin 1024) (j : Fin 1280) : View.ld (Val := Elt Ideal) (e' := .bf16) w r0_2 (ix2 k j) = w (ix2 k (colA j)) := by
  refine View.ld_unit_apply_of _ _ _ _ _ _ fun a => ?_
  fin_cases a
  · exact (Nat.zero_add _).symm
  · exact (Nat.zero_add _).symm

theorem ld_b (k : Fin 1024) (j : Fin 2560) : View.ld (Val := Elt Ideal) (e' := .bf16) w r0_4 (ix2 k j) = w (ix2 k (colB j)) := by
  refine View.ld_unit_apply_of _ _ _ _ _ _ fun a => ?_
  fin_cases a
  · exact (Nat.zero_add _).symm
  · rfl

theorem ld_c (k : Fin 1024) (j : Fin 2048) : View.ld (Val := Elt Ideal) (e' := .bf16) w r0_6 (ix2 k j) = w (ix2 k (colC j)) := by
  refine View.ld_unit_apply_of _ _ _ _ _ _ fun a => ?_
  fin_cases a
  · exact (Nat.zero_add _).symm
  · rfl

theorem pay2_at (v : FVec Ideal S1024x1280 .bf16) (p : Fin 512) (j : Fin 1280) :
    k0_pay2 (F := Ideal) x g v (ix2 p j) = projRow (tr x p) (tg g) (fun k => v (ix2 k j)) := by
  pointwise [k0_pay2, pay1_at]; rfl

theorem pay3_at (v : FVec Ideal S1024x2560 .bf16) (p : Fin 512) (j : Fin 2560) :
    k0_pay3 (F := Ideal) x g v (ix2 p j) = projRow (tr x p) (tg g) (fun k => v (ix2 k j)) := by
  pointwise [k0_pay3, pay1_at]; rfl

theorem pay4_at (v : FVec Ideal S1024x2048 .bf16) (p : Fin 512) (j : Fin 2048) :
    k0_pay4 (F := Ideal) x g v (ix2 p j) = projRow (tr x p) (tg g) (fun k => v (ix2 k j)) := by
  pointwise [k0_pay4, pay1_at]; rfl

theorem left4_at (p : Fin 512) (j : Fin 1280) : out0_4 (F := Ideal) x g w (ix2 p j) = projRow (tr x p) (tg g) (tw w (colA j)) := by
  rw [left4, pay2_at]
  exact congrArg _ (funext fun k => ld_a w k j)

theorem left5_at (p : Fin 512) (j : Fin 2560) : out0_5 (F := Ideal) x g w (ix2 p j) = projRow (tr x p) (tg g) (tw w (colB j)) := by
  rw [left5, pay3_at]
  exact congrArg _ (funext fun k => ld_b w k j)

theorem left6_at (p : Fin 512) (j : Fin 2048) : out0_6 (F := Ideal) x g w (ix2 p j) = projRow (tr x p) (tg g) (tw w (colC j)) := by
  rw [left6, pay4_at]
  exact congrArg _ (funext fun k => ld_c w k j)

end Payloads

variable (m : (ℓ : Loc nD τ sig) → Buf (Elt Ideal) ℓ) (c : Dev nD)

/-- What the call takes. -/
def X : FVec Ideal S8192x1024 .f32 := m ((c.tc : Thread nD τ).loc main_arg0)
def G : FVec Ideal S1024 .f32 := m ((c.tc : Thread nD τ).loc main_arg1)
def W : FVec Ideal S1024x5888 .f32 := m ((c.tc : Thread nD τ).loc main_arg2)

theorem V_x : V m c main_arg0 = X m c := by unfold V; after_results; rfl
theorem V_g : V m c main_v0 = broadcastInDim S1x1024 ![1] bcast_S1024_S1x1024_1 (G m c) := by unfold V; after_results; rfl
theorem V_w : V m c main_v1 = truncf .bf16 (W m c) bitsLt_bf16_f32 := by unfold V; after_results; rfl

/-- Every window's block at a tile. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A tile's number. -/
def num (t : Fin cfg0.N) : Fin 16 := ⟨t.val, lt_of_lt_of_eq t.isLt N_0⟩

theorem blk_x (t : Fin cfg0.N) (p : Fin 512) (k : Fin 1024) : iblk m c 0 t (ix2 p k) = X m c (ix2 (line (num t) p) k) := by
  have e : iblk m c 0 t (ix2 p k) = V m c main_arg0 (ix2 (line (num t) p) k) := by
    blk_ext [iblk, line, num, idx t]
  rw [e, V_x]

theorem blk_g (t : Fin cfg0.N) (j : Fin 1024) : iblk m c 1 t (ix2 0 j) = G m c (ix1 j) := by
  have e : iblk m c 1 t (ix2 0 j) = V m c main_v0 (ix2 0 j) := by
    blk_ext [iblk, idx t]
  rw [e, V_g]
  pointwise

theorem blk_w (t : Fin cfg0.N) (k : Fin 1024) (n : Fin 5888) : iblk m c 2 t (ix2 k n) = W m c (ix2 k n) := by
  have e : iblk m c 2 t (ix2 k n) = V m c main_v1 (ix2 k n) := by
    blk_ext [iblk, idx t]
  rw [e, V_w]; rfl

theorem tx_eq (t : Fin cfg0.N) (p : Fin 512) : tr (iblk m c 0 t) p = row (X m c) (line (num t) p) := funext fun k => blk_x m c t p k
theorem tg_eq (t : Fin cfg0.N) : tg (iblk m c 1 t) = gs (G m c) := funext fun j => blk_g m c t j
theorem tw_eq (t : Fin cfg0.N) (n : Fin 5888) : tw (iblk m c 2 t) n = wcol (W m c) n := funext fun k => blk_w m c t k n

/-- The arrays the call leaves. -/
theorem final3 : (dats m 0 c).arrAt 3 cfg0.N = out0 (X m c) (G m c) := by
  refine (dats m 0 c).arrAt_eq_of_covers 3 _ (by decide +kernel) fun t hf y => ?_
  blk_simp
  rw [after0_3, left3]
  obtain ⟨p, j, rfl⟩ : ∃ (p : Fin 512) (j : Fin 1024), y = ix2 p j := ⟨y 0, y 1, by blk_ext⟩
  refine (pay1_at _ _ p j).trans ?_
  rw [tx_eq, tg_eq]
  change out0 (X m c) (G m c) (ix2 (line (num t) p) j) = _
  blk_ext [line, num, idx t]

theorem final4 : (dats m 0 c).arrAt 4 cfg0.N = out1 (X m c) (G m c) (W m c) := by
  refine (dats m 0 c).arrAt_eq_of_covers 4 _ (by decide +kernel) fun t hf y => ?_
  blk_simp
  rw [after0_4]
  obtain ⟨p, j, rfl⟩ : ∃ (p : Fin 512) (j : Fin 1280), y = ix2 p j := ⟨y 0, y 1, by blk_ext⟩
  refine (left4_at _ _ _ p j).trans ?_
  rw [tx_eq, tg_eq, tw_eq]
  change out1 (X m c) (G m c) (W m c) (ix2 (line (num t) p) j) = _
  blk_ext [line, num, idx t]

theorem final5 : (dats m 0 c).arrAt 5 cfg0.N = out2 (X m c) (G m c) (W m c) := by
  refine (dats m 0 c).arrAt_eq_of_covers 5 _ (by decide +kernel) fun t hf y => ?_
  blk_simp
  rw [after0_5]
  obtain ⟨p, j, rfl⟩ : ∃ (p : Fin 512) (j : Fin 2560), y = ix2 p j := ⟨y 0, y 1, by blk_ext⟩
  refine (left5_at _ _ _ p j).trans ?_
  rw [tx_eq, tg_eq, tw_eq]
  change out2 (X m c) (G m c) (W m c) (ix2 (line (num t) p) j) = _
  blk_ext [line, num, idx t]

theorem final6 : (dats m 0 c).arrAt 6 cfg0.N = out3 (X m c) (G m c) (W m c) := by
  refine (dats m 0 c).arrAt_eq_of_covers 6 _ (by decide +kernel) fun t hf y => ?_
  blk_simp
  rw [after0_6]
  obtain ⟨p, j, rfl⟩ : ∃ (p : Fin 512) (j : Fin 2048), y = ix2 p j := ⟨y 0, y 1, by blk_ext⟩
  refine (left6_at _ _ _ p j).trans ?_
  rw [tx_eq, tg_eq, tw_eq]
  change out3 (X m c) (G m c) (W m c) (ix2 (line (num t) p) j) = _
  blk_ext [line, num, idx t]

/-- The kernel and the reference agree. -/
theorem algebraic : Cert.algebraic_Kernel6Ideal_Reference6Ideal := by
  intro m g m' g' _ hag
  refine ⟨fun c => out0 (X m c) (G m c), fun c => out1 (X m c) (G m c) (W m c), fun c => out2 (X m c) (G m c) (W m c),
    fun c => out3 (X m c) (G m c) (W m c), ?_, ?_⟩
  · exact (θ_run defs _ _).mono (fun r h c => ⟨(h c).1.trans (final3 m c), (h c).2.1.trans (final4 m c), (h c).2.2.1.trans (final5 m c),
        (h c).2.2.2.1.trans (final6 m c), (h c).2.2.2.2⟩)
      (Cert.Kernel6Ideal.Value.run_blocks (F := Ideal) m g)
  · refine (θ_run Cert.Reference6Ideal.defs _ _).mono (fun r h c => ?_) (Cert.Reference6Ideal.Own.result m' g')
    obtain ⟨h0, h1, h2⟩ := hag c
    obtain ⟨e0, e1, e2, e3, hk⟩ := h c
    rw [h0, h1] at e0
    rw [h0, h1, h2] at e1 e2 e3
    exact ⟨e0, e1, e2, e3, hk⟩

end Cert.Kernel6Ideal.Own

end
-- ==== Proof.Merge.lean ====
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Scalar
public import Idealize.ShloMosaic.Lib.Pipeline.ValueKit
public import Idealize.ShloMosaic.Lib.Pipeline.ReadBack

/-! The two branches' products, their gates, the output product and the norm that adds it to the residual stream: sixteen
tiles of rows, each on its own. -/

@[expose] public section

set_option maxRecDepth 16384

noncomputable section

namespace Cert.Grad

open Idealize.ShloMosaic

/-- A row of a product. -/
def mulRow {n : ℕ} (a : Fin n → EReal) (w : Fin n → Fin 1024 → EReal) (j : Fin 1024) : EReal := ∑ k, a k * w k j

/-- Each branch's row times its gate, added up. -/
def gateRow (q : Fin 2048 → EReal) (b a : Fin 1024 → EReal) (k : Fin 1024) : EReal :=
  sigK (q ⟨k, by omega⟩) * b k + sigK (q ⟨1024 + k, by omega⟩) * a k

/-- The normed row added to the residual stream. -/
def addRow (u g x : Fin 1024 → EReal) (j : Fin 1024) : EReal := x j + u j * rinv u * g j

end Cert.Grad

namespace Cert.Reference7Ideal.Own

open Idealize.ShloMosaic Idealize.ShloMosaic.TcCoe Idealize.SL.Sem Idealize.ShloMosaic.StableHlo
open Cert.Reference7Ideal Cert.Reference7Ideal.Gen Cert.Reference7Ideal.Value Cert.Grad

variable (y : FVec Ideal S8192x1280 .f32) (o : FVec Ideal S8192x512 .f32) (q : FVec Ideal S8192x2048 .f32)
  (wb : FVec Ideal S1280x1024 .f32) (wa : FVec Ideal S512x1024 .f32) (wo : FVec Ideal S1024x1024 .f32)
  (g : FVec Ideal S1024 .f32) (x : FVec Ideal S8192x1024 .f32)

/-- The reference's arrays, each from the ones before it. -/
def br : FVec Ideal S8192x1024 .f32 := Host.dotGeneral dot_S8192x1280_S1280x1024_S8192x1024_1_0_0_1_n_n none y wb
def ba : FVec Ideal S8192x1024 .f32 := Host.dotGeneral dot_S8192x512_S512x1024_S8192x1024_1_0_0_1_n_n none o wa
def sr : FVec Ideal S8192x1024 .f32 := Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 0] q slices_S8192x2048_S8192x1024_0_0))))
def sa : FVec Ideal S8192x1024 .f32 := Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] q slices_S8192x2048_S8192x1024_0_1024))))
def merged : FVec Ideal S8192x1024 .f32 := addf (mulf (sr q) (br y wb)) (mulf (sa q) (ba o wa))
def mix : FVec Ideal S8192x1024 .f32 := Host.dotGeneral dot_S8192x1024_S1024x1024_S8192x1024_1_0_0_1_n_n none (merged y o q wb wa) wo
def ms (u : FVec Ideal S8192x1024 .f32) : FVec Ideal S8192x1 .f32 :=
  addf (Host.divf (broadcastInDim S8192x1 ![0] bcast_S8192_S8192x1_0 (Host.reduceAdd (mulf u u) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def ri (u : FVec Ideal S8192x1024 .f32) : FVec Ideal S8192x1 .f32 := Host.rsqrt (ms u)
def added (u : FVec Ideal S8192x1024 .f32) : FVec Ideal S8192x1024 .f32 :=
  addf x (mulf (mulf u (broadcastInDim S8192x1024 ![0, 1] bcast_S8192x1_S8192x1024_0_1 (ri u))) (broadcastInDim S8192x1024 ![0, 1] bcast_S1x1024_S8192x1024_0_1 (broadcastInDim S1x1024 ![1] bcast_S1024_S1x1024_1 g)))

/-- Rows of what the reference takes, and of what it makes. -/
abbrev gs : Fin 1024 → EReal := fun k => g (ix1 k)
abbrev row (x : FVec Ideal S8192x1024 .f32) (r : Fin 8192) : Fin 1024 → EReal := fun k => x (ix2 r k)
abbrev qrow (r : Fin 8192) : Fin 2048 → EReal := fun k => q (ix2 r k)
abbrev rb (r : Fin 8192) : Fin 1024 → EReal := mulRow (fun k => y (ix2 r k)) (fun k j => wb (ix2 k j))
abbrev ra (r : Fin 8192) : Fin 1024 → EReal := mulRow (fun k => o (ix2 r k)) (fun k j => wa (ix2 k j))
abbrev rm (r : Fin 8192) : Fin 1024 → EReal := gateRow (qrow q r) (rb y wb r) (ra o wa r)
abbrev rx (r : Fin 8192) : Fin 1024 → EReal := mulRow (rm y o q wb wa r) (fun k j => wo (ix2 k j))

theorem br_at (r : Fin 8192) (j : Fin 1024) : br y wb (ix2 r j) = rb y wb r j := by
  pointwise [br]; rfl

theorem ba_at (r : Fin 8192) (j : Fin 1024) : ba o wa (ix2 r j) = ra o wa r j := by
  pointwise [ba]; rfl

theorem sr_at (r : Fin 8192) (k : Fin 1024) : sr q (ix2 r k) = sigK (qrow q r ⟨k, by omega⟩) := by
  refine Eq.trans ?_ (sig_eq _).symm
  pointwise [sr]; rfl

theorem sa_at (r : Fin 8192) (k : Fin 1024) : sa q (ix2 r k) = sigK (qrow q r ⟨1024 + k, by omega⟩) := by
  refine Eq.trans ?_ (sig_eq _).symm
  pointwise [sa]; rfl

theorem merged_at (r : Fin 8192) (k : Fin 1024) : merged y o q wb wa (ix2 r k) = rm y o q wb wa r k := by
  pointwise [merged, sr_at, sa_at, br_at, ba_at]; rfl

theorem mix_at (r : Fin 8192) (j : Fin 1024) : mix y o q wb wa wo (ix2 r j) = rx y o q wb wa wo r j := by
  pointwise [mix, merged_at]; rfl

theorem row_mix (r : Fin 8192) : (fun k => mix y o q wb wa wo (ix2 r k)) = rx y o q wb wa wo r :=
  funext fun j => mix_at y o q wb wa wo r j

theorem ms_at (u : FVec Ideal S8192x1024 .f32) (r : Fin 8192) : ms u (ix2 r 0) = meanSq (fun k => u (ix2 r k)) := by
  pointwise [ms]; rfl

theorem ri_at (u : FVec Ideal S8192x1024 .f32) (r : Fin 8192) : ri u (ix2 r 0) = rinv (fun k => u (ix2 r k)) := by
  change Ideal.rsqrt (ms u (ix2 r 0)) = _
  rw [ms_at]; rfl

theorem added_at (u : FVec Ideal S8192x1024 .f32) (r : Fin 8192) (j : Fin 1024) :
    added g x u (ix2 r j) = addRow (fun k => u (ix2 r k)) (gs g) (row x r) j := by
  pointwise [added, ri_at]; rfl

/-- The five results. -/
def out0 : FVec Ideal S8192x1024 .bf16 := fun i => rm y o q wb wa (i 0) (i 1)
def out1 : FVec Ideal S8192x1024 .f32 := fun i => rb y wb (i 0) (i 1)
def out2 : FVec Ideal S8192x1024 .f32 := fun i => ra o wa (i 0) (i 1)
def out3 : FVec Ideal S8192x1024 .f32 := fun i => rx y o q wb wa wo (i 0) (i 1)
def out4 : FVec Ideal S8192x1024 .f32 := fun i => addRow (rx y o q wb wa wo (i 0)) (gs g) (row x (i 0)) (i 1)

theorem eq0 : truncf .bf16 (merged y o q wb wa) bitsLt_bf16_f32 = out0 y o q wb wa := by
  funext i
  obtain ⟨r, j, rfl⟩ : ∃ (r : Fin 8192) (j : Fin 1024), i = ix2 r j := ⟨i 0, i 1, by blk_ext⟩
  exact merged_at y o q wb wa r j

theorem eq1 : br y wb = out1 y wb := by
  funext i
  obtain ⟨r, j, rfl⟩ : ∃ (r : Fin 8192) (j : Fin 1024), i = ix2 r j := ⟨i 0, i 1, by blk_ext⟩
  exact br_at y wb r j

theorem eq2 : ba o wa = out2 o wa := by
  funext i
  obtain ⟨r, j, rfl⟩ : ∃ (r : Fin 8192) (j : Fin 1024), i = ix2 r j := ⟨i 0, i 1, by blk_ext⟩
  exact ba_at o wa r j

theorem eq3 : mix y o q wb wa wo = out3 y o q wb wa wo := by
  funext i
  obtain ⟨r, j, rfl⟩ : ∃ (r : Fin 8192) (j : Fin 1024), i = ix2 r j := ⟨i 0, i 1, by blk_ext⟩
  exact mix_at y o q wb wa wo r j

theorem eq4 : added g x (mix y o q wb wa wo) = out4 y o q wb wa wo g x := by
  funext i
  obtain ⟨r, j, rfl⟩ : ∃ (r : Fin 8192) (j : Fin 1024), i = ix2 r j := ⟨i 0, i 1, by blk_ext⟩
  rw [added_at, row_mix]; rfl

variable (m : (ℓ : Loc nD τ sig) → Buf (Elt Ideal) ℓ) (c : Dev nD)

/-- What the call takes. -/
def Y : FVec Ideal S8192x1280 .f32 := m ((c.tc : Thread nD τ).loc main_arg0)
def O : FVec Ideal S8192x512 .f32 := m ((c.tc : Thread nD τ).loc main_arg1)
def Q : FVec Ideal S8192x2048 .f32 := m ((c.tc : Thread nD τ).loc main_arg2)
def Wb : FVec Ideal S1280x1024 .f32 := m ((c.tc : Thread nD τ).loc main_arg3)
def Wa : FVec Ideal S512x1024 .f32 := m ((c.tc : Thread nD τ).loc main_arg4)
def Wo : FVec Ideal S1024x1024 .f32 := m ((c.tc : Thread nD τ).loc main_arg5)
def G : FVec Ideal S1024 .f32 := m ((c.tc : Thread nD τ).loc main_arg6)
def X : FVec Ideal S8192x1024 .f32 := m ((c.tc : Thread nD τ).loc main_arg7)

set_option maxHeartbeats 4000000 in
/-- The reference's run ends with the five results. -/
theorem result (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = out0 (Y m c) (O m c) (Q m c) (Wb m c) (Wa m c)
      ∧ r.2.mem ((c.tc : Thread nD τ).loc main_v0) = out1 (Y m c) (Wb m c)
      ∧ r.2.mem ((c.tc : Thread nD τ).loc main_v1) = out2 (O m c) (Wa m c)
      ∧ r.2.mem ((c.tc : Thread nD τ).loc main_v19) = out3 (Y m c) (O m c) (Q m c) (Wb m c) (Wa m c) (Wo m c)
      ∧ r.2.mem ((c.tc : Thread nD τ).loc main_v34) = out4 (Y m c) (O m c) (Q m c) (Wb m c) (Wa m c) (Wo m c) (G m c) (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (eq0 (Y m c) (O m c) (Q m c) (Wb m c) (Wa m c)), (h c).2.1.trans (eq1 (Y m c) (Wb m c)),
      (h c).2.2.1.trans (eq2 (O m c) (Wa m c)), (h c).2.2.2.1.trans (eq3 (Y m c) (O m c) (Q m c) (Wb m c) (Wa m c) (Wo m c)),
      (h c).2.2.2.2.1.trans (eq4 (Y m c) (O m c) (Q m c) (Wb m c) (Wa m c) (Wo m c) (G m c) (X m c)), (h c).2.2.2.2.2⟩)
    (Cert.Reference7Ideal.Value.run (F := Ideal) m ρ)

end Cert.Reference7Ideal.Own

namespace Cert.Kernel7Ideal.Own

open Idealize.ShloMosaic Idealize.ShloMosaic.TcCoe Idealize.SL.Sem Idealize.ShloMosaic.StableHlo
open Cert.Kernel7Ideal Cert.Kernel7Ideal.Gen Cert.Grad
open Cert.Reference7Ideal.Own (gs row qrow rb ra rm rx out0 out1 out2 out3 out4)

/-- The frame of the program read over the reals. -/
theorem frame_ideal : Cert.quiescent_Kernel7Ideal := fun m ρ _ => Cert.Kernel7Ideal.Gen.frame m ρ

set_option backward.isDefEq.respectTransparency false in
set_option smartUnfolding false in
set_option maxHeartbeats 40000000 in
/-- The frame of the program read over the bits: the two programs' texts are one. -/
theorem frame_kernel : Cert.quiescent_Kernel7 := fun m ρ _ =>
  (θ_run (Cert.Kernel7Ideal.defs (F := Bits)) _ _).mono (fun _ h => h) (Cert.Kernel7Ideal.Gen.frame (F := Bits) m ρ)

/-- The reference's frame. -/
theorem frame_reference : Cert.quiescent_Reference7Ideal := fun m ρ _ =>
  (θ_run Cert.Reference7Ideal.defs _ _).mono (fun r h => ⟨fun c => (h c).2.2.2.2.2,
      Idealize.ShloMosaic.sem_eq_zero_of_no_sems (by decide) r.2⟩)
    (Cert.Reference7Ideal.Value.run (F := Ideal) m ρ)

/-- Row `p` of tile `t`. -/
def line (t : Fin 16) (p : Fin 512) : Fin 8192 := ⟨t * 512 + p, by omega⟩

section Payloads

variable (y : FVec Ideal S512x1280 .f32) (o : FVec Ideal S512x512 .f32) (q : FVec Ideal S512x2048 .f32)
  (wb : FVec Ideal S1280x1024 .bf16) (wa : FVec Ideal S512x1024 .bf16) (wo : FVec Ideal S1024x1024 .bf16)
  (g : FVec Ideal S1x1024 .f32) (x : FVec Ideal S512x1024 .f32)

/-- Rows of a tile. -/
abbrev tg : Fin 1024 → EReal := fun k => g (ix2 0 k)
abbrev tx (p : Fin 512) : Fin 1024 → EReal := fun k => x (ix2 p k)
abbrev tq (p : Fin 512) : Fin 2048 → EReal := fun k => q (ix2 p k)
abbrev tb (p : Fin 512) : Fin 1024 → EReal := mulRow (fun k => y (ix2 p k)) (fun k j => wb (ix2 k j))
abbrev ta (p : Fin 512) : Fin 1024 → EReal := mulRow (fun k => o (ix2 p k)) (fun k j => wa (ix2 k j))
abbrev tm (p : Fin 512) : Fin 1024 → EReal := gateRow (tq q p) (tb y wb p) (ta o wa p)
abbrev tu (p : Fin 512) : Fin 1024 → EReal := mulRow (tm y o q wb wa p) (fun k j => wo (ix2 k j))

theorem pay3_at (p : Fin 512) (j : Fin 1024) : k0_pay3 (F := Ideal) y wb (ix2 p j) = tb y wb p j := by
  pointwise [k0_pay3]; rfl

theorem pay4_at (p : Fin 512) (j : Fin 1024) : k0_pay4 (F := Ideal) o wa (ix2 p j) = ta o wa p j := by
  pointwise [k0_pay4]; rfl

theorem pay5_at (p : Fin 512) (k : Fin 1024) : k0_pay5 (F := Ideal) y wb o wa q (ix2 p k) = tm y o q wb wa p k := by
  pointwise [k0_pay5, pay3_at, pay4_at]; rfl

theorem pay1_at (v : FVec Ideal S512x1024 .bf16) (p : Fin 512) (j : Fin 1024) :
    k0_pay1 (F := Ideal) v wo (ix2 p j) = mulRow (fun k => v (ix2 p k)) (fun k j => wo (ix2 k j)) j := by
  pointwise [k0_pay1]; rfl

theorem pay1_row (p : Fin 512) : (fun j => k0_pay1 (F := Ideal) (k0_pay5 (F := Ideal) y wb o wa q) wo (ix2 p j)) = tu y o q wb wa wo p := by
  funext j
  have e : (fun k => k0_pay5 (F := Ideal) y wb o wa q (ix2 p k)) = tm y o q wb wa p := funext fun k => pay5_at y o q wb wa p k
  rw [pay1_at, e]

theorem pay2_at (v : FVec Ideal S512x1024 .bf16) (p : Fin 512) (j : Fin 1024) : k0_pay2 (F := Ideal) v wo x g (ix2 p j)
    = addRow (fun k => k0_pay1 (F := Ideal) v wo (ix2 p k)) (tg g) (tx x p) j := by
  pointwise [k0_pay2]; rfl

theorem zero2 : (![0, 0] : Fin 2 → Nat) = fun _ => 0 := funext fun a => by fin_cases a <;> rfl

theorem left8 : out0_8 (F := Ideal) y o q wb wa wo g x = k0_pay5 (F := Ideal) y wb o wa q := by
  unfold out0_8
  rw [View.canon_unit_zero zero2]
  repeat rw [View.ld_unit_zero zero2]

theorem left9 : out0_9 (F := Ideal) y o q wb wa wo g x = k0_pay3 (F := Ideal) y wb := by
  unfold out0_9
  rw [View.canon_unit_zero zero2]
  repeat rw [View.ld_unit_zero zero2]

theorem left10 : out0_10 (F := Ideal) y o q wb wa wo g x = k0_pay4 (F := Ideal) o wa := by
  unfold out0_10
  rw [View.canon_unit_zero zero2]
  repeat rw [View.ld_unit_zero zero2]

theorem left11 : out0_11 (F := Ideal) y o q wb wa wo g x = k0_pay1 (F := Ideal) (k0_pay5 (F := Ideal) y wb o wa q) wo := by
  unfold out0_11 k0_pay6
  rw [View.canon_unit_zero zero2]
  repeat rw [View.ld_unit_zero zero2]

theorem left12 : out0_12 (F := Ideal) y o q wb wa wo g x = k0_pay2 (F := Ideal) (k0_pay5 (F := Ideal) y wb o wa q) wo x g := by
  unfold out0_12 k0_pay6
  rw [View.canon_unit_zero zero2]
  repeat rw [View.ld_unit_zero zero2]

theorem left11_at (p : Fin 512) (j : Fin 1024) : out0_11 (F := Ideal) y o q wb wa wo g x (ix2 p j) = tu y o q wb wa wo p j := by
  rw [left11]
  exact congrFun (pay1_row y o q wb wa wo p) j

theorem left12_at (p : Fin 512) (j : Fin 1024) : out0_12 (F := Ideal) y o q wb wa wo g x (ix2 p j)
    = addRow (tu y o q wb wa wo p) (tg g) (tx x p) j := by
  rw [left12, pay2_at, pay1_row]

end Payloads

variable (m : (ℓ : Loc nD τ sig) → Buf (Elt Ideal) ℓ) (c : Dev nD)

/-- What the call takes. -/
def Y : FVec Ideal S8192x1280 .f32 := m ((c.tc : Thread nD τ).loc main_arg0)
def O : FVec Ideal S8192x512 .f32 := m ((c.tc : Thread nD τ).loc main_arg1)
def Q : FVec Ideal S8192x2048 .f32 := m ((c.tc : Thread nD τ).loc main_arg2)
def Wb : FVec Ideal S1280x1024 .f32 := m ((c.tc : Thread nD τ).loc main_arg3)
def Wa : FVec Ideal S512x1024 .f32 := m ((c.tc : Thread nD τ).loc main_arg4)
def Wo : FVec Ideal S1024x1024 .f32 := m ((c.tc : Thread nD τ).loc main_arg5)
def G : FVec Ideal S1024 .f32 := m ((c.tc : Thread nD τ).loc main_arg6)
def X : FVec Ideal S8192x1024 .f32 := m ((c.tc : Thread nD τ).loc main_arg7)

theorem V_y : V m c main_arg0 = Y m c := by unfold V; after_results; rfl
theorem V_o : V m c main_arg1 = O m c := by unfold V; after_results; rfl
theorem V_q : V m c main_arg2 = Q m c := by unfold V; after_results; rfl
theorem V_wb : V m c main_v0 = truncf .bf16 (Wb m c) bitsLt_bf16_f32 := by unfold V; after_results; rfl
theorem V_wa : V m c main_v1 = truncf .bf16 (Wa m c) bitsLt_bf16_f32 := by unfold V; after_results; rfl
theorem V_wo : V m c main_v2 = truncf .bf16 (Wo m c) bitsLt_bf16_f32 := by unfold V; after_results; rfl
theorem V_g : V m c main_v3 = broadcastInDim S1x1024 ![1] bcast_S1024_S1x1024_1 (G m c) := by unfold V; after_results; rfl
theorem V_x : V m c main_arg7 = X m c := by unfold V; after_results; rfl

/-- Every window's block at a tile. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- A tile's number. -/
def num (t : Fin cfg0.N) : Fin 16 := ⟨t.val, lt_of_lt_of_eq t.isLt N_0⟩

theorem blk_y (t : Fin cfg0.N) (p : Fin 512) (k : Fin 1280) : iblk m c 0 t (ix2 p k) = Y m c (ix2 (line (num t) p) k) := by
  have e : iblk m c 0 t (ix2 p k) = V m c main_arg0 (ix2 (line (num t) p) k) := by
    blk_ext [iblk, line, num, idx t]
  rw [e, V_y]

theorem blk_o (t : Fin cfg0.N) (p : Fin 512) (k : Fin 512) : iblk m c 1 t (ix2 p k) = O m c (ix2 (line (num t) p) k) := by
  have e : iblk m c 1 t (ix2 p k) = V m c main_arg1 (ix2 (line (num t) p) k) := by
    blk_ext [iblk, line, num, idx t]
  rw [e, V_o]

theorem blk_q (t : Fin cfg0.N) (p : Fin 512) (k : Fin 2048) : iblk m c 2 t (ix2 p k) = Q m c (ix2 (line (num t) p) k) := by
  have e : iblk m c 2 t (ix2 p k) = V m c main_arg2 (ix2 (line (num t) p) k) := by
    blk_ext [iblk, line, num, idx t]
  rw [e, V_q]

theorem blk_wb (t : Fin cfg0.N) (k : Fin 1280) (j : Fin 1024) : iblk m c 3 t (ix2 k j) = Wb m c (ix2 k j) := by
  have e : iblk m c 3 t (ix2 k j) = V m c main_v0 (ix2 k j) := by
    blk_ext [iblk, idx t]
  rw [e, V_wb]; rfl

theorem blk_wa (t : Fin cfg0.N) (k : Fin 512) (j : Fin 1024) : iblk m c 4 t (ix2 k j) = Wa m c (ix2 k j) := by
  have e : iblk m c 4 t (ix2 k j) = V m c main_v1 (ix2 k j) := by
    blk_ext [iblk, idx t]
  rw [e, V_wa]; rfl

theorem blk_wo (t : Fin cfg0.N) (k : Fin 1024) (j : Fin 1024) : iblk m c 5 t (ix2 k j) = Wo m c (ix2 k j) := by
  have e : iblk m c 5 t (ix2 k j) = V m c main_v2 (ix2 k j) := by
    blk_ext [iblk, idx t]
  rw [e, V_wo]; rfl

theorem blk_g (t : Fin cfg0.N) (j : Fin 1024) : iblk m c 6 t (ix2 0 j) = G m c (ix1 j) := by
  have e : iblk m c 6 t (ix2 0 j) = V m c main_v3 (ix2 0 j) := by
    blk_ext [iblk, idx t]
  rw [e, V_g]
  pointwise

theorem blk_x (t : Fin cfg0.N) (p : Fin 512) (k : Fin 1024) : iblk m c 7 t (ix2 p k) = X m c (ix2 (line (num t) p) k) := by
  have e : iblk m c 7 t (ix2 p k) = V m c main_arg7 (ix2 (line (num t) p) k) := by
    blk_ext [iblk, line, num, idx t]
  rw [e, V_x]

/-- A tile's rows are the arrays' rows. -/
theorem tg_eq (t : Fin cfg0.N) : tg (iblk m c 6 t) = gs (G m c) := funext fun j => blk_g m c t j
theorem tx_eq (t : Fin cfg0.N) (p : Fin 512) : tx (iblk m c 7 t) p = row (X m c) (line (num t) p) := funext fun k => blk_x m c t p k
theorem tq_eq (t : Fin cfg0.N) (p : Fin 512) : tq (iblk m c 2 t) p = qrow (Q m c) (line (num t) p) := funext fun k => blk_q m c t p k

theorem tb_eq (t : Fin cfg0.N) (p : Fin 512) : tb (iblk m c 0 t) (iblk m c 3 t) p = rb (Y m c) (Wb m c) (line (num t) p) := by
  have ea : (fun k => iblk m c 0 t (ix2 p k)) = fun k => Y m c (ix2 (line (num t) p) k) := funext fun k => blk_y m c t p k
  have ew : (fun k j => iblk m c 3 t (ix2 k j)) = fun k j => Wb m c (ix2 k j) := funext fun k => funext fun j => blk_wb m c t k j
  exact congrArg₂ mulRow ea ew

theorem ta_eq (t : Fin cfg0.N) (p : Fin 512) : ta (iblk m c 1 t) (iblk m c 4 t) p = ra (O m c) (Wa m c) (line (num t) p) := by
  have ea : (fun k => iblk m c 1 t (ix2 p k)) = fun k => O m c (ix2 (line (num t) p) k) := funext fun k => blk_o m c t p k
  have ew : (fun k j => iblk m c 4 t (ix2 k j)) = fun k j => Wa m c (ix2 k j) := funext fun k => funext fun j => blk_wa m c t k j
  exact congrArg₂ mulRow ea ew

theorem tm_eq (t : Fin cfg0.N) (p : Fin 512) : tm (iblk m c 0 t) (iblk m c 1 t) (iblk m c 2 t) (iblk m c 3 t) (iblk m c 4 t) p
    = rm (Y m c) (O m c) (Q m c) (Wb m c) (Wa m c) (line (num t) p) := by
  change gateRow _ (tb _ _ p) (ta _ _ p) = gateRow _ _ _
  rw [tb_eq, ta_eq]
  exact congrArg (gateRow · _ _) (tq_eq m c t p)

theorem tu_eq (t : Fin cfg0.N) (p : Fin 512) :
    tu (iblk m c 0 t) (iblk m c 1 t) (iblk m c 2 t) (iblk m c 3 t) (iblk m c 4 t) (iblk m c 5 t) p
    = rx (Y m c) (O m c) (Q m c) (Wb m c) (Wa m c) (Wo m c) (line (num t) p) := by
  have ew : (fun k j => iblk m c 5 t (ix2 k j)) = fun k j => Wo m c (ix2 k j) := funext fun k => funext fun j => blk_wo m c t k j
  exact congrArg₂ mulRow (tm_eq m c t p) ew

/-- The arrays the call leaves. -/
theorem final8 : (dats m 0 c).arrAt 8 cfg0.N = out0 (Y m c) (O m c) (Q m c) (Wb m c) (Wa m c) := by
  refine (dats m 0 c).arrAt_eq_of_covers 8 _ (by decide +kernel) fun t hf y => ?_
  blk_simp
  rw [after0_8, left8]
  obtain ⟨p, j, rfl⟩ : ∃ (p : Fin 512) (j : Fin 1024), y = ix2 p j := ⟨y 0, y 1, by blk_ext⟩
  refine ((pay5_at _ _ _ _ _ p j).trans (congrFun (tm_eq m c t p) j)).trans ?_
  change out0 (Y m c) (O m c) (Q m c) (Wb m c) (Wa m c) (ix2 (line (num t) p) j) = _
  blk_ext [line, num, idx t]

theorem final9 : (dats m 0 c).arrAt 9 cfg0.N = out1 (Y m c) (Wb m c) := by
  refine (dats m 0 c).arrAt_eq_of_covers 9 _ (by decide +kernel) fun t hf y => ?_
  blk_simp
  rw [after0_9, left9]
  obtain ⟨p, j, rfl⟩ : ∃ (p : Fin 512) (j : Fin 1024), y = ix2 p j := ⟨y 0, y 1, by blk_ext⟩
  refine ((pay3_at _ _ p j).trans (congrFun (tb_eq m c t p) j)).trans ?_
  change out1 (Y m c) (Wb m c) (ix2 (line (num t) p) j) = _
  blk_ext [line, num, idx t]

theorem final10 : (dats m 0 c).arrAt 10 cfg0.N = out2 (O m c) (Wa m c) := by
  refine (dats m 0 c).arrAt_eq_of_covers 10 _ (by decide +kernel) fun t hf y => ?_
  blk_simp
  rw [after0_10, left10]
  obtain ⟨p, j, rfl⟩ : ∃ (p : Fin 512) (j : Fin 1024), y = ix2 p j := ⟨y 0, y 1, by blk_ext⟩
  refine ((pay4_at _ _ p j).trans (congrFun (ta_eq m c t p) j)).trans ?_
  change out2 (O m c) (Wa m c) (ix2 (line (num t) p) j) = _
  blk_ext [line, num, idx t]

theorem final11 : (dats m 0 c).arrAt 11 cfg0.N = out3 (Y m c) (O m c) (Q m c) (Wb m c) (Wa m c) (Wo m c) := by
  refine (dats m 0 c).arrAt_eq_of_covers 11 _ (by decide +kernel) fun t hf y => ?_
  blk_simp
  rw [after0_11]
  obtain ⟨p, j, rfl⟩ : ∃ (p : Fin 512) (j : Fin 1024), y = ix2 p j := ⟨y 0, y 1, by blk_ext⟩
  refine ((left11_at _ _ _ _ _ _ _ _ p j).trans (congrFun (tu_eq m c t p) j)).trans ?_
  change out3 (Y m c) (O m c) (Q m c) (Wb m c) (Wa m c) (Wo m c) (ix2 (line (num t) p) j) = _
  blk_ext [line, num, idx t]

theorem final12 : (dats m 0 c).arrAt 12 cfg0.N = out4 (Y m c) (O m c) (Q m c) (Wb m c) (Wa m c) (Wo m c) (G m c) (X m c) := by
  refine (dats m 0 c).arrAt_eq_of_covers 12 _ (by decide +kernel) fun t hf y => ?_
  blk_simp
  rw [after0_12]
  obtain ⟨p, j, rfl⟩ : ∃ (p : Fin 512) (j : Fin 1024), y = ix2 p j := ⟨y 0, y 1, by blk_ext⟩
  refine (left12_at _ _ _ _ _ _ _ _ p j).trans ?_
  rw [tu_eq, tg_eq, tx_eq]
  change out4 (Y m c) (O m c) (Q m c) (Wb m c) (Wa m c) (Wo m c) (G m c) (X m c) (ix2 (line (num t) p) j) = _
  blk_ext [line, num, idx t]

/-- The kernel and the reference agree. -/
theorem algebraic : Cert.algebraic_Kernel7Ideal_Reference7Ideal := by
  intro m g m' g' _ hag
  refine ⟨fun c => out0 (Y m c) (O m c) (Q m c) (Wb m c) (Wa m c), fun c => out1 (Y m c) (Wb m c), fun c => out2 (O m c) (Wa m c),
    fun c => out3 (Y m c) (O m c) (Q m c) (Wb m c) (Wa m c) (Wo m c),
    fun c => out4 (Y m c) (O m c) (Q m c) (Wb m c) (Wa m c) (Wo m c) (G m c) (X m c), ?_, ?_⟩
  · exact (θ_run defs _ _).mono (fun r h c => ⟨(h c).1.trans (final8 m c), (h c).2.1.trans (final9 m c), (h c).2.2.1.trans (final10 m c),
        (h c).2.2.2.1.trans (final11 m c), (h c).2.2.2.2.1.trans (final12 m c), (h c).2.2.2.2.2⟩)
      (Cert.Kernel7Ideal.Value.run_blocks (F := Ideal) m g)
  · refine (θ_run Cert.Reference7Ideal.defs _ _).mono (fun r h c => ?_) (Cert.Reference7Ideal.Own.result m' g')
    obtain ⟨h0, h1, h2, h3, h4, h5, h6, h7⟩ := hag c
    have a0 : Cert.Reference7Ideal.Own.Y m' c = Y m c := h0
    have a1 : Cert.Reference7Ideal.Own.O m' c = O m c := h1
    have a2 : Cert.Reference7Ideal.Own.Q m' c = Q m c := h2
    have a3 : Cert.Reference7Ideal.Own.Wb m' c = Wb m c := h3
    have a4 : Cert.Reference7Ideal.Own.Wa m' c = Wa m c := h4
    have a5 : Cert.Reference7Ideal.Own.Wo m' c = Wo m c := h5
    have a6 : Cert.Reference7Ideal.Own.G m' c = G m c := h6
    have a7 : Cert.Reference7Ideal.Own.X m' c = X m c := h7
    have e := h c
    rw [a0, a1, a2, a3, a4, a5, a6, a7] at e
    exact e

end Cert.Kernel7Ideal.Own

end
-- ==== Proof.FfnRef.lean ====
module

public import proofs.«01_k».proof.Defs
public import proofs.«01_k».proof.Proof.Gen.Reference8Ideal.Run
public import proofs.«01_k».proof.Proof.InProj
public import Idealize.ShloMosaic.Lib.KernelVsHost
public import Idealize.ShloMosaic.Lib.Pipeline.ValueKit

/-! The feed-forward block's first layer as the reference writes it: a norm, two products, a convolution along each
sequence over a row and the two before it, and a gate. -/

@[expose] public section

set_option maxRecDepth 16384

noncomputable section

namespace Cert.Grad

open Idealize.ShloMosaic

/-- The gate's function, the tanh form of a Gaussian's. -/
def gelu (z : EReal) : EReal :=
  z * (Ideal.ofBits .f32 0x3F000000#32 * (1
    + Ideal.tanh (Ideal.ofBits .f32 0x3F4C422A#32 * (z + Ideal.ofBits .f32 0x3D372713#32 * (z * z * z)))))

/-- Three weights over a value and the two before it, plus a bias. -/
def conv (w : Fin 3 → EReal) (b a0 a1 a2 : EReal) : EReal := w 0 * a2 + w 1 * a1 + w 2 * a0 + b

/-- The value `d` rows before row `r` of the same sequence, zero before its start. -/
def back (f : Fin 8192 → EReal) (r : Fin 8192) (d : ℕ) : EReal :=
  if d ≤ r.val % 2048 then f ⟨r - d, by omega⟩ else 0

/-- The gate of a column at a row. -/
def gateOf (w : Fin 3 → EReal) (b : EReal) (f : Fin 8192 → EReal) (r : Fin 8192) : EReal :=
  conv w b (f r) (back f r 1) (back f r 2)

end Cert.Grad

namespace Cert.Reference8Ideal.Own

open Idealize.ShloMosaic Idealize.ShloMosaic.TcCoe Idealize.SL.Sem Idealize.ShloMosaic.StableHlo
open Cert.Reference8Ideal Cert.Reference8Ideal.Gen Cert.Reference8Ideal.Value Cert.Grad

variable (x : FVec Ideal S8192x1024 .f32) (g : FVec Ideal S1024 .f32) (wg wu w : FVec Ideal S1024x3072 .f32)
  (cw : FVec Ideal S3x3072 .f32) (cb : FVec Ideal S3072 .f32) (u z : FVec Ideal S8192x3072 .f32)

/-- The reference's arrays, each from the ones before it. -/
def ms : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def ri : FVec Ideal S8192x1 .f32 := Host.rsqrt (ms x)
def hn : FVec Ideal S8192x1024 .f32 :=
  mulf (mulf x (broadcastInDim S8192x1024 ![0, 1] bcast_S8192x1_S8192x1024_0_1 (ri x))) (broadcastInDim S8192x1024 ![0, 1] bcast_S1x1024_S8192x1024_0_1 (broadcastInDim S1x1024 ![1] bcast_S1024_S1x1024_1 g))
def prod : FVec Ideal S8192x3072 .f32 := Host.dotGeneral dot_S8192x1024_S1024x3072_S8192x3072_1_0_0_1_n_n none (hn x g) w
def pd : FVec Ideal S4x2050x3072 .f32 :=
  pad S4x2050x3072 ![0, 2, 0] ![0, 0, 0] ![0, 0, 0] (shapeCast S4x2048x3072 u shapeCasts_S8192x3072_S4x2048x3072) (sitofp .f32 (constantI S_ 32 0#32)) pads_S4x2048x3072_S4x2050x3072_000_200_000 h_S_
def conv4 (q : FVec Ideal S4x2050x3072 .f32) : FVec Ideal S4x2048x3072 .f32 :=
  addf (addf (addf (mulf (broadcastInDim S4x2048x3072 ![0, 1, 2] bcast_S1x1x3072_S4x2048x3072_0_1_2 (broadcastInDim S1x1x3072 ![2] bcast_S3072_S1x1x3072_2 (shapeCast _ (extractStridedSlice S1x3072 ![0, 0] cw slices_S3x3072_S1x3072_0_0) shapeCasts_S1x3072_S3072))) (extractStridedSlice S4x2048x3072 ![0, 0, 0] q slices_S4x2050x3072_S4x2048x3072_0_0_0))
    (mulf (broadcastInDim S4x2048x3072 ![0, 1, 2] bcast_S1x1x3072_S4x2048x3072_0_1_2 (broadcastInDim S1x1x3072 ![2] bcast_S3072_S1x1x3072_2 (shapeCast _ (extractStridedSlice S1x3072 ![1, 0] cw slices_S3x3072_S1x3072_1_0) shapeCasts_S1x3072_S3072))) (extractStridedSlice S4x2048x3072 ![0, 1, 0] q slices_S4x2050x3072_S4x2048x3072_0_1_0)))
    (mulf (broadcastInDim S4x2048x3072 ![0, 1, 2] bcast_S1x1x3072_S4x2048x3072_0_1_2 (broadcastInDim S1x1x3072 ![2] bcast_S3072_S1x1x3072_2 (shapeCast _ (extractStridedSlice S1x3072 ![2, 0] cw slices_S3x3072_S1x3072_2_0) shapeCasts_S1x3072_S3072))) (extractStridedSlice S4x2048x3072 ![0, 2, 0] q slices_S4x2050x3072_S4x2048x3072_0_2_0)))
    (broadcastInDim S4x2048x3072 ![0, 1, 2] bcast_S1x1x3072_S4x2048x3072_0_1_2 (broadcastInDim S1x1x3072 ![2] bcast_S3072_S1x1x3072_2 cb))
def gate : FVec Ideal S8192x3072 .f32 := shapeCast S8192x3072 (conv4 cw cb (pd u)) shapeCasts_S4x2048x3072_S8192x3072
def gl : FVec Ideal S8192x3072 .f32 :=
  mulf z (mulf (broadcastInDim S8192x3072 ![] bcast_S_S8192x3072 (constant S_ .f32 0x3F000000#32)) (addf (broadcastInDim S8192x3072 ![] bcast_S_S8192x3072 (constant S_ .f32 0x3F800000#32)) (Host.tanh (mulf (broadcastInDim S8192x3072 ![] bcast_S_S8192x3072 (constant S_ .f32 0x3F4C422A#32)) (addf z (mulf (broadcastInDim S8192x3072 ![] bcast_S_S8192x3072 (constant S_ .f32 0x3D372713#32)) (mulf (mulf z z) z)))))))

abbrev gs : Fin 1024 → EReal := fun k => g (ix1 k)
abbrev row (r : Fin 8192) : Fin 1024 → EReal := fun k => x (ix2 r k)
abbrev wcol (j : Fin 3072) : Fin 1024 → EReal := fun k => w (ix2 k j)
abbrev taps (j : Fin 3072) : Fin 3 → EReal := fun k => cw (ix2 k j)
/-- A column of a product. -/
abbrev pcol (j : Fin 3072) : Fin 8192 → EReal := fun r => projRow (row x r) (gs g) (wcol w j)

theorem ms_at (r : Fin 8192) : ms x (ix2 r 0) = meanSq (row x r) := by
  pointwise [ms]; rfl

theorem ri_at (r : Fin 8192) : ri x (ix2 r 0) = rinv (row x r) := by
  change Ideal.rsqrt (ms x (ix2 r 0)) = _
  rw [ms_at]; rfl

theorem hn_at (r : Fin 8192) (k : Fin 1024) : hn x g (ix2 r k) = normRow (row x r) (gs g) k := by
  pointwise [hn, ri_at]; rfl

theorem prod_at (r : Fin 8192) (j : Fin 3072) : prod x g w (ix2 r j) = pcol x g w j r := by
  pointwise [prod, hn_at]; rfl

/-- Row `i` of sequence `s`. -/
def line4 (s : Fin 4) (i : Fin 2048) : Fin 8192 := ⟨s * 2048 + i, by omega⟩

theorem pd_in (s : Fin 4) (i : Fin 2048) (j : Fin 3072) : pd u (ix3 s ⟨i + 2, by omega⟩ j) = u (ix2 (line4 s i) j) := by
  unfold pd
  refine (pad_apply_of_inside _ _ _ _ _ _ _ _ (ix3 s i j) fun a => ?_).trans (shapeCast_apply _ _ _ (ix2 (line4 s i) j) ?_)
  · fin_cases a
    · show s.val = 0 + s.val * (0 + 1); omega
    · show i.val + 2 = 2 + i.val * (0 + 1); omega
    · show j.val = 0 + j.val * (0 + 1); omega
  · rw [Shape.rowMajor_val_two, Shape.rowMajor_val_three]
    rfl

theorem pd_out (s : Fin 4) (i : Fin 2050) (hi : i.val < 2) (j : Fin 3072) : pd u (ix3 s i j) = (0 : EReal) := by
  unfold pd
  refine (pad_apply_of_not_inside _ _ _ _ _ _ _ _ (1 : Fin 3) fun h => ?_).trans ?_
  · have h1 : 2 ≤ i.val := h.1
    omega
  · show ((((0#32 : BitVec 32).toInt : ℤ) : ℝ) : EReal) = 0
    simp

theorem conv4_at (q : FVec Ideal S4x2050x3072 .f32) (s : Fin 4) (i : Fin 2048) (j : Fin 3072) : conv4 cw cb q (ix3 s i j)
    = conv (taps cw j) (cb (ix1 j)) (q (ix3 s ⟨2 + i, by omega⟩ j)) (q (ix3 s ⟨1 + i, by omega⟩ j)) (q (ix3 s ⟨i, by omega⟩ j)) := by
  pointwise [conv4]; rfl

/-- The padded array's row, two rows further on, is a row before. -/
theorem pd_back (s : Fin 4) (i : Fin 2048) (j : Fin 3072) (d e : ℕ) (hd : e + d = 2) :
    pd u (ix3 s ⟨e + i, by omega⟩ j) = back (fun r => u (ix2 r j)) (line4 s i) d := by
  unfold back
  have hm : (line4 s i).val % 2048 = i.val := by show (s.val * 2048 + i.val) % 2048 = _; omega
  rw [hm]
  by_cases h : d ≤ i.val
  · rw [if_pos h]
    refine Eq.trans ?_ ((pd_in u s ⟨i - d, by omega⟩ j).trans ?_)
    · refine congrArg (pd u) (congrArg (fun a => ix3 s a j) (Fin.ext ?_))
      show e + i.val = i.val - d + 2
      omega
    · refine congrArg u (congrArg (fun a => ix2 a j) (Fin.ext ?_))
      show s.val * 2048 + (i.val - d) = s.val * 2048 + i.val - d
      omega
  · rw [if_neg h]
    exact pd_out u s _ (by show e + i.val < 2; omega) j

theorem gate_at (s : Fin 4) (i : Fin 2048) (j : Fin 3072) : gate cw cb u (ix2 (line4 s i) j)
    = gateOf (taps cw j) (cb (ix1 j)) (fun r => u (ix2 r j)) (line4 s i) := by
  unfold gate
  refine (shapeCast_apply _ _ _ (ix3 s i j) ?_).trans ((conv4_at cw cb (pd u) s i j).trans ?_)
  · rw [Shape.rowMajor_val_two, Shape.rowMajor_val_three]
    rfl
  · have h0 : pd u (ix3 s ⟨i, by omega⟩ j) = back (fun r => u (ix2 r j)) (line4 s i) 2 :=
      (congrArg (pd u) (congrArg (fun a => ix3 s a j) (Fin.ext (Nat.zero_add _).symm))).trans (pd_back u s i j 2 0 rfl)
    have h2 : pd u (ix3 s ⟨2 + i, by omega⟩ j) = u (ix2 (line4 s i) j) :=
      (pd_back u s i j 0 2 rfl).trans (if_pos (Nat.zero_le _))
    rw [h0, h2, pd_back u s i j 1 1 rfl]
    rfl

theorem gl_at (r : Fin 8192) (j : Fin 3072) : gl z (ix2 r j) = gelu (z (ix2 r j)) := by
  pointwise [gl]; rfl

/-- The four results. -/
def out0 : FVec Ideal S8192x1024 .bf16 := fun i => normRow (row x (i 0)) (gs g) (i 1)
def out1 : FVec Ideal S8192x3072 .f32 := fun i => pcol x g w (i 1) (i 0)
def out2 : FVec Ideal S8192x3072 .bf16 := fun i =>
  gelu (gateOf (taps cw (i 1)) (cb (ix1 (i 1))) (pcol x g wg (i 1)) (i 0)) * pcol x g wu (i 1) (i 0)

theorem eq0 : truncf .bf16 (hn x g) bitsLt_bf16_f32 = out0 x g := by
  funext i
  obtain ⟨r, k, rfl⟩ : ∃ (r : Fin 8192) (k : Fin 1024), i = ix2 r k := ⟨i 0, i 1, by blk_ext⟩
  exact hn_at x g r k

theorem eq1 : prod x g w = out1 x g w := by
  funext i
  obtain ⟨r, j, rfl⟩ : ∃ (r : Fin 8192) (j : Fin 3072), i = ix2 r j := ⟨i 0, i 1, by blk_ext⟩
  exact prod_at x g w r j

theorem eq2 : truncf .bf16 (mulf (gl (gate cw cb (prod x g wg))) (prod x g wu)) bitsLt_bf16_f32 = out2 x g wg wu cw cb := by
  funext i
  obtain ⟨s, k, j, rfl⟩ : ∃ (s : Fin 4) (k : Fin 2048) (j : Fin 3072), i = ix2 (line4 s k) j :=
    ⟨⟨(i 0).val / 2048, by have := (i 0).isLt; change (i 0).val < 8192 at this; omega⟩, ⟨(i 0).val % 2048, by omega⟩, i 1, by
      blk_ext [line4]⟩
  have h1 : gl (gate cw cb (prod x g wg)) (ix2 (line4 s k) j) = gelu (gateOf (taps cw j) (cb (ix1 j)) (pcol x g wg j) (line4 s k)) := by
    rw [gl_at, gate_at]
    exact congrArg (fun f => gelu (gateOf _ _ f _)) (funext fun r => prod_at x g wg r j)
  exact congrArg₂ HMul.hMul h1 (prod_at x g wu _ j)

variable (m : (ℓ : Loc nD τ sig) → Buf (Elt Ideal) ℓ) (c : Dev nD)

/-- What the call takes. -/
def X : FVec Ideal S8192x1024 .f32 := m ((c.tc : Thread nD τ).loc main_arg0)
def G : FVec Ideal S1024 .f32 := m ((c.tc : Thread nD τ).loc main_arg1)
def Wg : FVec Ideal S1024x3072 .f32 := m ((c.tc : Thread nD τ).loc main_arg2)
def Wu : FVec Ideal S1024x3072 .f32 := m ((c.tc : Thread nD τ).loc main_arg3)
def Cw : FVec Ideal S3x3072 .f32 := m ((c.tc : Thread nD τ).loc main_arg4)
def Cb : FVec Ideal S3072 .f32 := m ((c.tc : Thread nD τ).loc main_arg5)

set_option maxHeartbeats 4000000 in
/-- The last result is the one named above. -/
theorem last_eq : res_main_v56 m c = truncf .bf16 (mulf (gl (gate (Cw m c) (Cb m c) (prod (X m c) (G m c) (Wg m c)))) (prod (X m c) (G m c) (Wu m c))) bitsLt_bf16_f32 := by
  unfold res_main_v56; rfl

set_option maxHeartbeats 4000000 in
/-- The reference's run ends with the four results. -/
theorem result (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = out0 (X m c) (G m c)
      ∧ r.2.mem ((c.tc : Thread nD τ).loc main_v13) = out1 (X m c) (G m c) (Wg m c)
      ∧ r.2.mem ((c.tc : Thread nD τ).loc main_v14) = out1 (X m c) (G m c) (Wu m c)
      ∧ r.2.mem ((c.tc : Thread nD τ).loc main_v56) = out2 (X m c) (G m c) (Wg m c) (Wu m c) (Cw m c) (Cb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (eq0 (X m c) (G m c)), (h c).2.1.trans (eq1 (X m c) (G m c) (Wg m c)),
      (h c).2.2.1.trans (eq1 (X m c) (G m c) (Wu m c)),
      (h c).2.2.2.1.trans ((last_eq m c).trans (eq2 (X m c) (G m c) (Wg m c) (Wu m c) (Cw m c) (Cb m c))), (h c).2.2.2.2⟩)
    (Cert.Reference8Ideal.Value.run (F := Ideal) m ρ)

end Cert.Reference8Ideal.Own

end
-- ==== Proof.FfnIn.lean ====
module

public import proofs.«01_k».proof.Defs
public import proofs.«01_k».proof.Proof.Gen.Kernel8
public import proofs.«01_k».proof.Proof.Gen.Kernel8Ideal.Value
public import proofs.«01_k».proof.Proof.FfnRef
public import Idealize.ShloMosaic.Lib.Pipeline.ValueKit
public import Idealize.ShloMosaic.Lib.Pipeline.ReadBack

/-! The feed-forward block's first layer, in thirty-two tiles of rows: a norm, two products, a convolution along each
sequence that carries the last rows of a tile into the next, and a gate. -/

@[expose] public section

set_option maxRecDepth 16384

noncomputable section

namespace Cert.Kernel8Ideal.Own

open Idealize.ShloMosaic Idealize.ShloMosaic.TcCoe Idealize.SL.Sem Idealize.ShloMosaic.StableHlo
open Cert.Kernel8Ideal Cert.Kernel8Ideal.Gen Cert.Grad
open Cert.Reference8Ideal.Own (gs row wcol taps pcol out0 out1 out2)

/-- The frame of the program read over the reals. -/
theorem frame_ideal : Cert.quiescent_Kernel8Ideal := fun m ρ _ => Cert.Kernel8Ideal.Gen.frame m ρ

set_option backward.isDefEq.respectTransparency false in
set_option smartUnfolding false in
set_option maxHeartbeats 40000000 in
/-- The frame of the program read over the bits: the two programs' texts are one. -/
theorem frame_kernel : Cert.quiescent_Kernel8 := fun m ρ _ =>
  (θ_run (Cert.Kernel8Ideal.defs (F := Bits)) _ _).mono (fun _ h => h) (Cert.Kernel8Ideal.Gen.frame (F := Bits) m ρ)

/-- The reference's frame. -/
theorem frame_reference : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)

/-- Row `p` of tile `t`. -/
def line (t : Fin 32) (p : Fin 256) : Fin 8192 := ⟨t * 256 + p, by omega⟩

/-- Column `j` of slab `q`. -/
def col (q : Fin 4) (j : Fin 768) : Fin 3072 := ⟨q * 768 + j, by omega⟩

/-- The gate's function as the kernel writes it. -/
def gelK (z : EReal) : EReal :=
  Ideal.ofBits .f32 0x3F000000#32 * z * (1 + Ideal.tanh (Ideal.ofBits .f32 0x3F4C422A#32 * (z + Ideal.ofBits .f32 0x3D372713#32 * z * z * z)))

theorem gelK_eq (z : EReal) : gelK z = gelu z := by
  unfold gelK gelu
  rw [mul_comm (Ideal.ofBits .f32 0x3F000000#32) z, mul_assoc z]
  congr 6
  rw [mul_assoc, mul_assoc, mul_assoc]

theorem ge1 : ∀ p : Fin 256, IntOp.cmpi .sge (BitVec.ofNat 32 p.val) 1#32 = if 1 ≤ p.val then 1#1 else 0#1 := by decide +kernel
theorem ge2 : ∀ p : Fin 256, IntOp.cmpi .sge (BitVec.ofNat 32 p.val) 2#32 = if 2 ≤ p.val then 1#1 else 0#1 := by decide +kernel
theorem lt1 : ∀ p : Fin 8, IntOp.cmpi .slt (BitVec.ofNat 32 p.val) 1#32 = if 1 ≤ p.val then 0#1 else 1#1 := by decide +kernel
theorem lt2 : ∀ p : Fin 8, IntOp.cmpi .slt (BitVec.ofNat 32 p.val) 2#32 = if 2 ≤ p.val then 0#1 else 1#1 := by decide +kernel

theorem sel_ge1 (p : Fin 256) (a b : EReal) : Scalar.select (IntOp.cmpi .sge (BitVec.ofNat 32 p.val) 1#32) a b = if 1 ≤ p.val then a else b := by
  rw [ge1]; split <;> rfl
theorem sel_ge2 (p : Fin 256) (a b : EReal) : Scalar.select (IntOp.cmpi .sge (BitVec.ofNat 32 p.val) 2#32) a b = if 2 ≤ p.val then a else b := by
  rw [ge2]; split <;> rfl
theorem sel_lt1 (p : Fin 8) (a b : EReal) : Scalar.select (IntOp.cmpi .slt (BitVec.ofNat 32 p.val) 1#32) a b = if 1 ≤ p.val then b else a := by
  rw [lt1]; split <;> rfl
theorem sel_lt2 (p : Fin 8) (a b : EReal) : Scalar.select (IntOp.cmpi .slt (BitVec.ofNat 32 p.val) 2#32) a b = if 2 ≤ p.val then b else a := by
  rw [lt2]; split <;> rfl

/-- The value `d` rows before row `p` of a tile, from the rows kept of the tile before where it reaches back that far. -/
def tap (f : Fin 256 → EReal) (h : Fin 8 → EReal) (p : Fin 256) (d : ℕ) : EReal :=
  if d ≤ p.val then f ⟨p - d, by omega⟩ else h ⟨(p + 8 - d) % 8, Nat.mod_lt _ (by decide)⟩

section Payloads

variable (x : FVec Ideal S256x1024 .f32) (g : FVec Ideal S1x1024 .f32) (v : FVec Ideal S256x1024 .bf16)
  (s : FVec Ideal S1x1024x768 .bf16) (a : FVec Ideal S4x1024x768 .bf16) (d0 d1 d2 d3 : FVec Ideal S256x768 .f32)
  (u q y : FVec Ideal S256x3072 .f32) (w : FVec Ideal S3x3072 .f32) (b : FVec Ideal S1x3072 .f32) (h e : FVec Ideal S8x3072 .f32)

abbrev tg : Fin 1024 → EReal := fun k => g (ix2 0 k)
abbrev tr (p : Fin 256) : Fin 1024 → EReal := fun k => x (ix2 p k)

theorem pay4_at (p : Fin 256) (k : Fin 1024) : k0_pay4 (F := Ideal) x g (ix2 p k) = normRow (tr x p) (tg g) k := by
  pointwise [k0_pay4]; rfl

/-- Rows times a slab. -/
def mm : FVec Ideal S256x768 .f32 :=
  matmul dot_S256x1024_S1024x768_S256x768_1_0_0_1_n_n none v (shapeCast S1024x768 s shapeCasts_S1x1024x768_S1024x768) (constant S256x768 .f32 0x00000000#32)

theorem mm_at (p : Fin 256) (j : Fin 768) : mm v s (ix2 p j) = ∑ k : Fin 1024, v (ix2 p k) * s (ix3 0 k j) := by
  pointwise [mm]

/-- Four slabs side by side. -/
def cat : FVec Ideal S256x3072 .f32 :=
  concatenate S256x3072 1 [⟨S256x768, d0⟩, ⟨S256x768, d1⟩, ⟨S256x768, d2⟩, ⟨S256x768, d3⟩] concatenates_S256x768_S256x768_S256x768_S256x768_S256x3072_d1

theorem cat0 (p : Fin 256) (j : Fin 768) : cat d0 d1 d2 d3 (ix2 p ⟨j, by omega⟩) = d0 (ix2 p j) := by
  pointwise [cat]

theorem cat1 (p : Fin 256) (j : Fin 768) : cat d0 d1 d2 d3 (ix2 p ⟨768 + j, by omega⟩) = d1 (ix2 p j) := by
  pointwise [cat]

theorem cat2 (p : Fin 256) (j : Fin 768) : cat d0 d1 d2 d3 (ix2 p ⟨1536 + j, by omega⟩) = d2 (ix2 p j) := by
  pointwise [cat]
  refine (dif_neg (by omega)).trans ?_
  refine (dif_neg (by omega)).trans ?_
  refine (dif_pos (by omega)).trans ?_
  blk_ext

theorem cat3 (p : Fin 256) (j : Fin 768) : cat d0 d1 d2 d3 (ix2 p ⟨2304 + j, by omega⟩) = d3 (ix2 p j) := by
  pointwise [cat]
  refine (dif_neg (by omega)).trans ?_
  refine (dif_neg (by omega)).trans ?_
  refine (dif_neg (by omega)).trans ?_
  blk_ext

/-- The slabs as the kernel reads them. -/
def l0 : FVec Ideal S1x1024x768 .bf16 := View.ld (Val := Elt Ideal) (e' := .bf16) a (Rect.unit ![0, 0, 0] ![1, 1024, 768] inb_S4x1024x768_S1x1024x768_0_0_0)
def l1 : FVec Ideal S1x1024x768 .bf16 := View.ld (Val := Elt Ideal) (e' := .bf16) a (Rect.unit ![1, 0, 0] ![1, 1024, 768] inb_S4x1024x768_S1x1024x768_1_0_0)
def l2 : FVec Ideal S1x1024x768 .bf16 := View.ld (Val := Elt Ideal) (e' := .bf16) a (Rect.unit ![2, 0, 0] ![1, 1024, 768] inb_S4x1024x768_S1x1024x768_2_0_0)
def l3 : FVec Ideal S1x1024x768 .bf16 := View.ld (Val := Elt Ideal) (e' := .bf16) a (Rect.unit ![3, 0, 0] ![1, 1024, 768] inb_S4x1024x768_S1x1024x768_3_0_0)

theorem l0_at (k : Fin 1024) (j : Fin 768) : l0 a (ix3 0 k j) = a (ix3 0 k j) := by
  unfold l0
  refine View.ld_unit_apply_of _ _ _ _ _ _ fun i => ?_
  fin_cases i
  · rfl
  · exact (Nat.zero_add _).symm
  · exact (Nat.zero_add _).symm

theorem l1_at (k : Fin 1024) (j : Fin 768) : l1 a (ix3 0 k j) = a (ix3 1 k j) := by
  unfold l1
  refine View.ld_unit_apply_of _ _ _ _ _ _ fun i => ?_
  fin_cases i
  · rfl
  · exact (Nat.zero_add _).symm
  · exact (Nat.zero_add _).symm

theorem l2_at (k : Fin 1024) (j : Fin 768) : l2 a (ix3 0 k j) = a (ix3 2 k j) := by
  unfold l2
  refine View.ld_unit_apply_of _ _ _ _ _ _ fun i => ?_
  fin_cases i
  · rfl
  · exact (Nat.zero_add _).symm
  · exact (Nat.zero_add _).symm

theorem l3_at (k : Fin 1024) (j : Fin 768) : l3 a (ix3 0 k j) = a (ix3 3 k j) := by
  unfold l3
  refine View.ld_unit_apply_of _ _ _ _ _ _ fun i => ?_
  fin_cases i
  · rfl
  · exact (Nat.zero_add _).symm
  · exact (Nat.zero_add _).symm

/-- Rows times all four slabs. -/
def wide : FVec Ideal S256x3072 .f32 := cat (mm v (l0 a)) (mm v (l1 a)) (mm v (l2 a)) (mm v (l3 a))

theorem wide_at (p : Fin 256) (n : Fin 4) (j : Fin 768) : wide v a (ix2 p (col n j)) = ∑ k : Fin 1024, v (ix2 p k) * a (ix3 n k j) := by
  obtain rfl | rfl | rfl | rfl : n = 0 ∨ n = 1 ∨ n = 2 ∨ n = 3 := by omega
  · rw [show col 0 j = ⟨j, by omega⟩ from Fin.ext (by show 0 * 768 + j.val = j.val; omega)]
    exact (cat0 _ _ _ _ p j).trans ((mm_at _ _ p j).trans (Finset.sum_congr rfl fun k _ => congrArg _ (l0_at a k j)))
  · rw [show col 1 j = ⟨768 + j, by omega⟩ from Fin.ext (by show 1 * 768 + j.val = 768 + j.val; omega)]
    exact (cat1 _ _ _ _ p j).trans ((mm_at _ _ p j).trans (Finset.sum_congr rfl fun k _ => congrArg _ (l1_at a k j)))
  · rw [show col 2 j = ⟨1536 + j, by omega⟩ from Fin.ext (by show 2 * 768 + j.val = 1536 + j.val; omega)]
    exact (cat2 _ _ _ _ p j).trans ((mm_at _ _ p j).trans (Finset.sum_congr rfl fun k _ => congrArg _ (l2_at a k j)))
  · rw [show col 3 j = ⟨2304 + j, by omega⟩ from Fin.ext (by show 3 * 768 + j.val = 2304 + j.val; omega)]
    exact (cat3 _ _ _ _ p j).trans ((mm_at _ _ p j).trans (Finset.sum_congr rfl fun k _ => congrArg _ (l3_at a k j)))

theorem pay8_at (p : Fin 256) (j : Fin 3072) : k0_pay8 (F := Ideal) u w (iota Kind.tc S256x1 32 [0] iota_S256x1_d0_w32) b (ix2 p j)
    = b (ix2 0 j) + w (ix2 2 j) * u (ix2 p j)
      + Scalar.select (IntOp.cmpi .sge (BitVec.ofNat 32 p.val) 1#32) (w (ix2 1 j) * u (ix2 ⟨(p.val + 256 - 1) % 256, Nat.mod_lt _ (by decide)⟩ j)) (0 : EReal)
      + Scalar.select (IntOp.cmpi .sge (BitVec.ofNat 32 p.val) 2#32) (w (ix2 0 j) * u (ix2 ⟨(p.val + 256 - 2) % 256, Nat.mod_lt _ (by decide)⟩ j)) (0 : EReal) := by
  pointwise [k0_pay8]

theorem pay9_at (p : Fin 8) (j : Fin 3072) : k0_pay9 (F := Ideal) w h (ix2 p j)
    = Scalar.select (IntOp.cmpi .slt (BitVec.ofNat 32 p.val) 1#32) (w (ix2 1 j) * h (ix2 ⟨(p.val + 8 - 1) % 8, Nat.mod_lt _ (by decide)⟩ j)) (0 : EReal) := by
  pointwise [k0_pay9]

theorem pay10_at (j : Fin 3072) : k0_pay10 (F := Ideal) w (ix2 0 j) = w (ix2 0 j) := by
  pointwise [k0_pay10]

theorem pay1_at (p : Fin 8) (j : Fin 3072) : k0_pay1 (F := Ideal) u (ix2 p j) = u (ix2 ⟨248 + p, by omega⟩ j) := by
  pointwise [k0_pay1]

theorem pay3_at (p : Fin 8) (j : Fin 3072) : k0_pay3 (F := Ideal) (ix2 p j) = (0 : EReal) := by
  pointwise [k0_pay3]

theorem pay2_lt (z : FVec Ideal S1x3072 .f32) (p : Fin 256) (hp : p.val < 8) (j : Fin 3072) :
    k0_pay2 (F := Ideal) y q (iota Kind.tc S8x1 32 [0] iota_S8x1_d0_w32) h e z k0_pay11 (ix2 p j)
      = gelK (q (ix2 p j) + (e (ix2 ⟨p, hp⟩ j) + Scalar.select (IntOp.cmpi .slt (BitVec.ofNat 32 p.val) 2#32)
          (z (ix2 0 j) * h (ix2 ⟨(p.val + 8 - 2) % 8, Nat.mod_lt _ (by decide)⟩ j)) (0 : EReal))) * y (ix2 p j) := by
  pointwise [k0_pay2, k0_pay11]
  simp only [dif_pos hp]
  rfl

theorem pay2_ge (z : FVec Ideal S1x3072 .f32) (p : Fin 256) (hp : ¬p.val < 8) (j : Fin 3072) :
    k0_pay2 (F := Ideal) y q (iota Kind.tc S8x1 32 [0] iota_S8x1_d0_w32) h e z k0_pay11 (ix2 p j) = gelK (q (ix2 p j)) * y (ix2 p j) := by
  have h8 : 8 + (p.val - 8) = p.val := by omega
  pointwise [k0_pay2, k0_pay11]
  simp only [dif_neg hp, h8]
  rfl

/-- A tile's gated rows. -/
theorem act_at (p : Fin 256) (j : Fin 3072) :
    k0_pay2 (F := Ideal) y (k0_pay8 (F := Ideal) u w (iota Kind.tc S256x1 32 [0] iota_S256x1_d0_w32) b) (iota Kind.tc S8x1 32 [0] iota_S8x1_d0_w32) h
        (k0_pay9 (F := Ideal) w h) (k0_pay10 (F := Ideal) w) k0_pay11 (ix2 p j)
      = gelu (conv (fun k => w (ix2 k j)) (b (ix2 0 j)) (u (ix2 p j)) (tap (fun p => u (ix2 p j)) (fun p => h (ix2 p j)) p 1)
          (tap (fun p => u (ix2 p j)) (fun p => h (ix2 p j)) p 2)) * y (ix2 p j) := by
  have back1 : 1 ≤ p.val → (⟨(p.val + 256 - 1) % 256, Nat.mod_lt _ (by decide)⟩ : Fin 256) = ⟨p - 1, by omega⟩ := fun _ => Fin.ext (by dsimp only; omega)
  have back2 : 2 ≤ p.val → (⟨(p.val + 256 - 2) % 256, Nat.mod_lt _ (by decide)⟩ : Fin 256) = ⟨p - 2, by omega⟩ := fun _ => Fin.ext (by dsimp only; omega)
  by_cases hp : p.val < 8
  · rw [pay2_lt _ _ _ _ _ p hp j, pay8_at, pay9_at, pay10_at, gelK_eq]
    refine congrArg (· * y (ix2 p j)) (congrArg gelu ?_)
    rw [sel_ge1, sel_ge2, sel_lt1 ⟨p, hp⟩, sel_lt2 ⟨p, hp⟩]
    dsimp only
    unfold conv tap
    by_cases h1 : 1 ≤ p.val
    · by_cases h2 : 2 ≤ p.val
      · simp only [if_pos h1, if_pos h2, back1 h1, back2 h2, add_zero]
        abel
      · simp only [if_pos h1, if_neg h2, back1 h1, add_zero, zero_add]
        abel
    · have h2 : ¬2 ≤ p.val := by omega
      simp only [if_neg h1, if_neg h2, add_zero]
      abel
  · have h1 : 1 ≤ p.val := by omega
    have h2 : 2 ≤ p.val := by omega
    rw [pay2_ge _ _ _ _ _ p hp j, pay8_at, gelK_eq]
    refine congrArg (· * y (ix2 p j)) (congrArg gelu ?_)
    rw [sel_ge1, sel_ge2]
    unfold conv tap
    simp only [if_pos h1, if_pos h2, back1 h1, back2 h2]
    abel

end Payloads

variable (m : (ℓ : Loc nD τ sig) → Buf (Elt Ideal) ℓ) (c : Dev nD)

/-- What the call takes. -/
def X : FVec Ideal S8192x1024 .f32 := m ((c.tc : Thread nD τ).loc main_arg0)
def G : FVec Ideal S1024 .f32 := m ((c.tc : Thread nD τ).loc main_arg1)
def Wg : FVec Ideal S1024x3072 .f32 := m ((c.tc : Thread nD τ).loc main_arg2)
def Wu : FVec Ideal S1024x3072 .f32 := m ((c.tc : Thread nD τ).loc main_arg3)
def Cw : FVec Ideal S3x3072 .f32 := m ((c.tc : Thread nD τ).loc main_arg4)
def Cb : FVec Ideal S3072 .f32 := m ((c.tc : Thread nD τ).loc main_arg5)

/-- A weight in slabs of columns. -/
def slabs (w : FVec Ideal S1024x3072 .f32) : FVec Ideal S4x1024x768 .bf16 :=
  truncf .bf16 (transpose S4x1024x768 [1, 0, 2] (shapeCast S1024x4x768 w shapeCasts_S1024x3072_S1024x4x768) transposes_S1024x4x768_S4x1024x768_1_0_2) bitsLt_bf16_f32

theorem slabs_at (w : FVec Ideal S1024x3072 .f32) (q : Fin 4) (k : Fin 1024) (j : Fin 768) : slabs w (ix3 q k j) = w (ix2 k (col q j)) := by
  pointwise [slabs, col]

theorem V_x : V m c main_arg0 = X m c := by unfold V; after_results; rfl
theorem V_g : V m c main_v6 = broadcastInDim S1x1024 ![1] bcast_S1024_S1x1024_1 (G m c) := by unfold V; after_results; rfl
theorem V_wg : V m c main_v2 = slabs (Wg m c) := by unfold V; after_results; rfl
theorem V_wu : V m c main_v5 = slabs (Wu m c) := by unfold V; after_results; rfl
theorem V_cw : V m c main_arg4 = Cw m c := by unfold V; after_results; rfl
theorem V_cb : V m c main_v7 = broadcastInDim S1x3072 ![1] bcast_S3072_S1x3072_1 (Cb m c) := by unfold V; after_results; rfl

/-- Every window's block at a tile. -/
theorem idx : ∀ t : Fin cfg0.N, win0_0.index t = ![t.val, 0] ∧ win0_1.index t = ![0, 0] ∧ win0_2.index t = ![0, 0, 0] ∧ win0_3.index t = ![0, 0, 0]
    ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-- A tile's number. -/
def num (t : Fin cfg0.N) : Fin 32 := ⟨t.val, lt_of_lt_of_eq t.isLt N_0⟩

theorem blk_x (t : Fin cfg0.N) (p : Fin 256) (k : Fin 1024) : iblk m c 0 t (ix2 p k) = X m c (ix2 (line (num t) p) k) := by
  have e : iblk m c 0 t (ix2 p k) = V m c main_arg0 (ix2 (line (num t) p) k) := by
    blk_ext [iblk, line, num, idx t]
  rw [e, V_x]

theorem blk_g (t : Fin cfg0.N) (j : Fin 1024) : iblk m c 1 t (ix2 0 j) = G m c (ix1 j) := by
  have e : iblk m c 1 t (ix2 0 j) = V m c main_v6 (ix2 0 j) := by
    blk_ext [iblk, idx t]
  rw [e, V_g]
  pointwise

theorem blk_wg (t : Fin cfg0.N) (q : Fin 4) (k : Fin 1024) (j : Fin 768) : iblk m c 2 t (ix3 q k j) = Wg m c (ix2 k (col q j)) := by
  have e : iblk m c 2 t (ix3 q k j) = V m c main_v2 (ix3 q k j) := by
    blk_ext [iblk, idx t]
  rw [e, V_wg, slabs_at]

theorem blk_wu (t : Fin cfg0.N) (q : Fin 4) (k : Fin 1024) (j : Fin 768) : iblk m c 3 t (ix3 q k j) = Wu m c (ix2 k (col q j)) := by
  have e : iblk m c 3 t (ix3 q k j) = V m c main_v5 (ix3 q k j) := by
    blk_ext [iblk, idx t]
  rw [e, V_wu, slabs_at]

theorem blk_cw (t : Fin cfg0.N) (k : Fin 3) (j : Fin 3072) : iblk m c 4 t (ix2 k j) = Cw m c (ix2 k j) := by
  have e : iblk m c 4 t (ix2 k j) = V m c main_arg4 (ix2 k j) := by
    blk_ext [iblk, idx t]
  rw [e, V_cw]

theorem blk_cb (t : Fin cfg0.N) (j : Fin 3072) : iblk m c 5 t (ix2 0 j) = Cb m c (ix1 j) := by
  have e : iblk m c 5 t (ix2 0 j) = V m c main_v7 (ix2 0 j) := by
    blk_ext [iblk, idx t]
  rw [e, V_cb]
  pointwise

theorem tx_eq (t : Fin cfg0.N) (p : Fin 256) : tr (iblk m c 0 t) p = row (X m c) (line (num t) p) := funext fun k => blk_x m c t p k
theorem tg_eq (t : Fin cfg0.N) : tg (iblk m c 1 t) = gs (G m c) := funext fun j => blk_g m c t j

/-- A tile's normed rows, and their two products. -/
def hnT (t : Fin cfg0.N) : FVec Ideal S256x1024 .bf16 := k0_pay4 (F := Ideal) (iblk m c 0 t) (iblk m c 1 t)
def gpT (t : Fin cfg0.N) : FVec Ideal S256x3072 .f32 := wide (hnT m c t) (iblk m c 2 t)
def upT (t : Fin cfg0.N) : FVec Ideal S256x3072 .f32 := wide (hnT m c t) (iblk m c 3 t)

theorem hnT_at (t : Fin cfg0.N) (p : Fin 256) (k : Fin 1024) : hnT m c t (ix2 p k) = normRow (row (X m c) (line (num t) p)) (gs (G m c)) k := by
  refine (pay4_at _ _ p k).trans ?_
  rw [tx_eq, tg_eq]

theorem gpT_at (t : Fin cfg0.N) (p : Fin 256) (j : Fin 3072) : gpT m c t (ix2 p j) = pcol (X m c) (G m c) (Wg m c) j (line (num t) p) := by
  obtain ⟨n, i, rfl⟩ : ∃ (n : Fin 4) (i : Fin 768), j = col n i := ⟨⟨j / 768, by omega⟩, ⟨j % 768, by omega⟩, Fin.ext (by show j.val = j.val / 768 * 768 + j.val % 768; omega)⟩
  refine (wide_at _ _ p n i).trans (Finset.sum_congr rfl fun k _ => ?_)
  rw [hnT_at, blk_wg]

theorem upT_at (t : Fin cfg0.N) (p : Fin 256) (j : Fin 3072) : upT m c t (ix2 p j) = pcol (X m c) (G m c) (Wu m c) j (line (num t) p) := by
  obtain ⟨n, i, rfl⟩ : ∃ (n : Fin 4) (i : Fin 768), j = col n i := ⟨⟨j / 768, by omega⟩, ⟨j % 768, by omega⟩, Fin.ext (by show j.val = j.val / 768 * 768 + j.val % 768; omega)⟩
  refine (wide_at _ _ p n i).trans (Finset.sum_congr rfl fun k _ => ?_)
  rw [hnT_at, blk_wu]

/-- What a tile leaves. -/
theorem left6 (t : Fin cfg0.N) : (outsAt0 m c t.val t.isLt).1 = hnT m c t := by
  by_cases h0 : t.val % 8 = 0
  · rw [outsAt0_A m c t h0]
    frame_out
    rfl
  · rw [outsAt0_B m c t h0]
    frame_out
    rfl

theorem left7 (t : Fin cfg0.N) : (outsAt0 m c t.val t.isLt).2.1 = gpT m c t := by
  by_cases h0 : t.val % 8 = 0
  · rw [outsAt0_A m c t h0]
    frame_out
    rfl
  · rw [outsAt0_B m c t h0]
    frame_out
    rfl

theorem left8 (t : Fin cfg0.N) : (outsAt0 m c t.val t.isLt).2.2.1 = upT m c t := by
  by_cases h0 : t.val % 8 = 0
  · rw [outsAt0_A m c t h0]
    frame_out
    rfl
  · rw [outsAt0_B m c t h0]
    frame_out
    rfl

/-- The rows a tile keeps for the next. -/
theorem kept (t : Fin cfg0.N) : (outsAt0 m c t.val t.isLt).2.2.2.2 = k0_pay1 (F := Ideal) (gpT m c t) := by
  by_cases h0 : t.val % 8 = 0
  · rw [outsAt0_A m c t h0]
    frame_out
    rfl
  · rw [outsAt0_B m c t h0]
    frame_out
    rfl

/-- A tile's gated rows from the rows kept of the tile before. -/
def actT (t : Fin cfg0.N) (h : FVec Ideal S8x3072 .f32) : FVec Ideal S256x3072 .bf16 :=
  k0_pay2 (F := Ideal) (upT m c t) (k0_pay8 (F := Ideal) (gpT m c t) (iblk m c 4 t) (iota Kind.tc S256x1 32 [0] iota_S256x1_d0_w32) (iblk m c 5 t))
    (iota Kind.tc S8x1 32 [0] iota_S8x1_d0_w32) h (k0_pay9 (F := Ideal) (iblk m c 4 t) h) (k0_pay10 (F := Ideal) (iblk m c 4 t)) k0_pay11

theorem left9_first (t : Fin cfg0.N) (h0 : t.val % 8 = 0) : (outsAt0 m c t.val t.isLt).2.2.2.1 = actT m c t (k0_pay3 (F := Ideal)) := by
  rw [outsAt0_A m c t h0]
  frame_out
  rfl

theorem left9_later (t : Fin cfg0.N) (h0 : ¬t.val % 8 = 0) (t' : Fin cfg0.N) (ht : t'.val = t.val - 1) :
    (outsAt0 m c t.val t.isLt).2.2.2.1 = actT m c t (k0_pay1 (F := Ideal) (gpT m c t')) := by
  have e : t' = ⟨t.val - 1, by omega⟩ := Fin.ext ht
  rw [e, ← kept m c ⟨t.val - 1, by omega⟩, outsAt0_B m c t h0]
  frame_out
  simp only [read_unread_whole]
  rfl

/-- A column's product before the gate. -/
abbrev fcol (j : Fin 3072) : Fin 8192 → EReal := pcol (X m c) (G m c) (Wg m c) j

theorem actT_at (t : Fin cfg0.N) (h : FVec Ideal S8x3072 .f32) (p : Fin 256) (j : Fin 3072) : actT m c t h (ix2 p j)
    = gelu (conv (taps (Cw m c) j) (Cb m c (ix1 j)) (fcol m c j (line (num t) p))
        (tap (fun p => fcol m c j (line (num t) p)) (fun p => h (ix2 p j)) p 1)
        (tap (fun p => fcol m c j (line (num t) p)) (fun p => h (ix2 p j)) p 2)) * pcol (X m c) (G m c) (Wu m c) j (line (num t) p) := by
  refine (act_at (gpT m c t) (upT m c t) (iblk m c 4 t) (iblk m c 5 t) h p j).trans ?_
  have e1 : (fun k => iblk m c 4 t (ix2 k j)) = taps (Cw m c) j := funext fun k => blk_cw m c t k j
  have e2 : (fun p => gpT m c t (ix2 p j)) = fun p => fcol m c j (line (num t) p) := funext fun p => gpT_at m c t p j
  rw [e1, e2, blk_cb, gpT_at, upT_at]

/-- Reaching back within a sequence's first tile. -/
theorem tap_first (f : Fin 8192 → EReal) (t : Fin 32) (h0 : t.val % 8 = 0) (h : Fin 8 → EReal) (hh : ∀ p, h p = 0) (p : Fin 256) (d : ℕ) :
    tap (fun p => f (line t p)) h p d = back f (line t p) d := by
  unfold tap back
  have hm : (line t p).val % 2048 = p.val := by show (t.val * 256 + p.val) % 2048 = _; omega
  rw [hm, hh]
  split
  · exact congrArg f (Fin.ext (by show t.val * 256 + (p.val - d) = t.val * 256 + p.val - d; omega))
  · rfl

/-- Reaching back in a later tile. -/
theorem tap_later (f : Fin 8192 → EReal) (t t' : Fin 32) (h0 : ¬t.val % 8 = 0) (ht : t'.val = t.val - 1) (p : Fin 256) (d : ℕ) (hd : d ≤ 2) :
    tap (fun p => f (line t p)) (fun q => f (line t' ⟨248 + q, by omega⟩)) p d = back f (line t p) d := by
  unfold tap back
  have hm : (line t p).val % 2048 = t.val % 8 * 256 + p.val := by show (t.val * 256 + p.val) % 2048 = _; omega
  rw [hm, if_pos (by omega : d ≤ t.val % 8 * 256 + p.val)]
  split
  · exact congrArg f (Fin.ext (by show t.val * 256 + (p.val - d) = t.val * 256 + p.val - d; omega))
  · exact congrArg f (Fin.ext (by show t'.val * 256 + (248 + (p.val + 8 - d) % 8) = t.val * 256 + p.val - d; omega))

theorem left9_at (t : Fin cfg0.N) (p : Fin 256) (j : Fin 3072) : (outsAt0 m c t.val t.isLt).2.2.2.1 (ix2 p j)
    = out2 (X m c) (G m c) (Wg m c) (Wu m c) (Cw m c) (Cb m c) (ix2 (line (num t) p) j) := by
  change _ = gelu (gateOf (taps (Cw m c) j) (Cb m c (ix1 j)) (fcol m c j) (line (num t) p)) * pcol (X m c) (G m c) (Wu m c) j (line (num t) p)
  unfold gateOf
  by_cases h0 : t.val % 8 = 0
  · rw [left9_first m c t h0, actT_at]
    rw [tap_first (fcol m c j) (num t) h0 (fun p => k0_pay3 (F := Ideal) (ix2 p j)) (fun p => pay3_at p j) p 1,
      tap_first (fcol m c j) (num t) h0 (fun p => k0_pay3 (F := Ideal) (ix2 p j)) (fun p => pay3_at p j) p 2]
  · rw [left9_later m c t h0 ⟨t.val - 1, by omega⟩ rfl, actT_at]
    have e : (fun p => k0_pay1 (F := Ideal) (gpT m c ⟨t.val - 1, by omega⟩) (ix2 p j))
        = fun q : Fin 8 => fcol m c j (line (num ⟨t.val - 1, by omega⟩) ⟨248 + q, by omega⟩) :=
      funext fun q => (pay1_at _ q j).trans (gpT_at m c _ _ j)
    rw [e, tap_later (fcol m c j) (num t) (num ⟨t.val - 1, by omega⟩) h0 rfl p 1 (by omega),
      tap_later (fcol m c j) (num t) (num ⟨t.val - 1, by omega⟩) h0 rfl p 2 (by omega)]

/-- The arrays the call leaves. -/
theorem final6 : (dats m 0 c).arrAt 6 cfg0.N = out0 (X m c) (G m c) := by
  refine (dats m 0 c).arrAt_eq_of_covers 6 _ (by decide +kernel) fun t hf y => ?_
  blk_simp
  rw [after0_6, left6]
  obtain ⟨p, j, rfl⟩ : ∃ (p : Fin 256) (j : Fin 1024), y = ix2 p j := ⟨y 0, y 1, by blk_ext⟩
  refine (hnT_at m c t p j).trans ?_
  change out0 (X m c) (G m c) (ix2 (line (num t) p) j) = _
  blk_ext [line, num, idx t]

theorem final7 : (dats m 0 c).arrAt 7 cfg0.N = out1 (X m c) (G m c) (Wg m c) := by
  refine (dats m 0 c).arrAt_eq_of_covers 7 _ (by decide +kernel) fun t hf y => ?_
  blk_simp
  rw [after0_7, left7]
  obtain ⟨p, j, rfl⟩ : ∃ (p : Fin 256) (j : Fin 3072), y = ix2 p j := ⟨y 0, y 1, by blk_ext⟩
  refine (gpT_at m c t p j).trans ?_
  change out1 (X m c) (G m c) (Wg m c) (ix2 (line (num t) p) j) = _
  blk_ext [line, num, idx t]

theorem final8 : (dats m 0 c).arrAt 8 cfg0.N = out1 (X m c) (G m c) (Wu m c) := by
  refine (dats m 0 c).arrAt_eq_of_covers 8 _ (by decide +kernel) fun t hf y => ?_
  blk_simp
  rw [after0_8, left8]
  obtain ⟨p, j, rfl⟩ : ∃ (p : Fin 256) (j : Fin 3072), y = ix2 p j := ⟨y 0, y 1, by blk_ext⟩
  refine (upT_at m c t p j).trans ?_
  change out1 (X m c) (G m c) (Wu m c) (ix2 (line (num t) p) j) = _
  blk_ext [line, num, idx t]

theorem final9 : (dats m 0 c).arrAt 9 cfg0.N = out2 (X m c) (G m c) (Wg m c) (Wu m c) (Cw m c) (Cb m c) := by
  refine (dats m 0 c).arrAt_eq_of_covers 9 _ (by decide +kernel) fun t hf y => ?_
  blk_simp
  rw [after0_9]
  obtain ⟨p, j, rfl⟩ : ∃ (p : Fin 256) (j : Fin 3072), y = ix2 p j := ⟨y 0, y 1, by blk_ext⟩
  refine (left9_at m c t p j).trans ?_
  blk_ext [line, num, idx t]

/-- The kernel and the reference agree. -/
theorem algebraic : Cert.algebraic_Kernel8Ideal_Reference8Ideal := by
  intro m g m' g' _ hag
  refine ⟨fun c => out0 (X m c) (G m c), fun c => out1 (X m c) (G m c) (Wg m c), fun c => out1 (X m c) (G m c) (Wu m c),
    fun c => out2 (X m c) (G m c) (Wg m c) (Wu m c) (Cw m c) (Cb m c), ?_, ?_⟩
  · exact (θ_run defs _ _).mono (fun r h c => ⟨(h c).1.trans (final6 m c), (h c).2.1.trans (final7 m c), (h c).2.2.1.trans (final8 m c),
        (h c).2.2.2.1.trans (final9 m c), (h c).2.2.2.2⟩)
      (Cert.Kernel8Ideal.Value.run_blocks (F := Ideal) m g)
  · refine (θ_run Cert.Reference8Ideal.defs _ _).mono (fun r h c => ?_) (Cert.Reference8Ideal.Own.result m' g')
    obtain ⟨h0, h1, h2, h3, h4, h5⟩ := hag c
    have a0 : Cert.Reference8Ideal.Own.X m' c = X m c := h0
    have a1 : Cert.Reference8Ideal.Own.G m' c = G m c := h1
    have a2 : Cert.Reference8Ideal.Own.Wg m' c = Wg m c := h2
    have a3 : Cert.Reference8Ideal.Own.Wu m' c = Wu m c := h3
    have a4 : Cert.Reference8Ideal.Own.Cw m' c = Cw m c := h4
    have a5 : Cert.Reference8Ideal.Own.Cb m' c = Cb m c := h5
    have e := h c
    rw [a0, a1, a2, a3, a4, a5] at e
    exact e

end Cert.Kernel8Ideal.Own

end
-- ==== Proof.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Kernel2Ideal.Value
public import proofs.«01_k».proof.Proof.Gen.Kernel2Ideal.Frame
public import proofs.«01_k».proof.Proof.Gen.Reference2Ideal.Run
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.End
public import proofs.«01_k».proof.Proof.Down
public import proofs.«01_k».proof.Proof.Gate
public import proofs.«01_k».proof.Proof.Loss
public import proofs.«01_k».proof.Proof.InDx
public import proofs.«01_k».proof.Proof.InProj
public import proofs.«01_k».proof.Proof.Merge
public import proofs.«01_k».proof.Proof.FfnIn
public import proofs.«01_k».proof.Proof.Gen.Kernel5
public import proofs.«01_k».proof.Proof.Gen.Kernel5Ideal
public import proofs.«01_k».proof.Proof.Gen.Kernel5Ideal.Value
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Kernel7Ideal.Frame
public import proofs.«01_k».proof.Proof.Gen.Reference7Ideal
public import proofs.«01_k».proof.Proof.Gen.Reference7Ideal.Run

/-! The claims, of each of the seven calls: three frames, the two readings of one text, and the equality of the results. -/

@[expose] public section

noncomputable section

namespace Cert.Proof

open Idealize.ShloMosaic Idealize.ShloMosaic.TcCoe Idealize.SL.Sem Idealize.ShloMosaic.StableHlo
open Cert.KernelIdeal.Val (r15 r16 r17 r18 r19 r20 r21 r22 r23 Same)

/-- From arguments that agree, the kernel and the reference end with the same results. -/
theorem algebraic : Cert.algebraic_KernelIdeal_ReferenceIdeal := by
  intro m g m' g' _ hag
  have hs : ∀ c, Same m c (launchContents m' c) := fun c => by
    obtain ⟨h0, h1, h2, h3, h4, h5, h6, h7, h8, h9, h10⟩ := hag c
    exact ⟨h0, h1, h2, h3, h4, h5, h6, h7, h8, h9, h10⟩
  have hx : ∀ c, Cert.KernelIdeal.Val.X m c = Cert.ReferenceIdeal.Val.X (launchContents m' c) :=
    fun c => (hs c).inputs
  refine ⟨fun c => r15 (Cert.KernelIdeal.Val.X m c), fun c => r16 (Cert.KernelIdeal.Val.X m c),
    fun c => r17 (Cert.KernelIdeal.Val.X m c), fun c => r18 (Cert.KernelIdeal.Val.X m c),
    fun c => r19 (Cert.KernelIdeal.Val.X m c), fun c => r20 (Cert.KernelIdeal.Val.X m c),
    fun c => r21 (Cert.KernelIdeal.Val.X m c), fun c => r22 (Cert.KernelIdeal.Val.X m c),
    fun c => r23 (Cert.KernelIdeal.Val.X m c), Cert.KernelIdeal.Val.results m g, ?_⟩
  refine (θ_run Cert.ReferenceIdeal.defs _ _).mono (fun r h c => ?_) (Cert.ReferenceIdeal.Val.results m' g')
  have := h c
  rw [← hx c] at this
  exact this

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.KernelIdeal.Own.frame_kernel, Cert.KernelIdeal.Own.frame_ideal, Cert.ReferenceIdeal.Val.frame_reference,
    Cert.Kernel2Ideal.Own.frame_kernel, Cert.Kernel2Ideal.Own.frame_ideal, Cert.Kernel2Ideal.Own.frame_reference,
    Cert.Kernel3Ideal.Own.frame_kernel, Cert.Kernel3Ideal.Own.frame_ideal, Cert.Kernel3Ideal.Own.frame_reference,
    Cert.Kernel4Ideal.Own.frame_kernel, Cert.Kernel4Ideal.Own.frame_ideal, Cert.Kernel4Ideal.Own.frame_reference,
    Cert.Kernel5Ideal.Own.frame_kernel, Cert.Kernel5Ideal.Own.frame_ideal, Cert.Kernel5Ideal.Own.frame_reference,
    Cert.Kernel6Ideal.Own.frame_kernel, Cert.Kernel6Ideal.Own.frame_ideal, Cert.Kernel6Ideal.Own.frame_reference,
    Cert.Kernel7Ideal.Own.frame_kernel, Cert.Kernel7Ideal.Own.frame_ideal, Cert.Kernel7Ideal.Own.frame_reference,
    Cert.Kernel8Ideal.Own.frame_kernel, Cert.Kernel8Ideal.Own.frame_ideal, Cert.Kernel8Ideal.Own.frame_reference,
    trivial, algebraic, trivial, Cert.Kernel2Ideal.Own.algebraic, trivial, Cert.Kernel3Ideal.Own.algebraic,
    trivial, Cert.Kernel4Ideal.Own.algebraic, trivial, Cert.Kernel5Ideal.Own.algebraic, trivial, Cert.Kernel6Ideal.Own.algebraic,
    trivial, Cert.Kernel7Ideal.Own.algebraic, trivial, Cert.Kernel8Ideal.Own.algebraic⟩

end Cert.Proof

end
